-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_finite_table [hPre_finite_table : Cert.Pre_finite_table.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_finite_table.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_finite_table [hPre_finite_table : Cert.Pre_finite_table.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_finite_table.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Kernel27Ideal_pre_finite_table [hKernel27Ideal : Cert.Kernel27Ideal.Facts] [hPre_finite_table : Cert.Pre_finite_table.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_finite_table m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Reference27Ideal_pre_finite_table [hReference27Ideal : Cert.Reference27Ideal.Facts] [hPre_finite_table : Cert.Pre_finite_table.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_finite_table m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16384, 8192]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v2_0) i = v0 c i)
          ∧ (∀ i : (⟨2, ![16384, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v2_1) i = v1 c i)
          ∧ (∀ i : (⟨2, ![16384, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v2_2) i = v2 c i)
          ∧ (∀ i : (⟨2, ![16384, 2048]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v2_3) i = v3 c i)
          ∧ (∀ i : (⟨2, ![16384, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v2_4) i = v4 c i)
          ∧ (∀ i : (⟨2, ![1, 2048]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 i = 1#1 → r.2.mem ((c.tc : Thread Cert.KernelIdeal.nD Cert.KernelIdeal.τ).loc Cert.KernelIdeal.main_v2_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16384, 8192]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v39) i = v0 c i)
          ∧ (∀ i : (⟨2, ![16384, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v40) i = v1 c i)
          ∧ (∀ i : (⟨2, ![16384, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v41) i = v2 c i)
          ∧ (∀ i : (⟨2, ![16384, 2048]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v37) i = v3 c i)
          ∧ (∀ i : (⟨2, ![16384, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v42) i = v4 c i)
          ∧ (∀ i : (⟨2, ![1, 2048]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 i = 1#1 → r.2.mem ((c.tc : Thread Cert.ReferenceIdeal.nD Cert.ReferenceIdeal.τ).loc Cert.ReferenceIdeal.main_v34) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v20) = v0 c
          ∧ r.2.mem ((c.tc : Thread Cert.Reference14Ideal.nD Cert.Reference14Ideal.τ).loc Cert.Reference14Ideal.main_v13) = v1 c
          ∧ r.2.mem ((c.tc : Thread Cert.Reference14Ideal.nD Cert.Reference14Ideal.τ).loc Cert.Reference14Ideal.main_v16) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v26) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal_on_loss_and_weights [hKernel24Ideal : Cert.Kernel24Ideal.Facts] [hReference24Ideal : Cert.Reference24Ideal.Facts] [hOn_loss_and_weights : Cert.On_loss_and_weights.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)) (v4 : (c : Dev Cert.Kernel24Ideal.nD) → Buf (Elt Ideal) ((c.tc : Thread Cert.Kernel24Ideal.nD Cert.Kernel24Ideal.τ).loc Cert.Kernel24Ideal.main_v0_4)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          (∀ i : (⟨2, ![16384, 1024]⟩ : Shape).Idx, (Cert.On_loss_and_weights.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5))).1 i = 1#1 → r.2.mem ((c.tc : Thread Cert.Kernel24Ideal.nD Cert.Kernel24Ideal.τ).loc Cert.Kernel24Ideal.main_v0_0) i = v0 c i)
          ∧ (∀ i : (⟨2, ![16384, 1024]⟩ : Shape).Idx, (Cert.On_loss_and_weights.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5))).2.1 i = 1#1 → r.2.mem ((c.tc : Thread Cert.Kernel24Ideal.nD Cert.Kernel24Ideal.τ).loc Cert.Kernel24Ideal.main_v0_1) i = v1 c i)
          ∧ (∀ i : (⟨2, ![1, 1024]⟩ : Shape).Idx, (Cert.On_loss_and_weights.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5))).2.2.1 i = 1#1 → r.2.mem ((c.tc : Thread Cert.Kernel24Ideal.nD Cert.Kernel24Ideal.τ).loc Cert.Kernel24Ideal.main_v0_2) i = v2 c i)
          ∧ (∀ i : (⟨2, ![1, 1024]⟩ : Shape).Idx, (Cert.On_loss_and_weights.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5))).2.2.2.1 i = 1#1 → r.2.mem ((c.tc : Thread Cert.Kernel24Ideal.nD Cert.Kernel24Ideal.τ).loc Cert.Kernel24Ideal.main_v0_3) i = v3 c i)
          ∧ (∀ i : (⟨2, ![1, 1]⟩ : Shape).Idx, (Cert.On_loss_and_weights.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5))).2.2.2.2 i = 1#1 → r.2.mem ((c.tc : Thread Cert.Kernel24Ideal.nD Cert.Kernel24Ideal.τ).loc Cert.Kernel24Ideal.main_v0_4) i = v4 c i)
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          (∀ i : (⟨2, ![16384, 1024]⟩ : Shape).Idx, (Cert.On_loss_and_weights.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5))).1 i = 1#1 → r.2.mem ((c.tc : Thread Cert.Reference24Ideal.nD Cert.Reference24Ideal.τ).loc Cert.Reference24Ideal.main_v60) i = v0 c i)
          ∧ (∀ i : (⟨2, ![16384, 1024]⟩ : Shape).Idx, (Cert.On_loss_and_weights.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5))).2.1 i = 1#1 → r.2.mem ((c.tc : Thread Cert.Reference24Ideal.nD Cert.Reference24Ideal.τ).loc Cert.Reference24Ideal.main_v61) i = v1 c i)
          ∧ (∀ i : (⟨2, ![1, 1024]⟩ : Shape).Idx, (Cert.On_loss_and_weights.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5))).2.2.1 i = 1#1 → r.2.mem ((c.tc : Thread Cert.Reference24Ideal.nD Cert.Reference24Ideal.τ).loc Cert.Reference24Ideal.main_v36) i = v2 c i)
          ∧ (∀ i : (⟨2, ![1, 1024]⟩ : Shape).Idx, (Cert.On_loss_and_weights.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5))).2.2.2.1 i = 1#1 → r.2.mem ((c.tc : Thread Cert.Reference24Ideal.nD Cert.Reference24Ideal.τ).loc Cert.Reference24Ideal.main_v33) i = v3 c i)
          ∧ (∀ i : (⟨2, ![1, 1]⟩ : Shape).Idx, (Cert.On_loss_and_weights.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4)) (m ((c.tc : Thread Cert.Kernel24Ideal.nD Cert.Kernel24Ideal.τ).loc Cert.Kernel24Ideal.main_arg5))).2.2.2.2 i = 1#1 → r.2.mem ((c.tc : Thread Cert.Reference24Ideal.nD Cert.Reference24Ideal.τ).loc Cert.Reference24Ideal.main_v64) i = v4 c i)
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal_on_weights_alone [hKernel25Ideal : Cert.Kernel25Ideal.Facts] [hReference25Ideal : Cert.Reference25Ideal.Facts] [hOn_weights_alone : Cert.On_weights_alone.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          (∀ i : (⟨2, ![16384, 1024]⟩ : Shape).Idx, (Cert.On_weights_alone.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).1 i = 1#1 → r.2.mem ((c.tc : Thread Cert.Kernel25Ideal.nD Cert.Kernel25Ideal.τ).loc Cert.Kernel25Ideal.main_v0_0) i = v0 c i)
          ∧ (∀ i : (⟨2, ![16384, 1024]⟩ : Shape).Idx, (Cert.On_weights_alone.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).2.1 i = 1#1 → r.2.mem ((c.tc : Thread Cert.Kernel25Ideal.nD Cert.Kernel25Ideal.τ).loc Cert.Kernel25Ideal.main_v0_1) i = v1 c i)
          ∧ (∀ i : (⟨2, ![1, 1024]⟩ : Shape).Idx, (Cert.On_weights_alone.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).2.2.1 i = 1#1 → r.2.mem ((c.tc : Thread Cert.Kernel25Ideal.nD Cert.Kernel25Ideal.τ).loc Cert.Kernel25Ideal.main_v0_2) i = v2 c i)
          ∧ (∀ i : (⟨2, ![1, 1024]⟩ : Shape).Idx, (Cert.On_weights_alone.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).2.2.2 i = 1#1 → r.2.mem ((c.tc : Thread Cert.Kernel25Ideal.nD Cert.Kernel25Ideal.τ).loc Cert.Kernel25Ideal.main_v0_3) i = v3 c i)
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          (∀ i : (⟨2, ![16384, 1024]⟩ : Shape).Idx, (Cert.On_weights_alone.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).1 i = 1#1 → r.2.mem ((c.tc : Thread Cert.Reference25Ideal.nD Cert.Reference25Ideal.τ).loc Cert.Reference25Ideal.main_v65) i = v0 c i)
          ∧ (∀ i : (⟨2, ![16384, 1024]⟩ : Shape).Idx, (Cert.On_weights_alone.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).2.1 i = 1#1 → r.2.mem ((c.tc : Thread Cert.Reference25Ideal.nD Cert.Reference25Ideal.τ).loc Cert.Reference25Ideal.main_v66) i = v1 c i)
          ∧ (∀ i : (⟨2, ![1, 1024]⟩ : Shape).Idx, (Cert.On_weights_alone.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).2.2.1 i = 1#1 → r.2.mem ((c.tc : Thread Cert.Reference25Ideal.nD Cert.Reference25Ideal.τ).loc Cert.Reference25Ideal.main_v41) i = v2 c i)
          ∧ (∀ i : (⟨2, ![1, 1024]⟩ : Shape).Idx, (Cert.On_weights_alone.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) (m ((c.tc : Thread Cert.Kernel25Ideal.nD Cert.Kernel25Ideal.τ).loc Cert.Kernel25Ideal.main_arg4)) (m ((c.tc : Thread Cert.Kernel25Ideal.nD Cert.Kernel25Ideal.τ).loc Cert.Kernel25Ideal.main_arg5))).2.2.2 i = 1#1 → r.2.mem ((c.tc : Thread Cert.Reference25Ideal.nD Cert.Reference25Ideal.τ).loc Cert.Reference25Ideal.main_v38) i = v3 c i)
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal_pre_finite_table [hKernel27Ideal : Cert.Kernel27Ideal.Facts] [hReference27Ideal : Cert.Reference27Ideal.Facts] [hPre_finite_table : Cert.Pre_finite_table.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_finite_table m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite_table : Cert.Pre_finite_table.Facts) (hOn_gate_columns : Cert.On_gate_columns.Facts) (hOn_loss_and_weights : Cert.On_loss_and_weights.Facts) (hOn_weights_alone : Cert.On_weights_alone.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Kernel27Ideal_pre_finite_table (hKernel27Ideal := hKernel27Ideal) (hPre_finite_table := hPre_finite_table)
    ∧ quiescent_Reference27Ideal (hReference27Ideal := hReference27Ideal)
    ∧ quiescent_Reference27Ideal_pre_finite_table (hReference27Ideal := hReference27Ideal) (hPre_finite_table := hPre_finite_table)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_on_loss_and_weights (hKernel24Ideal := hKernel24Ideal) (hReference24Ideal := hReference24Ideal) (hOn_loss_and_weights := hOn_loss_and_weights)
    ∧ preserves_Kernel25_Kernel25Ideal
    ∧ algebraic_Kernel25Ideal_Reference25Ideal_on_weights_alone (hKernel25Ideal := hKernel25Ideal) (hReference25Ideal := hReference25Ideal) (hOn_weights_alone := hOn_weights_alone)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal_pre_finite_table (hKernel27Ideal := hKernel27Ideal) (hReference27Ideal := hReference27Ideal) (hPre_finite_table := hPre_finite_table)
-- ==== On_gate_columns.lean ====
abbrev S16384x2048 : Shape := ⟨2, ![16384, 2048]⟩
abbrev S16384x1024 : Shape := ⟨2, ![16384, 1024]⟩
abbrev S16384x8192 : Shape := ⟨2, ![16384, 8192]⟩
abbrev S1x2048 : Shape := ⟨2, ![1, 2048]⟩
abbrev S2048x1024 : Shape := ⟨2, ![2048, 1024]⟩
abbrev S1024x1024 : Shape := ⟨2, ![1024, 1024]⟩
abbrev S_ : Shape := ⟨0, ![]⟩

class Facts : Prop where
  bcast_S_S16384x8192 : S_.BroadcastsInDim S16384x8192 (![] : Fin 0 → Fin S16384x8192.rank)
  bcast_S_S16384x1024 : S_.BroadcastsInDim S16384x1024 (![] : Fin 0 → Fin S16384x1024.rank)
  bcast_S_S16384x2048 : S_.BroadcastsInDim S16384x2048 (![] : Fin 0 → Fin S16384x2048.rank)
  bcast_S_S1x2048 : S_.BroadcastsInDim S1x2048 (![] : Fin 0 → Fin S1x2048.rank)

variable [Facts]

def fn {F : FTy → Type} [FloatOps F] (main_arg0 : FVec F S16384x2048 .bf16) (main_arg1 : FVec F S16384x1024 .bf16) (main_arg2 : FVec F S16384x8192 .f32) (main_arg3 : FVec F S1x2048 .f32) (main_arg4 : FVec F S2048x1024 .bf16) (main_arg5 : FVec F S1024x1024 .bf16) (main_arg6 : FVec F S1024x1024 .bf16) (main_arg7 : FVec F S16384x1024 .bf16) : IVec S16384x8192 1 × IVec S16384x1024 1 × IVec S16384x1024 1 × IVec S16384x2048 1 × IVec S16384x1024 1 × IVec S1x2048 1 :=
  let main_v0 : IVec S16384x8192 32 := iotaInDim S16384x8192 32 1
  let main_c : IVec S_ 32 := constantI S_ 32 6144#32
  let main_v1 : IVec S16384x8192 32 := broadcastInDim S16384x8192 ![] bcast_S_S16384x8192 main_c
  let main_v2 : IVec S16384x8192 1 := cmpi .sge main_v0 main_v1
  let main_c_0 : IVec S_ 1 := constantI S_ 1 1#1
  let main_v3 : IVec S16384x1024 1 := broadcastInDim S16384x1024 ![] bcast_S_S16384x1024 main_c_0
  let main_c_1 : IVec S_ 1 := constantI S_ 1 1#1
  let main_v4 : IVec S16384x1024 1 := broadcastInDim S16384x1024 ![] bcast_S_S16384x1024 main_c_1
  let main_c_2 : IVec S_ 1 := constantI S_ 1 1#1
  let main_v5 : IVec S16384x2048 1 := broadcastInDim S16384x2048 ![] bcast_S_S16384x2048 main_c_2
  let main_c_3 : IVec S_ 1 := constantI S_ 1 1#1
  let main_v6 : IVec S16384x1024 1 := broadcastInDim S16384x1024 ![] bcast_S_S16384x1024 main_c_3
  let main_c_4 : IVec S_ 1 := constantI S_ 1 1#1
  let main_v7 : IVec S1x2048 1 := broadcastInDim S1x2048 ![] bcast_S_S1x2048 main_c_4
  (main_v2, main_v3, main_v4, main_v5, main_v6, main_v7)
-- ==== On_loss_and_weights.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S1x1 : Shape := ⟨2, ![1, 1]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)
  bcast_S_S1x1 : S_.BroadcastsInDim S1x1 (![] : Fin 0 → Fin S1x1.rank)

variable [Facts]

def fn {F : FTy → Type} [FloatOps F] (main_arg0 : FVec F S16384x2816 .bf16) (main_arg1 : FVec F S2816x1024 .bf16) (main_arg2 : FVec F S16384x1024 .f32) (main_arg3 : FVec F S16384x1024 .f32) (main_arg4 : FVec F S1x1024 .f32) (main_arg5 : FVec F S1x1024 .f32) : IVec S16384x1024 1 × IVec S16384x1024 1 × IVec S1x1024 1 × IVec S1x1024 1 × IVec S1x1 1 :=
  let main_c : IVec S_ 1 := constantI S_ 1 0#1
  let main_v0 : IVec S16384x1024 1 := broadcastInDim S16384x1024 ![] bcast_S_S16384x1024 main_c
  let main_c_0 : IVec S_ 1 := constantI S_ 1 0#1
  let main_v1 : IVec S16384x1024 1 := broadcastInDim S16384x1024 ![] bcast_S_S16384x1024 main_c_0
  let main_c_1 : IVec S_ 1 := constantI S_ 1 1#1
  let main_v2 : IVec S1x1024 1 := broadcastInDim S1x1024 ![] bcast_S_S1x1024 main_c_1
  let main_c_2 : IVec S_ 1 := constantI S_ 1 1#1
  let main_v3 : IVec S1x1024 1 := broadcastInDim S1x1024 ![] bcast_S_S1x1024 main_c_2
  let main_c_3 : IVec S_ 1 := constantI S_ 1 1#1
  let main_v4 : IVec S1x1 1 := broadcastInDim S1x1 ![] bcast_S_S1x1 main_c_3
  (main_v0, main_v1, main_v2, main_v3, main_v4)
-- ==== On_weights_alone.lean ====
abbrev S2x16384x2816 : Shape := ⟨3, ![2, 16384, 2816]⟩
abbrev S1024x5632 : Shape := ⟨2, ![1024, 5632]⟩
abbrev S16384x1024 : Shape := ⟨2, ![16384, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn {F : FTy → Type} [FloatOps F] (main_arg0 : FVec F S2x16384x2816 .bf16) (main_arg1 : FVec F S1024x5632 .bf16) (main_arg2 : FVec F S16384x1024 .f32) (main_arg3 : FVec F S16384x1024 .f32) (main_arg4 : FVec F S1x1024 .f32) (main_arg5 : FVec F S1x1024 .f32) : IVec S16384x1024 1 × IVec S16384x1024 1 × IVec S1x1024 1 × IVec S1x1024 1 :=
  let main_c : IVec S_ 1 := constantI S_ 1 0#1
  let main_v0 : IVec S16384x1024 1 := broadcastInDim S16384x1024 ![] bcast_S_S16384x1024 main_c
  let main_c_0 : IVec S_ 1 := constantI S_ 1 0#1
  let main_v1 : IVec S16384x1024 1 := broadcastInDim S16384x1024 ![] bcast_S_S16384x1024 main_c_0
  let main_c_1 : IVec S_ 1 := constantI S_ 1 1#1
  let main_v2 : IVec S1x1024 1 := broadcastInDim S1x1024 ![] bcast_S_S1x1024 main_c_1
  let main_c_2 : IVec S_ 1 := constantI S_ 1 1#1
  let main_v3 : IVec S1x1024 1 := broadcastInDim S1x1024 ![] bcast_S_S1x1024 main_c_2
  (main_v0, main_v1, main_v2, main_v3)
-- ==== Pre_finite_table.lean ====
abbrev S16x32 : Shape := ⟨2, ![16, 32]⟩
abbrev S32x32768 : Shape := ⟨2, ![32, 32768]⟩
abbrev S1x32768 : Shape := ⟨2, ![1, 32768]⟩
abbrev S_ : Shape := ⟨0, ![]⟩

class Facts : Prop where
  bcast_S_S16x32 : S_.BroadcastsInDim S16x32 (![] : Fin 0 → Fin S16x32.rank)

variable [Facts]

def fn {F : FTy → Type} [FloatOps F] (main_arg0 : FVec F S16x32 .f32) (main_arg1 : FVec F S32x32768 .bf16) (main_arg2 : FVec F S1x32768 .f32) : IVec S16x32 1 :=
  let main_v0 : FVec F S16x32 .f32 := Host.absf main_arg0
  let main_cst : FVec F S_ .f32 := constant S_ .f32 0x7F800000#32
  let main_v1 : FVec F S16x32 .f32 := broadcastInDim S16x32 ![] bcast_S_S16x32 main_cst
  let main_v2 : IVec S16x32 1 := cmpf .olt main_v0 main_v1
  main_v2
-- ==== Kernel.lean ====
abbrev S16384x2048 : Shape := ⟨2, ![16384, 2048]⟩
abbrev S16384x1024 : Shape := ⟨2, ![16384, 1024]⟩
abbrev S16384x8192 : Shape := ⟨2, ![16384, 8192]⟩
abbrev S1x2048 : Shape := ⟨2, ![1, 2048]⟩
abbrev S2048x1024 : Shape := ⟨2, ![2048, 1024]⟩
abbrev S1024x1024 : Shape := ⟨2, ![1024, 1024]⟩
abbrev S512x1024 : Shape := ⟨2, ![512, 1024]⟩
abbrev S512x2048 : Shape := ⟨2, ![512, 2048]⟩
abbrev S1x1024 : Shape := ⟨2, ![1, 1024]⟩
abbrev S1024 : Shape := ⟨1, ![1024]⟩

abbrev nBuf : Space → Nat
  | .hbm => 16
  | .vmem => 25
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x8192, .f32⟩
  | .hbm, ⟨3, _⟩ => ⟨S1x2048, .f32⟩
  | .hbm, ⟨4, _⟩ => ⟨S2048x1024, .bf16⟩
  | .hbm, ⟨5, _⟩ => ⟨S1024x1024, .bf16⟩
  | .hbm, ⟨6, _⟩ => ⟨S1024x1024, .bf16⟩
  | .hbm, ⟨7, _⟩ => ⟨S16384x1024, .bf16⟩
  | .hbm, ⟨8, _⟩ => ⟨S16384x1024, .f32⟩
  | .hbm, ⟨9, _⟩ => ⟨S16384x1024, .f32⟩
  | .hbm, ⟨10, _⟩ => ⟨S16384x8192, .bf16⟩
  | .hbm, ⟨11, _⟩ => ⟨S16384x1024, .bf16⟩
  | .hbm, ⟨12, _⟩ => ⟨S16384x1024, .bf16⟩
  | .hbm, ⟨13, _⟩ => ⟨S16384x2048, .f32⟩
  | .hbm, ⟨14, _⟩ => ⟨S16384x1024, .bf16⟩
  | .hbm, ⟨15, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S2048x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x2048, .f32⟩
  | .local _ .vmem, ⟨14, _⟩ => ⟨S512x2048, .bf16⟩
  | .local _ .vmem, ⟨15, _⟩ => ⟨S512x2048, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x2048, .f32⟩
  | .local _ .vmem, ⟨21, _⟩ => ⟨S512x2048, .f32⟩
  | .local _ .vmem, ⟨22, _⟩ => ⟨S512x1024, .bf16⟩
  | .local _ .vmem, ⟨23, _⟩ => ⟨S512x1024, .bf16⟩
  | .local _ .vmem, ⟨24, _⟩ => ⟨S1x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S16384x2048 : Shape := ⟨2, ![16384, 2048]⟩
abbrev S16384x1024 : Shape := ⟨2, ![16384, 1024]⟩
abbrev S16384x8192 : Shape := ⟨2, ![16384, 8192]⟩
abbrev S1x2048 : Shape := ⟨2, ![1, 2048]⟩
abbrev S2048x1024 : Shape := ⟨2, ![2048, 1024]⟩
abbrev S1024x1024 : Shape := ⟨2, ![1024, 1024]⟩
abbrev S_ : Shape := ⟨0, ![]⟩
abbrev S2048 : Shape := ⟨1, ![2048]⟩
abbrev S16384x6144 : Shape := ⟨2, ![16384, 6144]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x8192, .f32⟩
  | .hbm, ⟨3, _⟩ => ⟨S1x2048, .f32⟩
  | .hbm, ⟨4, _⟩ => ⟨S2048x1024, .bf16⟩
  | .hbm, ⟨5, _⟩ => ⟨S1024x1024, .bf16⟩
  | .hbm, ⟨6, _⟩ => ⟨S1024x1024, .bf16⟩
  | .hbm, ⟨7, _⟩ => ⟨S16384x1024, .bf16⟩
  | .hbm, ⟨8, _⟩ => ⟨S16384x2048, .f32⟩
  | .hbm, ⟨9, _⟩ => ⟨S16384x1024, .f32⟩
  | .hbm, ⟨10, _⟩ => ⟨S2048x1024, .f32⟩
  | .hbm, ⟨11, _⟩ => ⟨S1024x1024, .f32⟩
  | .hbm, ⟨12, _⟩ => ⟨S1024x1024, .f32⟩
  | .hbm, ⟨13, _⟩ => ⟨S16384x1024, .f32⟩
  | .hbm, ⟨14, _⟩ => ⟨S16384x2048, .f32⟩
  | .hbm, ⟨15, _⟩ => ⟨S16384x1024, .f32⟩
  | .hbm, ⟨16, _⟩ => ⟨S16384x1024, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S16384x6144, .f32⟩
  | .hbm, ⟨49, _⟩ => ⟨S16384x8192, .f32⟩
  | .hbm, ⟨50, _⟩ => ⟨S16384x2048, .f32⟩
  | .hbm, ⟨51, _⟩ => ⟨S16384x1024, .f32⟩
  | .hbm, ⟨52, _⟩ => ⟨S16384x8192, .bf16⟩
  | .hbm, ⟨53, _⟩ => ⟨S16384x1024, .bf16⟩
  | .hbm, ⟨54, _⟩ => ⟨S16384x1024, .bf16⟩
  | .hbm, ⟨55, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel2.lean ====
abbrev S16384x8192 : Shape := ⟨2, ![16384, 8192]⟩
abbrev S16384x1024 : Shape := ⟨2, ![16384, 1024]⟩
abbrev S1024x8192 : Shape := ⟨2, ![1024, 8192]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x8192, .bf16⟩
  | .hbm, ⟨1, _⟩ => ⟨S16384x1024, .f32⟩
  | .hbm, ⟨2, _⟩ => ⟨S1024x8192, .bf16⟩
  | .hbm, ⟨3, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S16384x8192 : Shape := ⟨2, ![16384, 8192]⟩
abbrev S16384x1024 : Shape := ⟨2, ![16384, 1024]⟩
abbrev S1024x8192 : Shape := ⟨2, ![1024, 8192]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S16384x1024, .f32⟩
  | .hbm, ⟨2, _⟩ => ⟨S1024x8192, .bf16⟩
  | .hbm, ⟨3, _⟩ => ⟨S_, .f32⟩
  | .hbm, ⟨4, _⟩ => ⟨S16384x1024, .f32⟩
  | .hbm, ⟨5, _⟩ => ⟨S1024x8192, .f32⟩
  | .hbm, ⟨6, _⟩ => ⟨S16384x8192, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x8192, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel3.lean ====
abbrev S16384x8192 : Shape := ⟨2, ![16384, 8192]⟩
abbrev S16384x384 : Shape := ⟨2, ![16384, 384]⟩
abbrev S16384x1024 : Shape := ⟨2, ![16384, 1024]⟩
abbrev S1024x8192 : Shape := ⟨2, ![1024, 8192]⟩
abbrev S1024x384 : Shape := ⟨2, ![1024, 384]⟩
abbrev S_ : Shape := ⟨0, ![]⟩
abbrev S2048x384 : Shape := ⟨2, ![2048, 384]⟩
abbrev S2048x1024 : Shape := ⟨2, ![2048, 1024]⟩

abbrev nBuf : Space → Nat
  | .hbm => 11
  | .vmem => 7
  | .smem => 0
  | _ => 0

abbrev bufTy : (tb : Table) → Fin (tcTables nBuf tb) → BufTy
  | .hbm, ⟨0, _⟩ => ⟨S16384x8192, .bf16⟩
  | .hbm, ⟨1, _⟩ => ⟨S16384x384, .bf16⟩
  | .hbm, ⟨2, _⟩ => ⟨S16384x1024, .f32⟩
  | .hbm, ⟨3, _⟩ => ⟨S1024x8192, .bf16⟩
  | .hbm, ⟨4, _⟩ => ⟨S1024x384, .bf16⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .local _ .vmem, ⟨0, _⟩ => ⟨S2048x384, .bf16⟩
  | .local _ .vmem, ⟨1, _⟩ => ⟨S2048x384, .bf16⟩
  | .local _ .vmem, ⟨2, _⟩ => ⟨S1024x384, .bf16⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S16384x8192 : Shape := ⟨2, ![16384, 8192]⟩
abbrev S16384x384 : Shape := ⟨2, ![16384, 384]⟩
abbrev S16384x1024 : Shape := ⟨2, ![16384, 1024]⟩
abbrev S1024x8192 : Shape := ⟨2, ![1024, 8192]⟩
abbrev S1024x384 : Shape := ⟨2, ![1024, 384]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S16384x384, .bf16⟩
  | .hbm, ⟨2, _⟩ => ⟨S16384x1024, .f32⟩
  | .hbm, ⟨3, _⟩ => ⟨S1024x8192, .bf16⟩
  | .hbm, ⟨4, _⟩ => ⟨S1024x384, .bf16⟩
  | .hbm, ⟨5, _⟩ => ⟨S_, .f32⟩
  | .hbm, ⟨6, _⟩ => ⟨S16384x1024, .f32⟩
  | .hbm, ⟨7, _⟩ => ⟨S1024x8192, .f32⟩
  | .hbm, ⟨8, _⟩ => ⟨S16384x8192, .f32⟩
  | .hbm, ⟨9, _⟩ => ⟨S1024x384, .f32⟩
  | .hbm, ⟨10, _⟩ => ⟨S16384x384, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x8192, .f32⟩
  | .hbm, ⟨15, _⟩ => ⟨S16384x384, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel4.lean ====
abbrev S16384x1024 : Shape := ⟨2, ![16384, 1024]⟩
abbrev S16384x8192 : Shape := ⟨2, ![16384, 8192]⟩
abbrev S1024x8192 : Shape := ⟨2, ![1024, 8192]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S1024x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x8192 : Shape := ⟨2, ![16384, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x8192, .bf16⟩
  | .hbm, ⟨2, _⟩ => ⟨S_, .f32⟩
  | .hbm, ⟨3, _⟩ => ⟨S1024x8192, .f32⟩
  | .hbm, ⟨4, _⟩ => ⟨S16384x1024, .f32⟩
  | .hbm, ⟨5, _⟩ => ⟨S16384x8192, .f32⟩
  | .hbm, ⟨6, _⟩ => ⟨S16384x8192, .f32⟩
  | .hbm, ⟨7, _⟩ => ⟨S8192x1024, .f32⟩
  | .hbm, ⟨8, _⟩ => ⟨S1024x8192, .f32⟩
  | .hbm, ⟨9, _⟩ => ⟨S1024x8192, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S16384x1024 : Shape := ⟨2, ![16384, 1024]⟩
abbrev S16384x384 : Shape := ⟨2, ![16384, 384]⟩
abbrev S1024x384 : Shape := ⟨2, ![1024, 384]⟩
abbrev S2048x1024 : Shape := ⟨2, ![2048, 1024]⟩
abbrev S2048x384 : Shape := ⟨2, ![2048, 384]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x384, .bf16⟩
  | .hbm, ⟨2, _⟩ => ⟨S1024x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .bf16⟩
  | .local _ .vmem, ⟨5, _⟩ => ⟨S1024x384, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S16384x384 : Shape := ⟨2, ![16384, 384]⟩
abbrev S_ : Shape := ⟨0, ![]⟩
abbrev S1024x384 : Shape := ⟨2, ![1024, 384]⟩
abbrev S384x1024 : Shape := ⟨2, ![384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x384, .bf16⟩
  | .hbm, ⟨2, _⟩ => ⟨S_, .f32⟩
  | .hbm, ⟨3, _⟩ => ⟨S1024x384, .f32⟩
  | .hbm, ⟨4, _⟩ => ⟨S16384x1024, .f32⟩
  | .hbm, ⟨5, _⟩ => ⟨S16384x384, .f32⟩
  | .hbm, ⟨6, _⟩ => ⟨S16384x384, .f32⟩
  | .hbm, ⟨7, _⟩ => ⟨S384x1024, .f32⟩
  | .hbm, ⟨8, _⟩ => ⟨S1024x384, .f32⟩
  | .hbm, ⟨9, _⟩ => ⟨S1024x384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S16384x1024 : Shape := ⟨2, ![16384, 1024]⟩
abbrev S2x16384x2816 : Shape := ⟨3, ![2, 16384, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S2x16384x2816, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32_7 : BitVec 32 := 7#32
  let v12 : BitVec 1 := Scalar.cmpi .eq arg2 c7_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S2x16384x2816 : Shape := ⟨3, ![2, 16384, 2816]⟩
abbrev S1x16384x2816 : Shape := ⟨3, ![1, 16384, 2816]⟩
abbrev S16384x2816 : Shape := ⟨2, ![16384, 2816]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x16384x2816, .bf16⟩
  | .hbm, ⟨2, _⟩ => ⟨S1x16384x2816, .bf16⟩
  | .hbm, ⟨3, _⟩ => ⟨S16384x2816, .bf16⟩
  | .hbm, ⟨4, _⟩ => ⟨S1x16384x2816, .bf16⟩
  | .hbm, ⟨5, _⟩ => ⟨S16384x2816, .bf16⟩
  | .hbm, ⟨6, _⟩ => ⟨S16384x5632, .bf16⟩
  | .hbm, ⟨7, _⟩ => ⟨S_, .f32⟩
  | .hbm, ⟨8, _⟩ => ⟨S1024x5632, .f32⟩
  | .hbm, ⟨9, _⟩ => ⟨S16384x1024, .f32⟩
  | .hbm, ⟨10, _⟩ => ⟨S16384x5632, .f32⟩
  | .hbm, ⟨11, _⟩ => ⟨S16384x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel7.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S16384x2048 : Shape := ⟨2, ![16384, 2048]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S_, .f32⟩
  | .hbm, ⟨3, _⟩ => ⟨S2048x1024, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S16384x1024 : Shape := ⟨2, ![16384, 1024]⟩
abbrev S2816x1024 : Shape := ⟨2, ![2816, 1024]⟩
abbrev S16384x2816 : Shape := ⟨2, ![16384, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .f32⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .f32⟩
  | .local _ .vmem, ⟨4, _⟩ => ⟨S1024x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S_, .f32⟩
  | .hbm, ⟨3, _⟩ => ⟨S16384x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S16384x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S16384x1024 : Shape := ⟨2, ![16384, 1024]⟩
abbrev S1024x8192 : Shape := ⟨2, ![1024, 8192]⟩
abbrev S16384x8192 : Shape := ⟨2, ![16384, 8192]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x8192, .bf16⟩
  | .hbm, ⟨2, _⟩ => ⟨S16384x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S1024x8192 : Shape := ⟨2, ![1024, 8192]⟩
abbrev S16384x8192 : Shape := ⟨2, ![16384, 8192]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x8192, .bf16⟩
  | .hbm, ⟨2, _⟩ => ⟨S16384x1024, .f32⟩
  | .hbm, ⟨3, _⟩ => ⟨S1024x8192, .f32⟩
  | .hbm, ⟨4, _⟩ => ⟨S16384x8192, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S16384x1024 : Shape := ⟨2, ![16384, 1024]⟩
abbrev S1024x384 : Shape := ⟨2, ![1024, 384]⟩
abbrev S16384x384 : Shape := ⟨2, ![16384, 384]⟩
abbrev S2048x1024 : Shape := ⟨2, ![2048, 1024]⟩
abbrev S2048x384 : Shape := ⟨2, ![2048, 384]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x384, .bf16⟩
  | .hbm, ⟨2, _⟩ => ⟨S16384x384, .f32⟩
  | .local _ .vmem, ⟨0, _⟩ => ⟨S2048x1024, .bf16⟩
  | .local _ .vmem, ⟨1, _⟩ => ⟨S2048x1024, .bf16⟩
  | .local _ .vmem, ⟨2, _⟩ => ⟨S1024x384, .bf16⟩
  | .local _ .vmem, ⟨3, _⟩ => ⟨S2048x384, .f32⟩
  | .local _ .vmem, ⟨4, _⟩ => ⟨S2048x384, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x1024 : Shape := ⟨2, ![16384, 1024]⟩
abbrev S1024x384 : Shape := ⟨2, ![1024, 384]⟩
abbrev S16384x384 : Shape := ⟨2, ![16384, 384]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x384, .bf16⟩
  | .hbm, ⟨2, _⟩ => ⟨S16384x1024, .f32⟩
  | .hbm, ⟨3, _⟩ => ⟨S1024x384, .f32⟩
  | .hbm, ⟨4, _⟩ => ⟨S16384x384, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S16384x1024 : Shape := ⟨2, ![16384, 1024]⟩
abbrev S1024x5632 : Shape := ⟨2, ![1024, 5632]⟩
abbrev S16384x5632 : Shape := ⟨2, ![16384, 5632]⟩
abbrev S1024x1024 : Shape := ⟨2, ![1024, 1024]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S16384x2048 : Shape := ⟨2, ![16384, 2048]⟩
abbrev S16384x1024 : Shape := ⟨2, ![16384, 1024]⟩
abbrev S16384x8192 : Shape := ⟨2, ![16384, 8192]⟩
abbrev S1x2048 : Shape := ⟨2, ![1, 2048]⟩
abbrev S2048x1024 : Shape := ⟨2, ![2048, 1024]⟩
abbrev S1024x1024 : Shape := ⟨2, ![1024, 1024]⟩
abbrev S512x2048 : Shape := ⟨2, ![512, 2048]⟩
abbrev S512x1024 : Shape := ⟨2, ![512, 1024]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x8192, .f32⟩
  | .hbm, ⟨3, _⟩ => ⟨S1x2048, .f32⟩
  | .hbm, ⟨4, _⟩ => ⟨S2048x1024, .bf16⟩
  | .hbm, ⟨5, _⟩ => ⟨S1024x1024, .bf16⟩
  | .hbm, ⟨6, _⟩ => ⟨S16384x1024, .bf16⟩
  | .hbm, ⟨7, _⟩ => ⟨S16384x1024, .f32⟩
  | .hbm, ⟨8, _⟩ => ⟨S16384x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x2048, .f32⟩
  | .local _ .vmem, ⟨9, _⟩ => ⟨S2048x1024, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference14Ideal.lean ====
abbrev S16384x2048 : Shape := ⟨2, ![16384, 2048]⟩
abbrev S16384x1024 : Shape := ⟨2, ![16384, 1024]⟩
abbrev S16384x8192 : Shape := ⟨2, ![16384, 8192]⟩
abbrev S1x2048 : Shape := ⟨2, ![1, 2048]⟩
abbrev S2048x1024 : Shape := ⟨2, ![2048, 1024]⟩
abbrev S1024x1024 : Shape := ⟨2, ![1024, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S16384x8192, .f32⟩
  | .hbm, ⟨3, _⟩ => ⟨S1x2048, .f32⟩
  | .hbm, ⟨4, _⟩ => ⟨S2048x1024, .bf16⟩
  | .hbm, ⟨5, _⟩ => ⟨S1024x1024, .bf16⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x1024, .f32⟩
  | .hbm, ⟨18, _⟩ => ⟨S16384x1024, .f32⟩
  | .hbm, ⟨19, _⟩ => ⟨S16384x2048, .f32⟩
  | .hbm, ⟨20, _⟩ => ⟨S2048x1024, .f32⟩
  | .hbm, ⟨21, _⟩ => ⟨S16384x1024, .f32⟩
  | .hbm, ⟨22, _⟩ => ⟨S16384x1024, .f32⟩
  | .hbm, ⟨23, _⟩ => ⟨S1024x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel15.lean ====
abbrev S8x1024x1060 : Shape := ⟨3, ![8, 1024, 1060]⟩
abbrev S1024x1060 : Shape := ⟨2, ![1024, 1060]⟩
abbrev S8x256x1060 : Shape := ⟨3, ![8, 256, 1060]⟩
abbrev S256x1060 : Shape := ⟨2, ![256, 1060]⟩
abbrev S1x256x1060 : Shape := ⟨3, ![1, 256, 1060]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1060, .bf16⟩
  | .hbm, ⟨1, _⟩ => ⟨S1024x1060, .f32⟩
  | .hbm, ⟨2, _⟩ => ⟨S1024x1060, .f32⟩
  | .hbm, ⟨3, _⟩ => ⟨S1024x1060, .f32⟩
  | .hbm, ⟨4, _⟩ => ⟨S1024x1060, .f32⟩
  | .hbm, ⟨5, _⟩ => ⟨S1024x1060, .f32⟩
  | .hbm, ⟨6, _⟩ => ⟨S1024x1060, .f32⟩
  | .hbm, ⟨7, _⟩ => ⟨S1024x1060, .f32⟩
  | .local _ .vmem, ⟨0, _⟩ => ⟨S8x256x1060, .bf16⟩
  | .local _ .vmem, ⟨1, _⟩ => ⟨S8x256x1060, .bf16⟩
  | .local _ .vmem, ⟨2, _⟩ => ⟨S256x1060, .f32⟩
  | .local _ .vmem, ⟨3, _⟩ => ⟨S256x1060, .f32⟩
  | .local _ .vmem, ⟨4, _⟩ => ⟨S256x1060, .f32⟩
  | .local _ .vmem, ⟨5, _⟩ => ⟨S256x1060, .f32⟩
  | .local _ .vmem, ⟨6, _⟩ => ⟨S256x1060, .f32⟩
  | .local _ .vmem, ⟨7, _⟩ => ⟨S256x1060, .f32⟩
  | .local _ .vmem, ⟨8, _⟩ => ⟨S256x1060, .f32⟩
  | .local _ .vmem, ⟨9, _⟩ => ⟨S256x1060, .f32⟩
  | .local _ .vmem, ⟨10, _⟩ => ⟨S256x1060, .f32⟩
  | .local _ .vmem, ⟨11, _⟩ => ⟨S256x1060, .f32⟩
  | .local _ .vmem, ⟨12, _⟩ => ⟨S256x1060, .f32⟩
  | .local _ .vmem, ⟨13, _⟩ => ⟨S256x1060, .f32⟩
  | .local _ .vmem, ⟨14, _⟩ => ⟨S256x1060, .f32⟩
  | .local _ .vmem, ⟨15, _⟩ => ⟨S256x1060, .f32⟩
  | _, _ => ⟨S8x1024x1060, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1060 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1060 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1060 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1060 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1060 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1060 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1060 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1060 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel15Ideal.lean ====
abbrev S8x1024x1060 : Shape := ⟨3, ![8, 1024, 1060]⟩
abbrev S1024x1060 : Shape := ⟨2, ![1024, 1060]⟩
abbrev S8x256x1060 : Shape := ⟨3, ![8, 256, 1060]⟩
abbrev S256x1060 : Shape := ⟨2, ![256, 1060]⟩
abbrev S1x256x1060 : Shape := ⟨3, ![1, 256, 1060]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x1060, .bf16⟩
  | .hbm, ⟨1, _⟩ => ⟨S1024x1060, .f32⟩
  | .hbm, ⟨2, _⟩ => ⟨S1024x1060, .f32⟩
  | .hbm, ⟨3, _⟩ => ⟨S1024x1060, .f32⟩
  | .hbm, ⟨4, _⟩ => ⟨S1024x1060, .f32⟩
  | .hbm, ⟨5, _⟩ => ⟨S1024x1060, .f32⟩
  | .hbm, ⟨6, _⟩ => ⟨S1024x1060, .f32⟩
  | .hbm, ⟨7, _⟩ => ⟨S1024x1060, .f32⟩
  | .local _ .vmem, ⟨0, _⟩ => ⟨S8x256x1060, .bf16⟩
  | .local _ .vmem, ⟨1, _⟩ => ⟨S8x256x1060, .bf16⟩
  | .local _ .vmem, ⟨2, _⟩ => ⟨S256x1060, .f32⟩
  | .local _ .vmem, ⟨3, _⟩ => ⟨S256x1060, .f32⟩
  | .local _ .vmem, ⟨4, _⟩ => ⟨S256x1060, .f32⟩
  | .local _ .vmem, ⟨5, _⟩ => ⟨S256x1060, .f32⟩
  | .local _ .vmem, ⟨6, _⟩ => ⟨S256x1060, .f32⟩
  | .local _ .vmem, ⟨7, _⟩ => ⟨S256x1060, .f32⟩
  | .local _ .vmem, ⟨8, _⟩ => ⟨S256x1060, .f32⟩
  | .local _ .vmem, ⟨9, _⟩ => ⟨S256x1060, .f32⟩
  | .local _ .vmem, ⟨10, _⟩ => ⟨S256x1060, .f32⟩
  | .local _ .vmem, ⟨11, _⟩ => ⟨S256x1060, .f32⟩
  | .local _ .vmem, ⟨12, _⟩ => ⟨S256x1060, .f32⟩
  | .local _ .vmem, ⟨13, _⟩ => ⟨S256x1060, .f32⟩
  | .local _ .vmem, ⟨14, _⟩ => ⟨S256x1060, .f32⟩
  | .local _ .vmem, ⟨15, _⟩ => ⟨S256x1060, .f32⟩
  | _, _ => ⟨S8x1024x1060, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1060 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1060 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1060 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1060 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1060 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1060 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1060 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1060 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S8x1024x1060 : Shape := ⟨3, ![8, 1024, 1060]⟩
abbrev S1024x1060 : Shape := ⟨2, ![1024, 1060]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1060, .bf16⟩
  | .hbm, ⟨1, _⟩ => ⟨S1024x1060, .f32⟩
  | .hbm, ⟨2, _⟩ => ⟨S1024x1060, .f32⟩
  | .hbm, ⟨3, _⟩ => ⟨S1024x1060, .f32⟩
  | .hbm, ⟨4, _⟩ => ⟨S8x1024x1060, .f32⟩
  | .hbm, ⟨5, _⟩ => ⟨S_, .f32⟩
  | .hbm, ⟨6, _⟩ => ⟨S1024x1060, .f32⟩
  | .hbm, ⟨7, _⟩ => ⟨S_, .f32⟩
  | .hbm, ⟨8, _⟩ => ⟨S1024x1060, .f32⟩
  | .hbm, ⟨9, _⟩ => ⟨S1024x1060, .f32⟩
  | .hbm, ⟨10, _⟩ => ⟨S_, .f32⟩
  | .hbm, ⟨11, _⟩ => ⟨S1024x1060, .f32⟩
  | .hbm, ⟨12, _⟩ => ⟨S1024x1060, .f32⟩
  | .hbm, ⟨13, _⟩ => ⟨S1024x1060, .f32⟩
  | .hbm, ⟨14, _⟩ => ⟨S_, .f32⟩
  | .hbm, ⟨15, _⟩ => ⟨S1024x1060, .f32⟩
  | .hbm, ⟨16, _⟩ => ⟨S1024x1060, .f32⟩
  | .hbm, ⟨17, _⟩ => ⟨S1024x1060, .f32⟩
  | .hbm, ⟨18, _⟩ => ⟨S_, .f32⟩
  | .hbm, ⟨19, _⟩ => ⟨S1024x1060, .f32⟩
  | .hbm, ⟨20, _⟩ => ⟨S1024x1060, .f32⟩
  | .hbm, ⟨21, _⟩ => ⟨S1024x1060, .f32⟩
  | .hbm, ⟨22, _⟩ => ⟨S_, .f32⟩
  | .hbm, ⟨23, _⟩ => ⟨S1024x1060, .f32⟩
  | .hbm, ⟨24, _⟩ => ⟨S1024x1060, .f32⟩
  | .hbm, ⟨25, _⟩ => ⟨S_, .f32⟩
  | .hbm, ⟨26, _⟩ => ⟨S1024x1060, .f32⟩
  | .hbm, ⟨27, _⟩ => ⟨S1024x1060, .f32⟩
  | .hbm, ⟨28, _⟩ => ⟨S1024x1060, .f32⟩
  | .hbm, ⟨29, _⟩ => ⟨S_, .f32⟩
  | .hbm, ⟨30, _⟩ => ⟨S1024x1060, .f32⟩
  | .hbm, ⟨31, _⟩ => ⟨S1024x1060, .f32⟩
  | .hbm, ⟨32, _⟩ => ⟨S1024x1060, .f32⟩
  | .hbm, ⟨33, _⟩ => ⟨S_, .f32⟩
  | .hbm, ⟨34, _⟩ => ⟨S1024x1060, .f32⟩
  | .hbm, ⟨35, _⟩ => ⟨S1024x1060, .f32⟩
  | .hbm, ⟨36, _⟩ => ⟨S1024x1060, .f32⟩
  | .hbm, ⟨37, _⟩ => ⟨S_, .f32⟩
  | .hbm, ⟨38, _⟩ => ⟨S1024x1060, .f32⟩
  | .hbm, ⟨39, _⟩ => ⟨S1024x1060, .f32⟩
  | _, _ => ⟨S8x1024x1060, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel16Ideal.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel17Ideal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel18Ideal.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel19Ideal.lean ====
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x4x384 : Shape := ⟨3, ![8, 4, 384]⟩
abbrev S4x384 : Shape := ⟨2, ![4, 384]⟩
abbrev S1x4x384 : Shape := ⟨3, ![1, 4, 384]⟩

abbrev nBuf : Space → Nat
  | .hbm => 8
  | .vmem => 8
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S8x4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel20Ideal.lean ====
abbrev S8x4x384 : Shape := ⟨3, ![8, 4, 384]⟩
abbrev S4x384 : Shape := ⟨2, ![4, 384]⟩
abbrev S1x4x384 : Shape := ⟨3, ![1, 4, 384]⟩

abbrev nBuf : Space → Nat
  | .hbm => 8
  | .vmem => 8
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S8x4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S8x4x384 : Shape := ⟨3, ![8, 4, 384]⟩
abbrev S4x384 : Shape := ⟨2, ![4, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S_, .f32⟩
  | .hbm, ⟨7, _⟩ => ⟨S4x384, .f32⟩
  | .hbm, ⟨8, _⟩ => ⟨S4x384, .f32⟩
  | .hbm, ⟨9, _⟩ => ⟨S_, .f32⟩
  | .hbm, ⟨10, _⟩ => ⟨S4x384, .f32⟩
  | .hbm, ⟨11, _⟩ => ⟨S4x384, .f32⟩
  | .hbm, ⟨12, _⟩ => ⟨S4x384, .f32⟩
  | .hbm, ⟨13, _⟩ => ⟨S_, .f32⟩
  | .hbm, ⟨14, _⟩ => ⟨S4x384, .f32⟩
  | .hbm, ⟨15, _⟩ => ⟨S4x384, .f32⟩
  | .hbm, ⟨16, _⟩ => ⟨S4x384, .f32⟩
  | .hbm, ⟨17, _⟩ => ⟨S_, .f32⟩
  | .hbm, ⟨18, _⟩ => ⟨S4x384, .f32⟩
  | .hbm, ⟨19, _⟩ => ⟨S4x384, .f32⟩
  | .hbm, ⟨20, _⟩ => ⟨S4x384, .f32⟩
  | .hbm, ⟨21, _⟩ => ⟨S_, .f32⟩
  | .hbm, ⟨22, _⟩ => ⟨S4x384, .f32⟩
  | .hbm, ⟨23, _⟩ => ⟨S4x384, .f32⟩
  | .hbm, ⟨24, _⟩ => ⟨S_, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S4x384, .f32⟩
  | .hbm, ⟨36, _⟩ => ⟨S_, .f32⟩
  | .hbm, ⟨37, _⟩ => ⟨S4x384, .f32⟩
  | .hbm, ⟨38, _⟩ => ⟨S4x384, .f32⟩
  | _, _ => ⟨S8x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8x3x704 : Shape := ⟨3, ![8, 3, 704]⟩
abbrev S3x704 : Shape := ⟨2, ![3, 704]⟩
abbrev S1x3x704 : Shape := ⟨3, ![1, 3, 704]⟩

abbrev nBuf : Space → Nat
  | .hbm => 8
  | .vmem => 8
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S3x704, .f32⟩
  | .hbm, ⟨5, _⟩ => ⟨S3x704, .f32⟩
  | .hbm, ⟨6, _⟩ => ⟨S3x704, .f32⟩
  | .hbm, ⟨7, _⟩ => ⟨S3x704, .f32⟩
  | .local _ .vmem, ⟨0, _⟩ => ⟨S8x3x704, .f32⟩
  | .local _ .vmem, ⟨1, _⟩ => ⟨S3x704, .f32⟩
  | .local _ .vmem, ⟨2, _⟩ => ⟨S3x704, .f32⟩
  | .local _ .vmem, ⟨3, _⟩ => ⟨S3x704, .f32⟩
  | .local _ .vmem, ⟨4, _⟩ => ⟨S3x704, .f32⟩
  | .local _ .vmem, ⟨5, _⟩ => ⟨S3x704, .f32⟩
  | .local _ .vmem, ⟨6, _⟩ => ⟨S3x704, .f32⟩
  | .local _ .vmem, ⟨7, _⟩ => ⟨S3x704, .f32⟩
  | _, _ => ⟨S8x3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x3x704 : Shape := ⟨3, ![8, 3, 704]⟩
abbrev S3x704 : Shape := ⟨2, ![3, 704]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x704, .f32⟩
  | .hbm, ⟨1, _⟩ => ⟨S3x704, .f32⟩
  | .hbm, ⟨2, _⟩ => ⟨S3x704, .f32⟩
  | .hbm, ⟨3, _⟩ => ⟨S3x704, .f32⟩
  | .hbm, ⟨4, _⟩ => ⟨S_, .f32⟩
  | .hbm, ⟨5, _⟩ => ⟨S3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S_, .f32⟩
  | .hbm, ⟨10, _⟩ => ⟨S3x704, .f32⟩
  | .hbm, ⟨11, _⟩ => ⟨S3x704, .f32⟩
  | .hbm, ⟨12, _⟩ => ⟨S3x704, .f32⟩
  | .hbm, ⟨13, _⟩ => ⟨S_, .f32⟩
  | .hbm, ⟨14, _⟩ => ⟨S3x704, .f32⟩
  | .hbm, ⟨15, _⟩ => ⟨S3x704, .f32⟩
  | .hbm, ⟨16, _⟩ => ⟨S3x704, .f32⟩
  | .hbm, ⟨17, _⟩ => ⟨S_, .f32⟩
  | .hbm, ⟨18, _⟩ => ⟨S3x704, .f32⟩
  | .hbm, ⟨19, _⟩ => ⟨S3x704, .f32⟩
  | .hbm, ⟨20, _⟩ => ⟨S3x704, .f32⟩
  | .hbm, ⟨21, _⟩ => ⟨S_, .f32⟩
  | .hbm, ⟨22, _⟩ => ⟨S3x704, .f32⟩
  | .hbm, ⟨23, _⟩ => ⟨S3x704, .f32⟩
  | .hbm, ⟨24, _⟩ => ⟨S_, .f32⟩
  | .hbm, ⟨25, _⟩ => ⟨S3x704, .f32⟩
  | .hbm, ⟨26, _⟩ => ⟨S3x704, .f32⟩
  | .hbm, ⟨27, _⟩ => ⟨S3x704, .f32⟩
  | .hbm, ⟨28, _⟩ => ⟨S_, .f32⟩
  | .hbm, ⟨29, _⟩ => ⟨S3x704, .f32⟩
  | .hbm, ⟨30, _⟩ => ⟨S3x704, .f32⟩
  | .hbm, ⟨31, _⟩ => ⟨S3x704, .f32⟩
  | .hbm, ⟨32, _⟩ => ⟨S_, .f32⟩
  | .hbm, ⟨33, _⟩ => ⟨S3x704, .f32⟩
  | .hbm, ⟨34, _⟩ => ⟨S3x704, .f32⟩
  | .hbm, ⟨35, _⟩ => ⟨S3x704, .f32⟩
  | .hbm, ⟨36, _⟩ => ⟨S_, .f32⟩
  | .hbm, ⟨37, _⟩ => ⟨S3x704, .f32⟩
  | .hbm, ⟨38, _⟩ => ⟨S3x704, .f32⟩
  | _, _ => ⟨S8x3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel23.lean ====
abbrev S16384x1024 : Shape := ⟨2, ![16384, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel24.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S1x1 : Shape := ⟨2, ![1, 1]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S1x1024, .f32⟩
  | .hbm, ⟨9, _⟩ => ⟨S1x1024, .f32⟩
  | .hbm, ⟨10, _⟩ => ⟨S1x1, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference24Ideal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x2816, .f32⟩
  | .hbm, ⟨10, _⟩ => ⟨S2816x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384, .f32⟩
  | .hbm, ⟨81, _⟩ => ⟨S16384x1024, .f32⟩
  | .hbm, ⟨82, _⟩ => ⟨S16384x1024, .f32⟩
  | .hbm, ⟨83, _⟩ => ⟨S16384x1024, .bf16⟩
  | .hbm, ⟨84, _⟩ => ⟨S16384x1024, .f32⟩
  | .hbm, ⟨85, _⟩ => ⟨S_, .f32⟩
  | .hbm, ⟨86, _⟩ => ⟨S_, .f32⟩
  | .hbm, ⟨87, _⟩ => ⟨S1x1, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_15 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Kernel25.lean ====
abbrev S2x16384x2816 : Shape := ⟨3, ![2, 16384, 2816]⟩
abbrev S1024x5632 : Shape := ⟨2, ![1024, 5632]⟩
abbrev S16384x1024 : Shape := ⟨2, ![16384, 1024]⟩
abbrev S1x1024 : Shape := ⟨2, ![1, 1024]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S2x16384x2816, .bf16⟩
  | .hbm, ⟨1, _⟩ => ⟨S1024x5632, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S1x1024, .f32⟩
  | .hbm, ⟨9, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | _, _ => ⟨S2x16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_12 : BitVec 32 := 0#32
  let v19 : BitVec 1 := Scalar.cmpi .ne v18 c0_i32_12
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference25Ideal.lean ====
abbrev S2x16384x2816 : Shape := ⟨3, ![2, 16384, 2816]⟩
abbrev S1024x5632 : Shape := ⟨2, ![1024, 5632]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S1x16384x2816 : Shape := ⟨3, ![1, 16384, 2816]⟩
abbrev S16384x2816 : Shape := ⟨2, ![16384, 2816]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S2x16384x2816, .bf16⟩
  | .hbm, ⟨1, _⟩ => ⟨S1024x5632, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S1024x5632, .f32⟩
  | .hbm, ⟨39, _⟩ => ⟨S16384x5632, .f32⟩
  | .hbm, ⟨40, _⟩ => ⟨S1x16384x2816, .bf16⟩
  | .hbm, ⟨41, _⟩ => ⟨S16384x2816, .bf16⟩
  | .hbm, ⟨42, _⟩ => ⟨S1x16384x2816, .bf16⟩
  | .hbm, ⟨43, _⟩ => ⟨S16384x2816, .bf16⟩
  | .hbm, ⟨44, _⟩ => ⟨S16384x5632, .bf16⟩
  | .hbm, ⟨45, _⟩ => ⟨S16384x5632, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384, .f32⟩
  | .hbm, ⟨86, _⟩ => ⟨S16384x1024, .f32⟩
  | .hbm, ⟨87, _⟩ => ⟨S16384x1024, .f32⟩
  | .hbm, ⟨88, _⟩ => ⟨S16384x1024, .bf16⟩
  | _, _ => ⟨S2x16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Kernel26.lean ====
abbrev S16x32768 : Shape := ⟨2, ![16, 32768]⟩
abbrev S32768x32 : Shape := ⟨2, ![32768, 32]⟩
abbrev S16x32 : Shape := ⟨2, ![16, 32]⟩

abbrev nBuf : Space → Nat
  | .hbm => 3
  | .vmem => 3
  | .smem => 0
  | _ => 0

abbrev bufTy : (tb : Table) → Fin (tcTables nBuf tb) → BufTy
  | .hbm, ⟨0, _⟩ => ⟨S16x32768, .f32⟩
  | .hbm, ⟨1, _⟩ => ⟨S32768x32, .f32⟩
  | .hbm, ⟨2, _⟩ => ⟨S16x32, .f32⟩
  | .local _ .vmem, ⟨0, _⟩ => ⟨S16x32768, .f32⟩
  | .local _ .vmem, ⟨1, _⟩ => ⟨S32768x32, .f32⟩
  | .local _ .vmem, ⟨2, _⟩ => ⟨S16x32, .f32⟩
  | _, _ => ⟨S16x32768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference26Ideal.lean ====
abbrev S16x32768 : Shape := ⟨2, ![16, 32768]⟩
abbrev S32768x32 : Shape := ⟨2, ![32768, 32]⟩
abbrev S_ : Shape := ⟨0, ![]⟩
abbrev S16x32 : Shape := ⟨2, ![16, 32]⟩

abbrev nBuf : Space → Nat
  | .hbm => 6
  | .vmem => 0
  | .smem => 0
  | _ => 0

abbrev bufTy : (tb : Table) → Fin (tcTables nBuf tb) → BufTy
  | .hbm, ⟨0, _⟩ => ⟨S16x32768, .f32⟩
  | .hbm, ⟨1, _⟩ => ⟨S32768x32, .f32⟩
  | .hbm, ⟨2, _⟩ => ⟨S_, .f32⟩
  | .hbm, ⟨3, _⟩ => ⟨S16x32, .f32⟩
  | .hbm, ⟨4, _⟩ => ⟨S16x32768, .f32⟩
  | .hbm, ⟨5, _⟩ => ⟨S16x32, .f32⟩
  | _, _ => ⟨S16x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel27.lean ====
abbrev S16x32 : Shape := ⟨2, ![16, 32]⟩
abbrev S32x32768 : Shape := ⟨2, ![32, 32768]⟩
abbrev S1x32768 : Shape := ⟨2, ![1, 32768]⟩
abbrev S16x32768 : Shape := ⟨2, ![16, 32768]⟩

abbrev nBuf : Space → Nat
  | .hbm => 4
  | .vmem => 4
  | .smem => 0
  | _ => 0

abbrev bufTy : (tb : Table) → Fin (tcTables nBuf tb) → BufTy
  | .hbm, ⟨0, _⟩ => ⟨S16x32, .f32⟩
  | .hbm, ⟨1, _⟩ => ⟨S32x32768, .bf16⟩
  | .hbm, ⟨2, _⟩ => ⟨S1x32768, .f32⟩
  | .hbm, ⟨3, _⟩ => ⟨S16x32768, .f32⟩
  | .local _ .vmem, ⟨0, _⟩ => ⟨S16x32, .f32⟩
  | .local _ .vmem, ⟨1, _⟩ => ⟨S32x32768, .bf16⟩
  | .local _ .vmem, ⟨2, _⟩ => ⟨S1x32768, .f32⟩
  | .local _ .vmem, ⟨3, _⟩ => ⟨S16x32768, .f32⟩
  | _, _ => ⟨S16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference27Ideal.lean ====
abbrev S16x32 : Shape := ⟨2, ![16, 32]⟩
abbrev S32x32768 : Shape := ⟨2, ![32, 32768]⟩
abbrev S1x32768 : Shape := ⟨2, ![1, 32768]⟩
abbrev S16x32768 : Shape := ⟨2, ![16, 32768]⟩

abbrev nBuf : Space → Nat
  | .hbm => 7
  | .vmem => 0
  | .smem => 0
  | _ => 0

abbrev bufTy : (tb : Table) → Fin (tcTables nBuf tb) → BufTy
  | .hbm, ⟨0, _⟩ => ⟨S16x32, .f32⟩
  | .hbm, ⟨1, _⟩ => ⟨S32x32768, .bf16⟩
  | .hbm, ⟨2, _⟩ => ⟨S1x32768, .f32⟩
  | .hbm, ⟨3, _⟩ => ⟨S32x32768, .f32⟩
  | .hbm, ⟨4, _⟩ => ⟨S16x32768, .f32⟩
  | .hbm, ⟨5, _⟩ => ⟨S16x32768, .f32⟩
  | .hbm, ⟨6, _⟩ => ⟨S16x32768, .f32⟩
  | _, _ => ⟨S16x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Mix.Body.lean ====
/-
  What one grid point of the gate-gradient kernel leaves in its output blocks, as named block functions of the blocks
  it reads.
-/
module

public import proofs.«01_k».proof.Proof.Gen.KernelIdeal.Value
public import Idealize.ShloMosaic.Lib.Pipeline.Value
public import Idealize.ShloMosaic.Lib.Pipeline.ValueKit.Tiles
public import Idealize.ShloMosaic.Lib.Pipeline.ReadBack
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.KernelIdeal.Mix

open Cert.KernelIdeal Cert.KernelIdeal.Gen

variable {F : FTy → Type} [FloatOps F]
variable (m : (ℓ : Loc nD τ sig) → Buf (Elt F) ℓ)

theorem hz : (![0, 0] : Fin 2 → Nat) = fun _ => 0 := funext fun a => by fin_cases a <;> rfl

/-- The first half of the bias row. -/
abbrev lo (x8 : Vec F S1x2048 .f32) : Vec F S1x1024 .f32 :=
  View.ld x8 (Rect.unit (s := S1x2048) ![0, 0] S1x1024.size inb_S1x2048_S1x1024_0_0)

/-- The second half of the bias row. -/
abbrev hi (x8 : Vec F S1x2048 .f32) : Vec F S1x1024 .f32 :=
  View.ld x8 (Rect.unit (s := S1x2048) ![0, 1024] S1x1024.size inb_S1x2048_S1x1024_0_1024)

theorem fill {sp : Space} (v : View sig .tc sp S1x2048 .f32) (Z : Vec F S1x2048 .f32) (r : Rect S1x2048) :
    v.readCov [⟨Rect.unit (s := S1x2048) ![0, 0] S1x2048.size inb_S1x2048_S1x2048_0_0, Z⟩] r.toLoadRect = View.ld Z r :=
  View.readCov_fill v (off := ![0, 0]) inb_S1x2048_S1x2048_0_0 Z [] r (fun a => congrFun hz a)

theorem halves {e : EltTy} (P Q : Vec F S512x1024 e) (r : Fin 512) (C : Fin 2048) :
    View.canon (Val := Elt F) [⟨Rect.unit (s := S512x2048) ![0, 1024] S512x1024.size inb_S512x2048_S512x1024_0_1024, Q⟩,
        ⟨Rect.unit (s := S512x2048) ![0, 0] S512x1024.size inb_S512x2048_S512x1024_0_0, P⟩] (ix2 r C)
      = if h : C.val < 1024 then P (ix2 r ⟨C.val, h⟩) else Q (ix2 r ⟨C.val - 1024, by omega⟩) := by
  split
  · rename_i h
    rw [View.canon_cons_of_not_mem]
    · have hi : (ix2 r C : S512x2048.Idx)
          = (Rect.unit (s := S512x2048) ![0, 0] S512x1024.size inb_S512x2048_S512x1024_0_0).emb (ix2 r ⟨C.val, h⟩) := by
        funext a
        apply Fin.ext
        match a with
        | ⟨0, _⟩ => show r.val = 0 + 1 * r.val; omega
        | ⟨1, _⟩ => show C.val = 0 + 1 * C.val; omega
      rw [hi]
      exact View.canon_cons_emb _ _ _ _
    · rw [Rect.mem_set_unit]
      intro hm
      have := (hm 1).1
      exact absurd this (by show ¬ 1024 ≤ C.val; omega)
  · rename_i h
    have hi : (ix2 r C : S512x2048.Idx)
        = (Rect.unit (s := S512x2048) ![0, 1024] S512x1024.size inb_S512x2048_S512x1024_0_1024).emb
            (ix2 r ⟨C.val - 1024, by omega⟩) := by
      funext a
      apply Fin.ext
      match a with
      | ⟨0, _⟩ => show r.val = 0 + 1 * r.val; omega
      | ⟨1, _⟩ => show C.val = 1024 + 1 * (C.val - 1024); omega
    rw [hi]
    exact View.canon_cons_emb _ _ _ _

theorem halves1 (P Q : Vec F S1x1024 .f32) (L : List (View.Piece (Elt F) S1x2048 .f32)) (r : Fin 1) (C : Fin 2048) :
    View.canon (Val := Elt F) (⟨Rect.unit (s := S1x2048) ![0, 1024] S1x1024.size inb_S1x2048_S1x1024_0_1024, Q⟩
        :: ⟨Rect.unit (s := S1x2048) ![0, 0] S1x1024.size inb_S1x2048_S1x1024_0_0, P⟩ :: L) (ix2 r C)
      = if h : C.val < 1024 then P (ix2 r ⟨C.val, h⟩) else Q (ix2 r ⟨C.val - 1024, by omega⟩) := by
  split
  · rename_i h
    rw [View.canon_cons_of_not_mem]
    · have hi : (ix2 r C : S1x2048.Idx)
          = (Rect.unit (s := S1x2048) ![0, 0] S1x1024.size inb_S1x2048_S1x1024_0_0).emb (ix2 r ⟨C.val, h⟩) := by
        funext a
        apply Fin.ext
        match a with
        | ⟨0, _⟩ => show r.val = 0 + 1 * r.val; omega
        | ⟨1, _⟩ => show C.val = 0 + 1 * C.val; omega
      rw [hi]
      exact View.canon_cons_emb _ _ _ _
    · rw [Rect.mem_set_unit]
      intro hm
      have := (hm 1).1
      exact absurd this (by show ¬ 1024 ≤ C.val; omega)
  · rename_i h
    have hi : (ix2 r C : S1x2048.Idx)
        = (Rect.unit (s := S1x2048) ![0, 1024] S1x1024.size inb_S1x2048_S1x1024_0_1024).emb
            (ix2 r ⟨C.val - 1024, by omega⟩) := by
      funext a
      apply Fin.ext
      match a with
      | ⟨0, _⟩ => show r.val = 0 + 1 * r.val; omega
      | ⟨1, _⟩ => show C.val = 1024 + 1 * (C.val - 1024); omega
    rw [hi]
    exact View.canon_cons_emb _ _ _ _

theorem lo_apply (x8 : Vec F S1x2048 .f32) (r : Fin 1) (d : Fin 1024) : lo x8 (ix2 r d) = x8 (ix2 r ⟨d.val, by omega⟩) := by
  show x8 _ = x8 _
  congr 1; funext a; apply Fin.ext
  match a with
  | ⟨0, _⟩ => show 0 + 1 * r.val = r.val; omega
  | ⟨1, _⟩ => show 0 + 1 * d.val = d.val; omega

theorem hi_apply (x8 : Vec F S1x2048 .f32) (r : Fin 1) (d : Fin 1024) : hi x8 (ix2 r d) = x8 (ix2 r ⟨1024 + d.val, by omega⟩) := by
  show x8 _ = x8 _
  congr 1; funext a; apply Fin.ext
  match a with
  | ⟨0, _⟩ => show 0 + 1 * r.val = r.val; omega
  | ⟨1, _⟩ => show 1024 + 1 * d.val = 1024 + d.val; omega

theorem out10 (c : Dev nD) (t : Fin cfg0.N) : (outsAt0 m c t.val t.isLt).2.1
    = k0_pay15 (k0_pay4 (iblk m c 0 t) (iblk m c 1 t)) (k0_pay5 (iblk m c 6 t) (lo (iblk m c 8 t))) := by
  by_cases h0 : t.val % 32 = 0
  · rw [outsAt0_A m c t h0]; dsimp only; unfold out0_A_10
    refine (View.read_writes_eq_canon _ _ _ fun y => cover0_A_10 ..).trans ?_
    unfold kernelRun0_A; dsimp only; sl_unfold_words
    rw [View.canon_unit_zero (S := S512x1024) hz]
    simp only [View.readAt_eq_ld, (hs0_0 t).read_unread, (hs0_1 t).read_unread, (hs0_6 t).read_unread, (hs0_8 t).read_unread,
      View.ld_unit_zero (S := S512x1024) hz, View.ld_unit_zero (S := S1024x1024) hz]
  · rw [outsAt0_B m c t h0]; dsimp only; unfold out0_B_10
    refine (View.read_writes_eq_canon _ _ _ fun y => cover0_B_10 ..).trans ?_
    unfold kernelRun0_B; dsimp only; sl_unfold_words
    rw [View.canon_unit_zero (S := S512x1024) hz]
    simp only [View.readAt_eq_ld, (hs0_0 t).read_unread, (hs0_1 t).read_unread, (hs0_6 t).read_unread, (hs0_8 t).read_unread,
      View.ld_unit_zero (S := S512x1024) hz, View.ld_unit_zero (S := S1024x1024) hz]

theorem out11 (c : Dev nD) (t : Fin cfg0.N) : (outsAt0 m c t.val t.isLt).2.2.1
    = k0_pay16 (k0_pay4 (iblk m c 0 t) (iblk m c 1 t)) (k0_pay6 (iblk m c 7 t) (hi (iblk m c 8 t))) := by
  by_cases h0 : t.val % 32 = 0
  · rw [outsAt0_A m c t h0]; dsimp only; unfold out0_A_11
    refine (View.read_writes_eq_canon _ _ _ fun y => cover0_A_11 ..).trans ?_
    unfold kernelRun0_A; dsimp only; sl_unfold_words
    rw [View.canon_unit_zero (S := S512x1024) hz]
    simp only [View.readAt_eq_ld, (hs0_0 t).read_unread, (hs0_1 t).read_unread, (hs0_2 t).read_unread, (hs0_3 t).read_unread,
      (hs0_6 t).read_unread, (hs0_7 t).read_unread, (hs0_8 t).read_unread,
      View.ld_unit_zero (S := S512x1024) hz, View.ld_unit_zero (S := S1024x1024) hz, View.ld_unit_zero (S := S2048x1024) hz]
  · rw [outsAt0_B m c t h0]; dsimp only; unfold out0_B_11
    refine (View.read_writes_eq_canon _ _ _ fun y => cover0_B_11 ..).trans ?_
    unfold kernelRun0_B; dsimp only; sl_unfold_words
    rw [View.canon_unit_zero (S := S512x1024) hz]
    simp only [View.readAt_eq_ld, (hs0_0 t).read_unread, (hs0_1 t).read_unread, (hs0_2 t).read_unread, (hs0_3 t).read_unread,
      (hs0_6 t).read_unread, (hs0_7 t).read_unread, (hs0_8 t).read_unread,
      View.ld_unit_zero (S := S512x1024) hz, View.ld_unit_zero (S := S1024x1024) hz, View.ld_unit_zero (S := S2048x1024) hz]

theorem out12 (c : Dev nD) (t : Fin cfg0.N) : (outsAt0 m c t.val t.isLt).2.2.2.1
    = k0_pay1 (k0_pay15 (k0_pay4 (iblk m c 0 t) (iblk m c 1 t)) (k0_pay5 (iblk m c 6 t) (lo (iblk m c 8 t)))) (iblk m c 2 t) := by
  by_cases h0 : t.val % 32 = 0
  · rw [outsAt0_A m c t h0]; dsimp only; unfold out0_A_12
    refine (View.read_writes_eq_canon _ _ _ fun y => cover0_A_12 ..).trans ?_
    unfold kernelRun0_A; dsimp only; sl_unfold_words
    rw [View.canon_unit_zero (S := S512x2048) hz]
    simp only [View.readAt_eq_ld, (hs0_0 t).read_unread, (hs0_1 t).read_unread, (hs0_2 t).read_unread, (hs0_3 t).read_unread,
      (hs0_6 t).read_unread, (hs0_7 t).read_unread, (hs0_8 t).read_unread,
      View.ld_unit_zero (S := S512x1024) hz, View.ld_unit_zero (S := S1024x1024) hz, View.ld_unit_zero (S := S2048x1024) hz]
  · rw [outsAt0_B m c t h0]; dsimp only; unfold out0_B_12
    refine (View.read_writes_eq_canon _ _ _ fun y => cover0_B_12 ..).trans ?_
    unfold kernelRun0_B; dsimp only; sl_unfold_words
    rw [View.canon_unit_zero (S := S512x2048) hz]
    simp only [View.readAt_eq_ld, (hs0_0 t).read_unread, (hs0_1 t).read_unread, (hs0_2 t).read_unread, (hs0_3 t).read_unread,
      (hs0_6 t).read_unread, (hs0_7 t).read_unread, (hs0_8 t).read_unread,
      View.ld_unit_zero (S := S512x1024) hz, View.ld_unit_zero (S := S1024x1024) hz, View.ld_unit_zero (S := S2048x1024) hz]

theorem out13 (c : Dev nD) (t : Fin cfg0.N) : (outsAt0 m c t.val t.isLt).2.2.2.2.1
    = k0_pay2 (k0_pay16 (k0_pay4 (iblk m c 0 t) (iblk m c 1 t)) (k0_pay6 (iblk m c 7 t) (hi (iblk m c 8 t)))) (iblk m c 3 t) := by
  by_cases h0 : t.val % 32 = 0
  · rw [outsAt0_A m c t h0]; dsimp only; unfold out0_A_13
    refine (View.read_writes_eq_canon _ _ _ fun y => cover0_A_13 ..).trans ?_
    unfold kernelRun0_A; dsimp only; sl_unfold_words
    rw [View.canon_unit_zero (S := S512x1024) hz]
    simp only [View.readAt_eq_ld, (hs0_0 t).read_unread, (hs0_1 t).read_unread, (hs0_2 t).read_unread, (hs0_3 t).read_unread,
      (hs0_6 t).read_unread, (hs0_7 t).read_unread, (hs0_8 t).read_unread,
      View.ld_unit_zero (S := S512x1024) hz, View.ld_unit_zero (S := S1024x1024) hz, View.ld_unit_zero (S := S2048x1024) hz]
  · rw [outsAt0_B m c t h0]; dsimp only; unfold out0_B_13
    refine (View.read_writes_eq_canon _ _ _ fun y => cover0_B_13 ..).trans ?_
    unfold kernelRun0_B; dsimp only; sl_unfold_words
    rw [View.canon_unit_zero (S := S512x1024) hz]
    simp only [View.readAt_eq_ld, (hs0_0 t).read_unread, (hs0_1 t).read_unread, (hs0_2 t).read_unread, (hs0_3 t).read_unread,
      (hs0_6 t).read_unread, (hs0_7 t).read_unread, (hs0_8 t).read_unread,
      View.ld_unit_zero (S := S512x1024) hz, View.ld_unit_zero (S := S1024x1024) hz, View.ld_unit_zero (S := S2048x1024) hz]

theorem out9 (c : Dev nD) (t : Fin cfg0.N) : (outsAt0 m c t.val t.isLt).1
    = View.canon [⟨Rect.unit (s := S512x2048) ![0, 1024] S512x1024.size inb_S512x2048_S512x1024_0_1024,
          k0_pay12 (k0_pay4 (iblk m c 0 t) (iblk m c 1 t)) (k0_pay6 (iblk m c 7 t) (hi (iblk m c 8 t))) (iblk m c 5 t)⟩,
        ⟨Rect.unit (s := S512x2048) ![0, 0] S512x1024.size inb_S512x2048_S512x1024_0_0,
          k0_pay11 (k0_pay7 (iblk m c 0 t) (iblk m c 1 t) (iblk m c 6 t) (lo (iblk m c 8 t)) (iblk m c 4 t))
            (k0_pay8 (iblk m c 6 t) (lo (iblk m c 8 t)))⟩] := by
  by_cases h0 : t.val % 32 = 0
  · rw [outsAt0_A m c t h0]; dsimp only; unfold out0_A_9
    refine (View.read_writes_eq_canon _ _ _ fun y => cover0_A_9 ..).trans ?_
    unfold kernelRun0_A; dsimp only; sl_unfold_words
    simp only [View.readAt_eq_ld, (hs0_0 t).read_unread, (hs0_1 t).read_unread, (hs0_4 t).read_unread, (hs0_5 t).read_unread,
      (hs0_6 t).read_unread, (hs0_7 t).read_unread, (hs0_8 t).read_unread,
      View.ld_unit_zero (S := S512x1024) hz, View.ld_unit_zero (S := S1024x1024) hz]
  · rw [outsAt0_B m c t h0]; dsimp only; unfold out0_B_9
    refine (View.read_writes_eq_canon _ _ _ fun y => cover0_B_9 ..).trans ?_
    unfold kernelRun0_B; dsimp only; sl_unfold_words
    simp only [View.readAt_eq_ld, (hs0_0 t).read_unread, (hs0_1 t).read_unread, (hs0_4 t).read_unread, (hs0_5 t).read_unread,
      (hs0_6 t).read_unread, (hs0_7 t).read_unread, (hs0_8 t).read_unread,
      View.ld_unit_zero (S := S512x1024) hz, View.ld_unit_zero (S := S1024x1024) hz]

theorem out14_A (c : Dev nD) (t : Fin cfg0.N) (h0 : t.val % 32 = 0) : (outsAt0 m c t.val t.isLt).2.2.2.2.2
    = View.canon (⟨Rect.unit (s := S1x2048) ![0, 1024] S1x1024.size inb_S1x2048_S1x1024_0_1024,
          k0_pay14 (k0_pay4 (iblk m c 0 t) (iblk m c 1 t)) (k0_pay6 (iblk m c 7 t) (hi (iblk m c 8 t))) (iblk m c 5 t) (hi (k0_pay3 (F := F)))⟩
        :: ⟨Rect.unit (s := S1x2048) ![0, 0] S1x1024.size inb_S1x2048_S1x1024_0_0,
          k0_pay13 (k0_pay7 (iblk m c 0 t) (iblk m c 1 t) (iblk m c 6 t) (lo (iblk m c 8 t)) (iblk m c 4 t))
            (k0_pay8 (iblk m c 6 t) (lo (iblk m c 8 t))) (lo (k0_pay3 (F := F)))⟩ :: [⟨Rect.unit (s := S1x2048) ![0, 0] S1x2048.size inb_S1x2048_S1x2048_0_0, k0_pay3⟩]) := by
  rw [outsAt0_A m c t h0]; dsimp only; unfold out0_A_14
  refine (View.read_writes_eq_canon _ _ _ fun y => cover0_A_14 ..).trans ?_
  unfold kernelRun0_A; dsimp only; sl_unfold_words
  simp only [View.readAt_eq_ld, (hs0_0 t).read_unread, (hs0_1 t).read_unread, (hs0_4 t).read_unread, (hs0_5 t).read_unread,
      (hs0_6 t).read_unread, (hs0_7 t).read_unread, (hs0_8 t).read_unread,
      View.ld_unit_zero (S := S512x1024) hz, View.ld_unit_zero (S := S1024x1024) hz]
  rw [View.readCov_skip _ _ _ _ _ (by rfl), fill, fill]

theorem out14_B (c : Dev nD) (t : Fin cfg0.N) (h0 : ¬ t.val % 32 = 0) : (outsAt0 m c t.val t.isLt).2.2.2.2.2
    = View.canon (⟨Rect.unit (s := S1x2048) ![0, 1024] S1x1024.size inb_S1x2048_S1x1024_0_1024,
          k0_pay14 (k0_pay4 (iblk m c 0 t) (iblk m c 1 t)) (k0_pay6 (iblk m c 7 t) (hi (iblk m c 8 t))) (iblk m c 5 t) (hi (outsAt0 m c (t.val - 1) (Nat.lt_of_le_of_lt (Nat.sub_le _ _) t.isLt)).2.2.2.2.2)⟩
        :: ⟨Rect.unit (s := S1x2048) ![0, 0] S1x1024.size inb_S1x2048_S1x1024_0_0,
          k0_pay13 (k0_pay7 (iblk m c 0 t) (iblk m c 1 t) (iblk m c 6 t) (lo (iblk m c 8 t)) (iblk m c 4 t))
            (k0_pay8 (iblk m c 6 t) (lo (iblk m c 8 t))) (lo (outsAt0 m c (t.val - 1) (Nat.lt_of_le_of_lt (Nat.sub_le _ _) t.isLt)).2.2.2.2.2)⟩ :: []) := by
  rw [outsAt0_B m c t h0]; dsimp only; unfold out0_B_14
  refine (View.read_writes_eq_canon _ _ _ fun y => cover0_B_14 ..).trans ?_
  unfold kernelRun0_B; dsimp only; sl_unfold_words
  simp only [View.readAt_eq_ld, (hs0_0 t).read_unread, (hs0_1 t).read_unread, (hs0_4 t).read_unread, (hs0_5 t).read_unread,
      (hs0_6 t).read_unread, (hs0_7 t).read_unread, (hs0_8 t).read_unread, (hs0_14 t).read_unread,
      View.ld_unit_zero (S := S512x1024) hz, View.ld_unit_zero (S := S1024x1024) hz]

end Cert.KernelIdeal.Mix
-- ==== Proof.Mix.Arr.lean ====
/-
  The blocks the gate-gradient kernel reads and writes, as parts of whole arrays.
-/
module

public import proofs.«01_k».proof.Proof.Gen.KernelIdeal.Value
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.KernelIdeal.Mix

open Cert.KernelIdeal Cert.KernelIdeal.Gen Cert.KernelIdeal.Value

variable {F : FTy → Type} [FloatOps F]
variable (m : (ℓ : Loc nD τ sig) → Buf (Elt F) ℓ)

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 6 := by decide +kernel
theorem idx7 : ∀ t : Fin cfg0.N, win0_7.index t 0 = t.val ∧ win0_7.index t 1 = 7 := by decide +kernel
theorem idx8 : ∀ t : Fin cfg0.N, win0_8.index t 0 = 0 ∧ win0_8.index t 1 = 0 := by decide +kernel
theorem idx9 : ∀ t : Fin cfg0.N, win0_9.index t 0 = t.val ∧ win0_9.index t 1 = 3 := by decide +kernel
theorem idx10 : ∀ t : Fin cfg0.N, win0_10.index t 0 = t.val ∧ win0_10.index t 1 = 0 := by decide +kernel
theorem idx11 : ∀ t : Fin cfg0.N, win0_11.index t 0 = t.val ∧ win0_11.index t 1 = 0 := by decide +kernel
theorem idx12 : ∀ t : Fin cfg0.N, win0_12.index t 0 = t.val ∧ win0_12.index t 1 = 0 := by decide +kernel
theorem idx13 : ∀ t : Fin cfg0.N, win0_13.index t 0 = t.val ∧ win0_13.index t 1 = 0 := by decide +kernel

theorem ib0 (c : Dev nD) (t : Fin cfg0.N) (r : Fin 512) (R : Fin 16384) (hR : R.val = 512 * t.val + r.val) (d : Fin 1024) :
    iblk m c 0 t (ix2 r d) = V m c main_arg7 (ix2 R d) := by
  unfold iblk
  rw [View.read_apply]
  show V m c main_arg7 _ = _
  congr 1
  funext a
  apply Fin.ext
  match a with
  | ⟨0, _⟩ => show win0_0.index t 0 * 512 + 1 * r.val = R.val; rw [(idx0 t).1]; omega
  | ⟨1, _⟩ => show win0_0.index t 1 * 1024 + 1 * d.val = d.val; rw [(idx0 t).2]; omega

theorem ib1 (c : Dev nD) (t : Fin cfg0.N) (r : Fin 1024) (d : Fin 1024) :
    iblk m c 1 t (ix2 r d) = V m c main_arg6 (ix2 r d) := by
  unfold iblk
  rw [View.read_apply]
  show V m c main_arg6 _ = _
  congr 1
  funext a
  apply Fin.ext
  match a with
  | ⟨0, _⟩ => show win0_1.index t 0 * 1024 + 1 * r.val = r.val; rw [(idx1 t).1]; omega
  | ⟨1, _⟩ => show win0_1.index t 1 * 1024 + 1 * d.val = d.val; rw [(idx1 t).2]; omega

theorem ib2 (c : Dev nD) (t : Fin cfg0.N) (r : Fin 2048) (d : Fin 1024) :
    iblk m c 2 t (ix2 r d) = V m c main_arg4 (ix2 r d) := by
  unfold iblk
  rw [View.read_apply]
  show V m c main_arg4 _ = _
  congr 1
  funext a
  apply Fin.ext
  match a with
  | ⟨0, _⟩ => show win0_2.index t 0 * 2048 + 1 * r.val = r.val; rw [(idx2 t).1]; omega
  | ⟨1, _⟩ => show win0_2.index t 1 * 1024 + 1 * d.val = d.val; rw [(idx2 t).2]; omega

theorem ib3 (c : Dev nD) (t : Fin cfg0.N) (r : Fin 1024) (d : Fin 1024) :
    iblk m c 3 t (ix2 r d) = V m c main_arg5 (ix2 r d) := by
  unfold iblk
  rw [View.read_apply]
  show V m c main_arg5 _ = _
  congr 1
  funext a
  apply Fin.ext
  match a with
  | ⟨0, _⟩ => show win0_3.index t 0 * 1024 + 1 * r.val = r.val; rw [(idx3 t).1]; omega
  | ⟨1, _⟩ => show win0_3.index t 1 * 1024 + 1 * d.val = d.val; rw [(idx3 t).2]; omega

theorem ib4 (c : Dev nD) (t : Fin cfg0.N) (r : Fin 512) (R : Fin 16384) (hR : R.val = 512 * t.val + r.val) (d : Fin 1024) :
    iblk m c 4 t (ix2 r d) = V m c main_v0 (ix2 R d) := by
  unfold iblk
  rw [View.read_apply]
  show V m c main_v0 _ = _
  congr 1
  funext a
  apply Fin.ext
  match a with
  | ⟨0, _⟩ => show win0_4.index t 0 * 512 + 1 * r.val = R.val; rw [(idx4 t).1]; omega
  | ⟨1, _⟩ => show win0_4.index t 1 * 1024 + 1 * d.val = d.val; rw [(idx4 t).2]; omega

theorem ib5 (c : Dev nD) (t : Fin cfg0.N) (r : Fin 512) (R : Fin 16384) (hR : R.val = 512 * t.val + r.val) (d : Fin 1024) :
    iblk m c 5 t (ix2 r d) = V m c main_v1 (ix2 R d) := by
  unfold iblk
  rw [View.read_apply]
  show V m c main_v1 _ = _
  congr 1
  funext a
  apply Fin.ext
  match a with
  | ⟨0, _⟩ => show win0_5.index t 0 * 512 + 1 * r.val = R.val; rw [(idx5 t).1]; omega
  | ⟨1, _⟩ => show win0_5.index t 1 * 1024 + 1 * d.val = d.val; rw [(idx5 t).2]; omega

theorem ib6 (c : Dev nD) (t : Fin cfg0.N) (r : Fin 512) (R : Fin 16384) (hR : R.val = 512 * t.val + r.val) (d : Fin 1024) :
    iblk m c 6 t (ix2 r d) = V m c main_arg2 (ix2 R ⟨6144 + d.val, by omega⟩) := by
  unfold iblk
  rw [View.read_apply]
  show V m c main_arg2 _ = _
  congr 1
  funext a
  apply Fin.ext
  match a with
  | ⟨0, _⟩ => show win0_6.index t 0 * 512 + 1 * r.val = R.val; rw [(idx6 t).1]; omega
  | ⟨1, _⟩ => show win0_6.index t 1 * 1024 + 1 * d.val = 6144 + d.val; rw [(idx6 t).2]; omega

theorem ib7 (c : Dev nD) (t : Fin cfg0.N) (r : Fin 512) (R : Fin 16384) (hR : R.val = 512 * t.val + r.val) (d : Fin 1024) :
    iblk m c 7 t (ix2 r d) = V m c main_arg2 (ix2 R ⟨7168 + d.val, by omega⟩) := by
  unfold iblk
  rw [View.read_apply]
  show V m c main_arg2 _ = _
  congr 1
  funext a
  apply Fin.ext
  match a with
  | ⟨0, _⟩ => show win0_7.index t 0 * 512 + 1 * r.val = R.val; rw [(idx7 t).1]; omega
  | ⟨1, _⟩ => show win0_7.index t 1 * 1024 + 1 * d.val = 7168 + d.val; rw [(idx7 t).2]; omega

theorem ib8 (c : Dev nD) (t : Fin cfg0.N) (r : Fin 1) (d : Fin 2048) :
    iblk m c 8 t (ix2 r d) = V m c main_arg3 (ix2 r d) := by
  unfold iblk
  rw [View.read_apply]
  show V m c main_arg3 _ = _
  congr 1
  funext a
  apply Fin.ext
  match a with
  | ⟨0, _⟩ => show win0_8.index t 0 * 1 + 1 * r.val = r.val; rw [(idx8 t).1]; omega
  | ⟨1, _⟩ => show win0_8.index t 1 * 2048 + 1 * d.val = d.val; rw [(idx8 t).2]; omega

theorem arr9 (c : Dev nD) (t : Fin cfg0.N) (r : Fin 512) (R : Fin 16384) (hR : R.val = 512 * t.val + r.val) (d : Fin 2048) :
    (dats m 0 c).arrAt 9 cfg0.N (ix2 R ⟨6144 + d.val, by omega⟩) = (outsAt0 m c t.val t.isLt).1 (ix2 r d) := by
  have h := congrFun (blocks9 m c t (flush0_9 t)) (ix2 r d)
  rw [View.read_apply, flushed9] at h
  refine (congrArg _ ?_).trans h
  funext a
  apply Fin.ext
  match a with
  | ⟨0, _⟩ => show R.val = win0_9.index t 0 * 512 + 1 * r.val; rw [(idx9 t).1]; omega
  | ⟨1, _⟩ => show 6144 + d.val = win0_9.index t 1 * 2048 + 1 * d.val; rw [(idx9 t).2]; omega

theorem arr10 (c : Dev nD) (t : Fin cfg0.N) (r : Fin 512) (R : Fin 16384) (hR : R.val = 512 * t.val + r.val) (d : Fin 1024) :
    (dats m 0 c).arrAt 10 cfg0.N (ix2 R d) = (outsAt0 m c t.val t.isLt).2.1 (ix2 r d) := by
  have h := congrFun (blocks10 m c t (flush0_10 t)) (ix2 r d)
  rw [View.read_apply, flushed10] at h
  refine (congrArg _ ?_).trans h
  funext a
  apply Fin.ext
  match a with
  | ⟨0, _⟩ => show R.val = win0_10.index t 0 * 512 + 1 * r.val; rw [(idx10 t).1]; omega
  | ⟨1, _⟩ => show d.val = win0_10.index t 1 * 1024 + 1 * d.val; rw [(idx10 t).2]; omega

theorem arr11 (c : Dev nD) (t : Fin cfg0.N) (r : Fin 512) (R : Fin 16384) (hR : R.val = 512 * t.val + r.val) (d : Fin 1024) :
    (dats m 0 c).arrAt 11 cfg0.N (ix2 R d) = (outsAt0 m c t.val t.isLt).2.2.1 (ix2 r d) := by
  have h := congrFun (blocks11 m c t (flush0_11 t)) (ix2 r d)
  rw [View.read_apply, flushed11] at h
  refine (congrArg _ ?_).trans h
  funext a
  apply Fin.ext
  match a with
  | ⟨0, _⟩ => show R.val = win0_11.index t 0 * 512 + 1 * r.val; rw [(idx11 t).1]; omega
  | ⟨1, _⟩ => show d.val = win0_11.index t 1 * 1024 + 1 * d.val; rw [(idx11 t).2]; omega

theorem arr12 (c : Dev nD) (t : Fin cfg0.N) (r : Fin 512) (R : Fin 16384) (hR : R.val = 512 * t.val + r.val) (d : Fin 2048) :
    (dats m 0 c).arrAt 12 cfg0.N (ix2 R d) = (outsAt0 m c t.val t.isLt).2.2.2.1 (ix2 r d) := by
  have h := congrFun (blocks12 m c t (flush0_12 t)) (ix2 r d)
  rw [View.read_apply, flushed12] at h
  refine (congrArg _ ?_).trans h
  funext a
  apply Fin.ext
  match a with
  | ⟨0, _⟩ => show R.val = win0_12.index t 0 * 512 + 1 * r.val; rw [(idx12 t).1]; omega
  | ⟨1, _⟩ => show d.val = win0_12.index t 1 * 2048 + 1 * d.val; rw [(idx12 t).2]; omega

theorem arr13 (c : Dev nD) (t : Fin cfg0.N) (r : Fin 512) (R : Fin 16384) (hR : R.val = 512 * t.val + r.val) (d : Fin 1024) :
    (dats m 0 c).arrAt 13 cfg0.N (ix2 R d) = (outsAt0 m c t.val t.isLt).2.2.2.2.1 (ix2 r d) := by
  have h := congrFun (blocks13 m c t (flush0_13 t)) (ix2 r d)
  rw [View.read_apply, flushed13] at h
  refine (congrArg _ ?_).trans h
  funext a
  apply Fin.ext
  match a with
  | ⟨0, _⟩ => show R.val = win0_13.index t 0 * 512 + 1 * r.val; rw [(idx13 t).1]; omega
  | ⟨1, _⟩ => show d.val = win0_13.index t 1 * 1024 + 1 * d.val; rw [(idx13 t).2]; omega

theorem hN : cfg0.N = 32 := N_0

/-- The last point. -/
abbrev last : Fin cfg0.N := ⟨31, by rw [hN]; omega⟩

theorem idx14 : ∀ t : Fin cfg0.N, win0_14.index t 0 = 0 ∧ win0_14.index t 1 = 0 := by decide +kernel

/-- The bias row's gradient: the block the last point leaves is the whole array. -/
theorem arr14 (c : Dev nD) (r : Fin 1) (d : Fin 2048) :
    (dats m 0 c).arrAt 14 cfg0.N (ix2 r d) = (outsAt0 m c last.val last.isLt).2.2.2.2.2 (ix2 r d) := by
  have hd : ∀ t t' : Fin cfg0.N, (cfg0.win 14).flush t = true → (cfg0.win 14).flush t' = true → t ≠ t'
      → Disjoint ((cfg0.win 14).blk t).view.set ((cfg0.win 14).blk t').view.set := by
    intro t t' h h' hne
    have h1 := (flush0_14 t).mp h
    have h2 := (flush0_14 t').mp h'
    have h3 : t.val < 32 := hN ▸ t.isLt
    have h4 : t'.val < 32 := hN ▸ t'.isLt
    exact absurd (Fin.ext (by omega)) hne
  have h := congrFun ((dats m 0 c).read_blk_arrAt_eq_flushed 14 hd cfg0.N last last.isLt ((flush0_14 last).mpr rfl)) (ix2 r d)
  rw [View.read_apply, flushed14] at h
  refine (congrArg _ ?_).trans h
  funext a
  apply Fin.ext
  match a with
  | ⟨0, _⟩ => show r.val = win0_14.index last 0 * 1 + 1 * r.val; rw [(idx14 last).1]; omega
  | ⟨1, _⟩ => show d.val = win0_14.index last 1 * 2048 + 1 * d.val; rw [(idx14 last).2]; omega

end Cert.KernelIdeal.Mix
-- ==== Proof.Mix.Sig.lean ====
/-
  The kernels' sigmoid, written with a hyperbolic tangent, is the reference's sigmoid, written with an exponential, on
  all extended reals.
-/
module

public import Idealize.ShloMosaic.Lib.Pointwise
public import Idealize.ShloMosaic.Lib.ValueIdx

@[expose] public section

noncomputable section

open Idealize.ShloMosaic

namespace Cert.Mix

/-- The kernels' sigmoid. -/
def sgt (x : EReal) : EReal := ((1 / 2 : ℝ) : EReal) * Ideal.tanh (((1 / 2 : ℝ) : EReal) * x) + ((1 / 2 : ℝ) : EReal)

theorem real_sig (r : ℝ) : 1 / 2 * Real.tanh (1 / 2 * r) + 1 / 2 = 1 / (1 + Real.exp (-r)) := by
  rw [Real.tanh_eq_sinh_div_cosh, Real.sinh_eq, Real.cosh_eq]
  have h1 : Real.exp (-r) = Real.exp (-(1 / 2 * r)) / Real.exp (1 / 2 * r) := by
    rw [← Real.exp_sub]; congr 1; ring
  have h2 := Real.exp_pos (1 / 2 * r)
  have h3 := Real.exp_pos (-(1 / 2 * r))
  rw [h1]; field_simp; ring

theorem half_mul_bot : ((1 / 2 : ℝ) : EReal) * ⊥ = ⊥ := EReal.coe_mul_bot_of_pos (by norm_num)
theorem half_mul_top : ((1 / 2 : ℝ) : EReal) * ⊤ = ⊤ := EReal.coe_mul_top_of_pos (by norm_num)

theorem sgt_eq (x : EReal) : sgt x = Ideal.logistic x := by
  unfold sgt
  induction x using EReal.rec with
  | bot =>
    rw [half_mul_bot, Ideal.tanh_bot, Ideal.logistic_bot, show (-1 : EReal) = ((-1 : ℝ) : EReal) by simp, ← EReal.coe_mul,
      ← EReal.coe_add, show (1 / 2 * -1 + 1 / 2 : ℝ) = 0 by norm_num, EReal.coe_zero]
  | coe r =>
    rw [← EReal.coe_mul, Ideal.tanh_coe, ← EReal.coe_mul, ← EReal.coe_add, real_sig, Ideal.logistic_coe, one_div]
  | top =>
    rw [half_mul_top, Ideal.tanh_top, Ideal.logistic_top, mul_one, ← EReal.coe_add, show (1 / 2 + 1 / 2 : ℝ) = 1 by norm_num,
      EReal.coe_one]

theorem half_f32 : Ideal.ofBits .f32 0x3F000000#32 = ((1 / 2 : ℝ) : EReal) := by
  simp [Ideal.ofBits, Ideal.ieee, ← EReal.coe_mul]; norm_num

/-- The kernels' sigmoid as it is printed. -/
theorem sig_f32 (x : EReal) :
    Ideal.ofBits .f32 0x3F000000#32 * Ideal.tanh (Ideal.ofBits .f32 0x3F000000#32 * x) + Ideal.ofBits .f32 0x3F000000#32
      = Ideal.logistic x := by
  rw [half_f32]; exact sgt_eq x

end Cert.Mix
-- ==== Proof.Mix.Spec.lean ====
/-
  The gradient of the gated merge and of its two branch products, written out with sums over rows and columns, and the
  reference read as these functions.
-/
module

public import proofs.«01_k».proof.Proof.Gen.ReferenceIdeal.Read
public import Idealize.ShloMosaic.Lib.Pointwise
public import Idealize.ShloMosaic.Lib.IdealHost
public import Idealize.ShloMosaic.Lib.ValueIdx

@[expose] public section

noncomputable section

open Idealize.ShloMosaic

namespace Cert.Mix

/-- A matrix of extended reals. -/
abbrev Mat (a b : Nat) : Type := (⟨2, ![a, b]⟩ : Shape).Idx → EReal

/-- The gradient of the merge: the product with the transposed projection. -/
def dm (dr : Mat 16384 1024) (wmo : Mat 1024 1024) (R : Fin 16384) (d : Fin 1024) : EReal :=
  ∑ k : Fin 1024, dr (ix2 R k) * wmo (ix2 d k)

/-- The state-space branch's gate. -/
def gs (pm : Mat 16384 8192) (bg : Mat 1 2048) (R : Fin 16384) (d : Fin 1024) : EReal :=
  Ideal.logistic (pm (ix2 R ⟨6144 + d.val, by omega⟩) + bg (ix2 0 ⟨d.val, by omega⟩))

/-- The attention branch's gate. -/
def ga (pm : Mat 16384 8192) (bg : Mat 1 2048) (R : Fin 16384) (d : Fin 1024) : EReal :=
  Ideal.logistic (pm (ix2 R ⟨7168 + d.val, by omega⟩) + bg (ix2 0 ⟨1024 + d.val, by omega⟩))

/-- The state-space branch's product. -/
def bs (ys : Mat 16384 2048) (wbs : Mat 2048 1024) (R : Fin 16384) (d : Fin 1024) : EReal :=
  ∑ k : Fin 2048, ys (ix2 R k) * wbs (ix2 k d)

/-- The attention branch's product. -/
def ba (ya : Mat 16384 1024) (wba : Mat 1024 1024) (R : Fin 16384) (d : Fin 1024) : EReal :=
  ∑ k : Fin 1024, ya (ix2 R k) * wba (ix2 k d)

/-- The gradient of a gate before its sigmoid, from the gate, the branch and the merge's gradient. -/
def dpre (dm b g : EReal) : EReal := dm * b * g * (1 - g)

/-- The gradient of both gates before their sigmoids, from the branch products. -/
def dg (pm : Mat 16384 8192) (bg : Mat 1 2048) (wmo : Mat 1024 1024) (dr : Mat 16384 1024) (bs ba : Fin 16384 → Fin 1024 → EReal)
    (R : Fin 16384) (C : Fin 2048) : EReal :=
  if h : C.val < 1024 then dpre (dm dr wmo R ⟨C.val, h⟩) (bs R ⟨C.val, h⟩) (gs pm bg R ⟨C.val, h⟩)
  else dpre (dm dr wmo R ⟨C.val - 1024, by omega⟩) (ba R ⟨C.val - 1024, by omega⟩) (ga pm bg R ⟨C.val - 1024, by omega⟩)

end Cert.Mix

namespace Cert.ReferenceIdeal.Mix
open Cert.ReferenceIdeal Cert.ReferenceIdeal.Read Cert.Mix

theorem v26 (x6 x7) (r : Fin 16384) (d : Fin 1024) : val_main_v26 (F := Ideal) x6 x7 (ix2 r d) = dm x7 x6 r d := by
  pointwise [val_main_v26, val_main_v4, val_main_v5]; rfl

theorem v7 (x0 x4) (r : Fin 16384) (d : Fin 1024) : val_main_v7 (F := Ideal) x0 x4 (ix2 r d) = bs x0 x4 r d := by
  pointwise [val_main_v7, val_main_v0, val_main_v2]; rfl

theorem v8 (x1 x5) (r : Fin 16384) (d : Fin 1024) : val_main_v8 (F := Ideal) x1 x5 (ix2 r d) = ba x1 x5 r d := by
  pointwise [val_main_v8, val_main_v1, val_main_v3]; rfl

/-- Both gates, by columns. -/
theorem v16 (x2 x3) (r : Fin 16384) (C : Fin 2048) : val_main_v16 (F := Ideal) x2 x3 (ix2 r C)
    = Ideal.logistic (x2 (ix2 r ⟨6144 + C.val, by omega⟩) + x3 (ix2 0 C)) := by
  pointwise [val_main_v16, val_main_v15, val_main_v14, val_main_v13, val_main_v12, val_main_v11, val_main_v10, val_main_v9, val_main_v6,
    val_main_cst, val_main_cst_0, Ideal.ofBits_one_f32, Ideal.logistic]

theorem v20 (x2 x3) (r : Fin 16384) (d : Fin 1024) : val_main_v20 (F := Ideal) x2 x3 (ix2 r d) = gs x2 x3 r d := by
  pointwise [val_main_v20, v16]; rfl

theorem v21 (x2 x3) (r : Fin 16384) (d : Fin 1024) : val_main_v21 (F := Ideal) x2 x3 (ix2 r d) = ga x2 x3 r d := by
  pointwise [val_main_v21, v16]; unfold ga; congr 4; exact Fin.ext (by simp only; omega)

theorem v29 (x2 x3 x6 x7) (r : Fin 16384) (d : Fin 1024) : val_main_v29 (F := Ideal) x2 x3 x6 x7 (ix2 r d) = dm x7 x6 r d * gs x2 x3 r d := by
  pointwise [val_main_v29, v20, v26]; exact mul_comm _ _

theorem v27 (x2 x3 x6 x7) (r : Fin 16384) (d : Fin 1024) : val_main_v27 (F := Ideal) x2 x3 x6 x7 (ix2 r d) = dm x7 x6 r d * ga x2 x3 r d := by
  pointwise [val_main_v27, v21, v26]; exact mul_comm _ _

theorem v40 (x2 x3 x6 x7) (r : Fin 16384) (d : Fin 1024) : val_main_v40 (F := Ideal) x2 x3 x6 x7 (ix2 r d) = dm x7 x6 r d * gs x2 x3 r d := by
  pointwise [val_main_v40, v29]

theorem v41 (x2 x3 x6 x7) (r : Fin 16384) (d : Fin 1024) : val_main_v41 (F := Ideal) x2 x3 x6 x7 (ix2 r d) = dm x7 x6 r d * ga x2 x3 r d := by
  pointwise [val_main_v41, v27]

theorem v37 (x2 x3 x4 x6 x7) (r : Fin 16384) (i : Fin 2048) : val_main_v37 (F := Ideal) x2 x3 x4 x6 x7 (ix2 r i)
    = ∑ d : Fin 1024, dm x7 x6 r d * gs x2 x3 r d * (x4 (ix2 i d) : EReal) := by
  pointwise [val_main_v37, v29, val_main_v2]

theorem v42 (x2 x3 x5 x6 x7) (r : Fin 16384) (i : Fin 1024) : val_main_v42 (F := Ideal) x2 x3 x5 x6 x7 (ix2 r i)
    = ∑ d : Fin 1024, dm x7 x6 r d * ga x2 x3 r d * (x5 (ix2 i d) : EReal) := by
  pointwise [val_main_v42, val_main_v38, v27, val_main_v3]

theorem v32 (x0 x1 x2 x3 x4 x5 x6 x7) (r : Fin 16384) (C : Fin 2048) : val_main_v32 (F := Ideal) x0 x1 x2 x3 x4 x5 x6 x7 (ix2 r C)
    = dg x2 x3 x6 x7 (bs x0 x4) (ba x1 x5) r C := by
  pointwise [val_main_v32, val_main_v31, val_main_v30, val_main_v28, val_main_v19, val_main_v18, val_main_v17, val_main_cst_1, v16, v26, v7, v8,
    Ideal.ofBits_one_f32]
  unfold dg
  split
  · rename_i h
    rw [← mul_assoc]; rfl
  · rename_i h
    rw [← mul_assoc]; unfold dpre ga
    have h1 : (⟨7168 + (C.val - 1024), by omega⟩ : Fin 8192) = ⟨6144 + C.val, by omega⟩ := Fin.ext (by simp only; omega)
    have h2 : (⟨1024 + (C.val - 1024), by omega⟩ : Fin 2048) = C := Fin.ext (by simp only; omega)
    simp only [h1, h2]

theorem v39 (x0 x1 x2 x3 x4 x5 x6 x7) (r : Fin 16384) (C : Fin 2048) :
    val_main_v39 (F := Ideal) x0 x1 x2 x3 x4 x5 x6 x7 (ix2 r ⟨6144 + C.val, by omega⟩)
    = dg x2 x3 x6 x7 (bs x0 x4) (ba x1 x5) r C := by
  have h : ¬ 6144 + C.val < 6144 := by omega
  pointwise (disch := omega) [val_main_v39, val_main_v36, v32]

theorem v34 (x0 x1 x2 x3 x4 x5 x6 x7) (r : Fin 1) (C : Fin 2048) :
    val_main_v34 (F := Ideal) x0 x1 x2 x3 x4 x5 x6 x7 (ix2 r C) = ∑ R, dg x2 x3 x6 x7 (bs x0 x4) (ba x1 x5) R C := by
  pointwise [val_main_v34, val_main_v33, v32, val_main_cst_2]

end Cert.ReferenceIdeal.Mix
-- ==== Proof.Mix.Pay.lean ====
/-
  The payloads of the gate-gradient kernel's body, read at an index.
-/
module

public import proofs.«01_k».proof.Proof.Gen.KernelIdeal.Skeleton
public import proofs.«01_k».proof.Proof.Mix.Sig
public import proofs.«01_k».proof.Proof.Mix.Spec

@[expose] public section

noncomputable section

open Idealize.ShloMosaic

namespace Cert.KernelIdeal.Mix
open Cert.KernelIdeal Cert.KernelIdeal.Gen Cert.Mix

theorem pay4 (x0 x1) (r : Fin 512) (d : Fin 1024) :
    k0_pay4 (F := Ideal) x0 x1 (ix2 r d) = ∑ k : Fin 1024, (x0 (ix2 r k) : EReal) * x1 (ix2 d k) := by
  pointwise [k0_pay4]

theorem pay5 (x6 x8) (r : Fin 512) (d : Fin 1024) :
    k0_pay5 (F := Ideal) x6 x8 (ix2 r d) = Ideal.logistic (x6 (ix2 r d) + x8 (ix2 0 d)) := by
  pointwise [k0_pay5, sig_f32]

theorem pay6 (x6 x8) (r : Fin 512) (d : Fin 1024) :
    k0_pay6 (F := Ideal) x6 x8 (ix2 r d) = Ideal.logistic (x6 (ix2 r d) + x8 (ix2 0 d)) := by
  pointwise [k0_pay6, sig_f32]

theorem pay9 (x0 x1 x6 b x4) (r : Fin 512) (d : Fin 1024) :
    k0_pay9 (k0_pay7 (F := Ideal) x0 x1 x6 b x4) (k0_pay8 x6 b) (ix2 r d)
      = dpre (k0_pay4 (F := Ideal) x0 x1 (ix2 r d)) (x4 (ix2 r d)) (k0_pay5 (F := Ideal) x6 b (ix2 r d)) := by
  pointwise [k0_pay9, k0_pay7, k0_pay8, dpre, Ideal.ofBits_one_f32]

theorem pay10 (dm g x5) (r : Fin 512) (d : Fin 1024) :
    k0_pay10 (F := Ideal) dm g x5 (ix2 r d) = dpre (dm (ix2 r d)) (x5 (ix2 r d)) (g (ix2 r d)) := by
  pointwise [k0_pay10, dpre, Ideal.ofBits_one_f32]

theorem pay11 (v31 v33) (r : Fin 512) (d : Fin 1024) :
    k0_pay11 (F := Ideal) v31 v33 (ix2 r d) = k0_pay9 (F := Ideal) v31 v33 (ix2 r d) := by
  pointwise [k0_pay11]

theorem pay12 (dm g x5) (r : Fin 512) (d : Fin 1024) :
    k0_pay12 (F := Ideal) dm g x5 (ix2 r d) = k0_pay10 (F := Ideal) dm g x5 (ix2 r d) := by
  pointwise [k0_pay12]

theorem pay13 (v31 v33 p) (r : Fin 1) (d : Fin 1024) :
    k0_pay13 (F := Ideal) v31 v33 p (ix2 r d) = p (ix2 r d) + ∑ q : Fin 512, k0_pay9 (F := Ideal) v31 v33 (ix2 q d) := by
  pointwise [k0_pay13]

theorem pay14 (dm g x5 p) (r : Fin 1) (d : Fin 1024) :
    k0_pay14 (F := Ideal) dm g x5 p (ix2 r d) = p (ix2 r d) + ∑ q : Fin 512, k0_pay10 (F := Ideal) dm g x5 (ix2 q d) := by
  pointwise [k0_pay14]

theorem pay15 (dm g) (r : Fin 512) (d : Fin 1024) :
    k0_pay15 (F := Ideal) dm g (ix2 r d) = dm (ix2 r d) * g (ix2 r d) := by
  pointwise [k0_pay15]

theorem pay16 (dm g) (r : Fin 512) (d : Fin 1024) :
    k0_pay16 (F := Ideal) dm g (ix2 r d) = dm (ix2 r d) * g (ix2 r d) := by
  pointwise [k0_pay16]

theorem pay1 (b w) (r : Fin 512) (i : Fin 2048) :
    k0_pay1 (F := Ideal) b w (ix2 r i) = ∑ d : Fin 1024, (b (ix2 r d) : EReal) * w (ix2 i d) := by
  pointwise [k0_pay1]

theorem pay2 (b w) (r : Fin 512) (i : Fin 1024) :
    k0_pay2 (F := Ideal) b w (ix2 r i) = ∑ d : Fin 1024, (b (ix2 r d) : EReal) * w (ix2 i d) := by
  pointwise [k0_pay2]

theorem pay3 (r : Fin 1) (d : Fin 2048) : k0_pay3 (F := Ideal) (ix2 r d) = 0 := by
  pointwise [k0_pay3]

end Cert.KernelIdeal.Mix
-- ==== Proof.Mix.Final.lean ====
/-
  The arrays the gate-gradient kernel leaves are the gradients written out with sums.
-/
module

public import proofs.«01_k».proof.Proof.Mix.Body
public import proofs.«01_k».proof.Proof.Mix.Arr
public import proofs.«01_k».proof.Proof.Mix.Pay

@[expose] public section

noncomputable section

open Idealize.ShloMosaic Idealize.ShloMosaic.TcCoe Idealize.SL.Sem
open Idealize.ShloMosaic.Pipeline (Dat)

namespace Cert.KernelIdeal.Mix

open Cert.KernelIdeal Cert.KernelIdeal.Gen Cert.KernelIdeal.Value Cert.Mix

variable (m : (ℓ : Loc nD τ sig) → Buf (Elt Ideal) ℓ) (c : Dev nD)

/-- An argument's contents on a device. -/
abbrev arg (b : Ref sig .tc) : Buf (Elt Ideal) ((c : Thread nD τ).loc b) := m ((c : Thread nD τ).loc b)

theorem v0_apply (R : Fin 16384) (d : Fin 1024) : V m c main_v0 (ix2 R d) = bs (arg m c main_arg0) (arg m c main_arg4) R d := by
  have h : V m c main_v0 = Host.dotGeneral (F := Ideal) (φ₁ := .bf16) (φ₂ := .bf16) dot_S16384x2048_S2048x1024_S16384x1024_1_0_0_1_n_n none (arg m c main_arg0) (arg m c main_arg4) := by
    unfold V hostOps0; after_results_simp <;> rfl
  rw [h]
  pointwise
  rfl

theorem v1_apply (R : Fin 16384) (d : Fin 1024) : V m c main_v1 (ix2 R d) = ba (arg m c main_arg1) (arg m c main_arg5) R d := by
  have h : V m c main_v1 = Host.dotGeneral (F := Ideal) (φ₁ := .bf16) (φ₂ := .bf16) dot_S16384x1024_S1024x1024_S16384x1024_1_0_0_1_n_n none (arg m c main_arg1) (arg m c main_arg5) := by
    unfold V hostOps0; after_results_simp <;> rfl
  rw [h]
  pointwise
  rfl

/-- Row `r` of the block at point `t`, in the whole arrays. -/
abbrev row (t : Fin cfg0.N) (r : Fin 512) : Fin 16384 := ⟨512 * t.val + r.val, by have : t.val < 32 := hN ▸ t.isLt; omega⟩

abbrev DM := dm (arg m c main_arg7) (arg m c main_arg6)
abbrev GS := gs (arg m c main_arg2) (arg m c main_arg3)
abbrev GA := ga (arg m c main_arg2) (arg m c main_arg3)
abbrev BS := bs (arg m c main_arg0) (arg m c main_arg4)
abbrev BA := ba (arg m c main_arg1) (arg m c main_arg5)
abbrev DG := dg (arg m c main_arg2) (arg m c main_arg3) (arg m c main_arg6) (arg m c main_arg7) (BS m c) (BA m c)

variable (t : Fin cfg0.N) (r : Fin 512)

theorem dm_blk (d : Fin 1024) : k0_pay4 (F := Ideal) (iblk m c 0 t) (iblk m c 1 t) (ix2 r d) = DM m c (row t r) d := by
  rw [pay4]
  refine Finset.sum_congr rfl fun k _ => ?_
  rw [ib0 m c t r (row t r) rfl k, ib1 m c t d k, V_main_arg7, V_main_arg6]

theorem gs_blk (d : Fin 1024) : k0_pay5 (F := Ideal) (iblk m c 6 t) (lo (iblk m c 8 t)) (ix2 r d) = GS m c (row t r) d := by
  rw [pay5, ib6 m c t r (row t r) rfl d, lo_apply, ib8 m c t, V_main_arg2, V_main_arg3]; rfl

theorem ga_blk (d : Fin 1024) : k0_pay6 (F := Ideal) (iblk m c 7 t) (hi (iblk m c 8 t)) (ix2 r d) = GA m c (row t r) d := by
  rw [pay6, ib7 m c t r (row t r) rfl d, hi_apply, ib8 m c t, V_main_arg2, V_main_arg3]; rfl

theorem dgs_blk (d : Fin 1024) : k0_pay9 (k0_pay7 (F := Ideal) (iblk m c 0 t) (iblk m c 1 t) (iblk m c 6 t) (lo (iblk m c 8 t)) (iblk m c 4 t))
    (k0_pay8 (iblk m c 6 t) (lo (iblk m c 8 t))) (ix2 r d) = dpre (DM m c (row t r) d) (BS m c (row t r) d) (GS m c (row t r) d) := by
  rw [pay9, dm_blk, gs_blk, ib4 m c t r (row t r) rfl d, v0_apply]

theorem dga_blk (d : Fin 1024) : k0_pay10 (F := Ideal) (k0_pay4 (iblk m c 0 t) (iblk m c 1 t)) (k0_pay6 (iblk m c 7 t) (hi (iblk m c 8 t)))
    (iblk m c 5 t) (ix2 r d) = dpre (DM m c (row t r) d) (BA m c (row t r) d) (GA m c (row t r) d) := by
  rw [pay10, dm_blk, ga_blk, ib5 m c t r (row t r) rfl d, v1_apply]

theorem dbs_blk (d : Fin 1024) : k0_pay15 (F := Ideal) (k0_pay4 (iblk m c 0 t) (iblk m c 1 t)) (k0_pay5 (iblk m c 6 t) (lo (iblk m c 8 t))) (ix2 r d)
    = DM m c (row t r) d * GS m c (row t r) d := by
  rw [pay15, dm_blk, gs_blk]

theorem dba_blk (d : Fin 1024) : k0_pay16 (F := Ideal) (k0_pay4 (iblk m c 0 t) (iblk m c 1 t)) (k0_pay6 (iblk m c 7 t) (hi (iblk m c 8 t))) (ix2 r d)
    = DM m c (row t r) d * GA m c (row t r) d := by
  rw [pay16, dm_blk, ga_blk]

theorem exists_row (R : Fin 16384) : ∃ t : Fin cfg0.N, ∃ r : Fin 512, R = row t r :=
  ⟨⟨R.val / 512, by rw [hN]; omega⟩, ⟨R.val % 512, by omega⟩, Fin.ext (by show R.val = 512 * (R.val / 512) + R.val % 512; omega)⟩

/-- The gates' columns of the first result. -/
theorem final9 (R : Fin 16384) (C : Fin 2048) : (dats m 0 c).arrAt 9 cfg0.N (ix2 R ⟨6144 + C.val, by omega⟩) = DG m c R C := by
  obtain ⟨t, r, rfl⟩ := exists_row R
  rw [arr9 m c t r (row t r) rfl C, out9]
  refine (halves _ _ r C).trans ?_
  unfold DG dg
  split
  · rw [pay11]; exact dgs_blk m c t r _
  · rw [pay12]; exact dga_blk m c t r _

theorem final10 (R : Fin 16384) (d : Fin 1024) : ((dats m 0 c).arrAt 10 cfg0.N (ix2 R d) : EReal) = DM m c R d * GS m c R d := by
  obtain ⟨t, r, rfl⟩ := exists_row R
  rw [arr10 m c t r (row t r) rfl d, out10, dbs_blk]

theorem final11 (R : Fin 16384) (d : Fin 1024) : ((dats m 0 c).arrAt 11 cfg0.N (ix2 R d) : EReal) = DM m c R d * GA m c R d := by
  obtain ⟨t, r, rfl⟩ := exists_row R
  rw [arr11 m c t r (row t r) rfl d, out11, dba_blk]

theorem final12 (R : Fin 16384) (i : Fin 2048) : ((dats m 0 c).arrAt 12 cfg0.N (ix2 R i) : EReal)
    = ∑ d : Fin 1024, DM m c R d * GS m c R d * (arg m c main_arg4 (ix2 i d) : EReal) := by
  obtain ⟨t, r, rfl⟩ := exists_row R
  rw [arr12 m c t r (row t r) rfl i, out12]
  refine (pay1 _ _ r i).trans ?_
  refine Finset.sum_congr rfl fun d _ => ?_
  rw [dbs_blk, ib2 m c t, V_main_arg4]

theorem final13 (R : Fin 16384) (i : Fin 1024) : ((dats m 0 c).arrAt 13 cfg0.N (ix2 R i) : EReal)
    = ∑ d : Fin 1024, DM m c R d * GA m c R d * (arg m c main_arg5 (ix2 i d) : EReal) := by
  obtain ⟨t, r, rfl⟩ := exists_row R
  rw [arr13 m c t r (row t r) rfl i, out13]
  refine (pay2 _ _ r i).trans ?_
  refine Finset.sum_congr rfl fun d _ => ?_
  rw [dba_blk, ib3 m c t, V_main_arg5]

/-- Row `n` of the gates' gradient, nothing beyond the last row. -/
def DGn (C : Fin 2048) (n : ℕ) : EReal := if h : n < 16384 then DG m c ⟨n, h⟩ C else 0

/-- The rows point `t` adds. -/
theorem add_blk (C : Fin 2048) :
    (if h : C.val < 1024 then ∑ q : Fin 512, k0_pay9 (k0_pay7 (F := Ideal) (iblk m c 0 t) (iblk m c 1 t) (iblk m c 6 t) (lo (iblk m c 8 t)) (iblk m c 4 t))
        (k0_pay8 (iblk m c 6 t) (lo (iblk m c 8 t))) (ix2 q ⟨C.val, h⟩)
      else ∑ q : Fin 512, k0_pay10 (F := Ideal) (k0_pay4 (iblk m c 0 t) (iblk m c 1 t)) (k0_pay6 (iblk m c 7 t) (hi (iblk m c 8 t)))
        (iblk m c 5 t) (ix2 q ⟨C.val - 1024, by omega⟩))
      = ∑ q ∈ Finset.range 512, DGn m c C (512 * t.val + q) := by
  rw [Finset.sum_range]
  have ht : t.val < 32 := hN ▸ t.isLt
  split
  · rename_i h
    refine Finset.sum_congr rfl fun q _ => ?_
    rw [dgs_blk, DGn, dif_pos (by omega)]
    unfold DG dg
    rw [dif_pos h]
  · rename_i h
    refine Finset.sum_congr rfl fun q _ => ?_
    rw [dga_blk, DGn, dif_pos (by omega)]
    unfold DG dg
    rw [dif_neg h]

theorem sum14 (u : Fin 1) (C : Fin 2048) : ∀ (n : ℕ) (h : n < cfg0.N), ((outsAt0 m c n h).2.2.2.2.2 (ix2 u C) : EReal)
    = ∑ q ∈ Finset.range (512 * n + 512), DGn m c C q
  | 0, h => by
    refine (congrFun (out14_A m c ⟨0, h⟩ rfl) (ix2 u C)).trans ?_
    refine (halves1 _ _ _ u C).trans ?_
    refine Eq.trans ?_ ((add_blk m c ⟨0, h⟩ C).trans (by simp only [Nat.mul_zero, Nat.zero_add]))
    split
    · rw [pay13, lo_apply, pay3, zero_add]
    · rw [pay14, hi_apply, pay3, zero_add]
  | n + 1, h => by
    have h32 : n + 1 < 32 := hN ▸ h
    refine (congrFun (out14_B m c ⟨n + 1, h⟩ (by show ¬ (n + 1) % 32 = 0; omega)) (ix2 u C)).trans ?_
    refine (halves1 _ _ _ u C).trans ?_
    rw [show 512 * (n + 1) + 512 = (512 * n + 512) + 512 by omega, Finset.sum_range_add, ← sum14 u C n (Nat.lt_of_succ_lt h)]
    have := add_blk m c ⟨n + 1, h⟩ C
    rw [show 512 * n + 512 = 512 * (n + 1) by omega]
    rw [← this]
    split
    · rw [pay13, lo_apply]; rfl
    · rename_i h'
      rw [pay14, hi_apply]
      refine congrArg₂ (· + ·) ?_ rfl
      show (outsAt0 m c n _).2.2.2.2.2 _ = (outsAt0 m c n _).2.2.2.2.2 _
      exact congrArg (fun q => (outsAt0 m c n _).2.2.2.2.2 (ix2 u q)) (Fin.ext (by show 1024 + (C.val - 1024) = C.val; omega))

theorem final14 (u : Fin 1) (C : Fin 2048) : ((dats m 0 c).arrAt 14 cfg0.N (ix2 u C) : EReal) = ∑ R, DG m c R C := by
  rw [arr14, sum14 m c u C 31]
  show ∑ q ∈ Finset.range 16384, DGn m c C q = _
  rw [Finset.sum_range]
  refine Finset.sum_congr rfl fun R _ => ?_
  rw [DGn, dif_pos R.isLt]

end Cert.KernelIdeal.Mix
-- ==== Proof.Mix.Alg.lean ====
/-
  The gradient of the gated merge: the kernel's results are the reference's.
-/
module

public import proofs.«01_k».proof.Defs
public import proofs.«01_k».proof.Proof.Gen.On_gate_columns
public import proofs.«01_k».proof.Proof.Gen.ReferenceIdeal.Run
public import proofs.«01_k».proof.Proof.Mix.Final
public import Idealize.ShloMosaic.Lib.Quiescent

@[expose] public section

noncomputable section

open Idealize.ShloMosaic Idealize.ShloMosaic.TcCoe Idealize.SL.Sem

namespace Cert.Mix

/-- The columns the mask keeps are the gates' columns. -/
theorem mask_gate (x0 x1 x2 x3 x4 x5 x6 x7) (r : Fin 16384) (C : Fin 8192)
    (h : (Cert.On_gate_columns.fn (F := Ideal) x0 x1 x2 x3 x4 x5 x6 x7).1 (ix2 r C) = 1#1) : 6144 ≤ C.val := by
  by_contra hlt
  have hC : C.val < 6144 := by omega
  have h2 : IntOp.cmpi .sge (BitVec.ofNat 32 C.val) 6144#32 = 1#1 := h
  have h3 : (6144#32).sle (BitVec.ofNat 32 C.val) = false := by
    rw [BitVec.sle_eq_decide, decide_eq_false_iff_not]
    rw [show (6144#32).toInt = 6144 from rfl, BitVec.toInt_eq_toNat_of_lt (by rw [BitVec.toNat_ofNat]; omega), BitVec.toNat_ofNat]
    omega
  simp [IntOp.cmpi, h3] at h2

/-- The reference changes no argument and leaves every counter at zero. -/
theorem frame_reference : Cert.quiescent_ReferenceIdeal := fun m g _ =>
  (θ_run Cert.ReferenceIdeal.defs _ _).mono
    (fun r h => ⟨fun c => (h c).2.2.2.2.2.2, sem_eq_zero_of_no_sems (by rfl) _⟩) (Cert.ReferenceIdeal.Value.run (F := Ideal) m g)

open Cert.KernelIdeal.Gen Cert.KernelIdeal.Value in
theorem alg : Cert.algebraic_KernelIdeal_ReferenceIdeal_on_gate_columns := by
  intro m g m' g' _ hagree
  refine ⟨fun c => (dats m 0 c).arrAt 9 Cert.KernelIdeal.cfg0.N, fun c => (dats m 0 c).arrAt 10 Cert.KernelIdeal.cfg0.N,
    fun c => (dats m 0 c).arrAt 11 Cert.KernelIdeal.cfg0.N, fun c => (dats m 0 c).arrAt 12 Cert.KernelIdeal.cfg0.N,
    fun c => (dats m 0 c).arrAt 13 Cert.KernelIdeal.cfg0.N, fun c => (dats m 0 c).arrAt 14 Cert.KernelIdeal.cfg0.N, ?_, ?_⟩
  · exact (θ_run Cert.KernelIdeal.defs _ _).mono (fun r h c => ⟨fun i _ => congrFun (h c).1 i, fun i _ => congrFun (h c).2.1 i,
      fun i _ => congrFun (h c).2.2.1 i, fun i _ => congrFun (h c).2.2.2.1 i, fun i _ => congrFun (h c).2.2.2.2.1 i,
      fun i _ => congrFun (h c).2.2.2.2.2.1 i, (h c).2.2.2.2.2.2⟩) (run_blocks m g)
  · refine (θ_run Cert.ReferenceIdeal.defs _ _).mono (fun r h c => ?_) (Cert.ReferenceIdeal.Value.run (F := Ideal) m' g')
    obtain ⟨a0, a1, a2, a3, a4, a5, a6, a7⟩ := hagree c
    obtain ⟨h39, h40, h41, h37, h42, h34, hk⟩ := h c
    rw [Cert.ReferenceIdeal.Read.val_main_v39_eq, a0, a1, a2, a3, a4, a5, a6, a7] at h39
    rw [Cert.ReferenceIdeal.Read.val_main_v40_eq, a2, a3, a6, a7] at h40
    rw [Cert.ReferenceIdeal.Read.val_main_v41_eq, a2, a3, a6, a7] at h41
    rw [Cert.ReferenceIdeal.Read.val_main_v37_eq, a2, a3, a4, a6, a7] at h37
    rw [Cert.ReferenceIdeal.Read.val_main_v42_eq, a2, a3, a5, a6, a7] at h42
    rw [Cert.ReferenceIdeal.Read.val_main_v34_eq, a0, a1, a2, a3, a4, a5, a6, a7] at h34
    clear h
    refine ⟨fun i hi => ?_, fun i _ => ?_, fun i _ => ?_, fun i _ => ?_, fun i _ => ?_, fun i _ => ?_, hk⟩
    · obtain ⟨R, C, rfl⟩ : ∃ (R : Fin 16384) (C : Fin 8192), i = ix2 R C := ⟨i 0, i 1, eq_ix2 i⟩
      have hC := mask_gate _ _ _ _ _ _ _ _ R C hi
      obtain ⟨D, hD⟩ : ∃ D : Fin 2048, C = ⟨6144 + D.val, by omega⟩ := ⟨⟨C.val - 6144, by omega⟩, Fin.ext (by simp only; omega)⟩
      rw [hD]
      refine (congrFun h39 _).trans ?_
      exact (Cert.ReferenceIdeal.Mix.v39 _ _ _ _ _ _ _ _ R D).trans (Cert.KernelIdeal.Mix.final9 m c R D).symm
    · rw [eq_ix2 i]
      refine (congrFun h40 _).trans ?_
      exact (Cert.ReferenceIdeal.Mix.v40 _ _ _ _ (i 0) (i 1)).trans (Cert.KernelIdeal.Mix.final10 m c (i 0) (i 1)).symm
    · rw [eq_ix2 i]
      refine (congrFun h41 _).trans ?_
      exact (Cert.ReferenceIdeal.Mix.v41 _ _ _ _ (i 0) (i 1)).trans (Cert.KernelIdeal.Mix.final11 m c (i 0) (i 1)).symm
    · rw [eq_ix2 i]
      refine (congrFun h37 _).trans ?_
      exact (Cert.ReferenceIdeal.Mix.v37 _ _ _ _ _ (i 0) (i 1)).trans (Cert.KernelIdeal.Mix.final12 m c (i 0) (i 1)).symm
    · rw [eq_ix2 i]
      refine (congrFun h42 _).trans ?_
      exact (Cert.ReferenceIdeal.Mix.v42 _ _ _ _ _ (i 0) (i 1)).trans (Cert.KernelIdeal.Mix.final13 m c (i 0) (i 1)).symm
    · rw [eq_ix2 i]
      refine (congrFun h34 _).trans ?_
      exact (Cert.ReferenceIdeal.Mix.v34 _ _ _ _ _ _ _ _ (i 0) (i 1)).trans (Cert.KernelIdeal.Mix.final14 m c (i 0) (i 1)).symm

end Cert.Mix

end
-- ==== Proof.Prod.Sum.lean ====
/-
  A sum accumulated block by block, and the bodies' whole-block scratch reads.
-/
module

public import Idealize.ShloMosaic.Lib.Pipeline.Value
public import Idealize.ShloMosaic.Lib.Pointwise

@[expose] public section

namespace Cert.Prod

open Idealize.ShloMosaic

/-- A real matrix, at the infinite-precision values. -/
abbrev Mat (a b : ℕ) := (⟨2, ![a, b]⟩ : Shape).Idx → EReal

theorem hz : (![0, 0] : Fin 2 → Nat) = fun _ => 0 := by
  funext a
  match a with
  | ⟨0, _⟩ => rfl
  | ⟨1, _⟩ => rfl

theorem hz3 : (![0, 0, 0] : Fin 3 → Nat) = fun _ => 0 := by
  funext a
  match a with
  | ⟨0, _⟩ => rfl
  | ⟨1, _⟩ => rfl
  | ⟨2, _⟩ => rfl

/-- One block more of a sum. -/
theorem sum_step (f : ℕ → EReal) (b k : ℕ) :
    ∑ q ∈ Finset.range (b * (k + 1) + b), f q = ∑ q ∈ Finset.range (b * k + b), f q + ∑ q : Fin b, f (b * (k + 1) + q.val) := by
  rw [Finset.sum_range_add, Finset.sum_range (n := b), Nat.mul_succ]

/-- The first block of a sum. -/
theorem sum_first (f : ℕ → EReal) (b : ℕ) :
    ∑ q ∈ Finset.range (b * 0 + b), f q = ∑ q : Fin b, f (b * 0 + q.val) := by
  rw [Finset.sum_range_add, Finset.sum_range (n := b)]; simp

/-- The terms of a product at an index, continued by zero. -/
noncomputable def term (K : ℕ) (f : Fin K → EReal) (q : ℕ) : EReal := if h : q < K then f ⟨q, h⟩ else 0

theorem term_of_lt {K : ℕ} (f : Fin K → EReal) (q : ℕ) (h : q < K) : term K f q = f ⟨q, h⟩ := dif_pos h

theorem sum_term {K n : ℕ} (f : Fin K → EReal) (h : n = K) : ∑ q ∈ Finset.range n, term K f q = ∑ q : Fin K, f q := by
  subst h
  rw [Finset.sum_range]
  exact Finset.sum_congr rfl fun q _ => term_of_lt f q.val q.isLt

end Cert.Prod
-- ==== Proof.Prod.K27.lean ====
/-
  The relative bias over the pairs of positions.
-/
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Pre_finite_table
public import proofs.«01_k».proof.Proof.Prod.Sum
public import Idealize.ShloMosaic.Lib.IdealHost
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem

namespace Cert.Prod.K27

open Cert.Kernel27Ideal Cert.Kernel27Ideal.Gen Cert.Kernel27Ideal.Value

/-- A finite number's remainder is zero. -/
theorem sub_of_finite (x : EReal) (h : max x (-x) < ⊤) : x - x = 0 := by
  induction x with
  | bot => exact absurd h (by simp)
  | top => exact absurd h (by simp)
  | coe r => rw [← EReal.coe_sub, sub_self, EReal.coe_zero]

theorem pay1_ix (x0 x1 x2) (r : Fin 16) (d : Fin 32768) :
    (k0_pay1 (F := Ideal) x0 x1 x2 (ix2 r d) : EReal)
      = (∑ q : Fin 32, (x0 (ix2 r q) : EReal) * x1 (ix2 q d) + ∑ q : Fin 32, ((x0 (ix2 r q) : EReal) - x0 (ix2 r q)) * x1 (ix2 q d)
        + ∑ q : Fin 32, (((x0 (ix2 r q) : EReal) - x0 (ix2 r q)) - ((x0 (ix2 r q) : EReal) - x0 (ix2 r q))) * x1 (ix2 q d))
        + x2 (ix2 0 d) := by
  pointwise [k0_pay1]

theorem pay1_finite (x0 : Vec Ideal S16x32 .f32) (x1 x2) (h : ∀ r q, (x0 (ix2 r q) : EReal) - x0 (ix2 r q) = 0) (r : Fin 16) (d : Fin 32768) :
    (k0_pay1 (F := Ideal) x0 x1 x2 (ix2 r d) : EReal)
      = ∑ q : Fin 32, (x0 (ix2 r q) : EReal) * x1 (ix2 q d) + x2 (ix2 0 d) := by
  rw [pay1_ix]
  simp only [h, sub_zero, zero_mul, Finset.sum_const_zero, add_zero]

theorem ref_ix (x0 x1 x2) (r : Fin 16) (d : Fin 32768) :
    (Cert.Reference27Ideal.Read.val_main_v3 (F := Ideal) x0 x1 x2 (ix2 r d) : EReal)
      = ∑ q : Fin 32, (x0 (ix2 r q) : EReal) * x1 (ix2 q d) + x2 (ix2 0 d) := by
  pointwise [Cert.Reference27Ideal.Read.val_main_v3, Cert.Reference27Ideal.Read.val_main_v2,
    Cert.Reference27Ideal.Read.val_main_v1, Cert.Reference27Ideal.Read.val_main_v0]

/-- What the precondition says of an entry. -/
theorem finite_of_pre (x0 x1 x2) (h : Cert.Pre_finite_table.fn (F := Ideal) x0 x1 x2 = fun _ => 1#1) (r : Fin 16) (q : Fin 32) :
    (x0 (ix2 r q) : EReal) - x0 (ix2 r q) = 0 := by
  refine sub_of_finite _ ?_
  have e := congrFun h (ix2 r q)
  have e2 : BitVec.ofBool (decide (max (x0 (ix2 r q) : EReal) (-(x0 (ix2 r q) : EReal)) < Ideal.ofBits .f32 0x7F800000#32)) = 1#1 := e
  have e3 : max (x0 (ix2 r q) : EReal) (-(x0 (ix2 r q) : EReal)) < Ideal.ofBits .f32 0x7F800000#32 := by
    by_contra hc
    rw [decide_eq_false hc] at e2
    exact absurd e2 (by decide)
  exact e3.trans_le le_top

theorem frame_reference : Cert.quiescent_Reference27Ideal := fun m g _ =>
  (θ_run Cert.Reference27Ideal.defs _ _).mono
    (fun r h => ⟨fun c => (h c).2, sem_eq_zero_of_no_sems (by rfl) _⟩) (Cert.Reference27Ideal.Value.run (F := Ideal) m g)

theorem frame_reference_finite : Cert.quiescent_Reference27Ideal_pre_finite_table := fun m g _ =>
  (θ_run Cert.Reference27Ideal.defs _ _).mono
    (fun r h => ⟨fun c => (h c).2, sem_eq_zero_of_no_sems (by rfl) _⟩) (Cert.Reference27Ideal.Value.run (F := Ideal) m g)

theorem alg : Cert.algebraic_Kernel27Ideal_Reference27Ideal_pre_finite_table := by
  intro m g m' g' hpre hagree
  refine ⟨fun c => G3 (m ((c : Thread nD τ).loc main_arg0)) (m ((c : Thread nD τ).loc main_arg1)) (m ((c : Thread nD τ).loc main_arg2)),
    Cert.Kernel27Ideal.Value.run (F := Ideal) m g, ?_⟩
  refine (θ_run Cert.Reference27Ideal.defs _ _).mono (fun r h c => ?_) (Cert.Reference27Ideal.Value.run (F := Ideal) m' g')
  obtain ⟨e0, e1, e2⟩ := hagree c
  obtain ⟨hv, hk⟩ := h c
  rw [Cert.Reference27Ideal.Read.val_main_v3_eq, e0, e1, e2] at hv
  clear h
  refine ⟨?_, hk⟩
  funext i
  rw [eq_ix2 i]
  refine (congrFun hv _).trans ?_
  exact (ref_ix _ _ _ (i 0) (i 1)).trans (pay1_finite _ _ _ (finite_of_pre _ _ _ (hpre c)) (i 0) (i 1)).symm

end Cert.Prod.K27

end
-- ==== Proof.Prod.K26.lean ====
/-
  The gradient of the relative bias's table.
-/
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import proofs.«01_k».proof.Proof.Prod.Sum
public import Idealize.ShloMosaic.Lib.IdealHost
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem

namespace Cert.Prod.K26

open Cert.Kernel26Ideal Cert.Kernel26Ideal.Gen Cert.Kernel26Ideal.Value

theorem pay1_ix (x0 x1) (r : Fin 16) (d : Fin 32) :
    k0_pay1 (F := Ideal) x0 x1 (ix2 r d) = ∑ q : Fin 32768, (x0 (ix2 r q) : EReal) * x1 (ix2 q d) := by
  pointwise [k0_pay1]

theorem ref_ix (x0 x1) (r : Fin 16) (d : Fin 32) : (Cert.Reference26Ideal.Read.val_main_v2 (F := Ideal) x0 x1 (ix2 r d) : EReal)
    = ∑ q : Fin 32768, (x0 (ix2 r q) : EReal) * x1 (ix2 q d) := by
  pointwise [Cert.Reference26Ideal.Read.val_main_v2]

theorem frame_reference : Cert.quiescent_Reference26Ideal := fun m g _ =>
  (θ_run Cert.Reference26Ideal.defs _ _).mono
    (fun r h => ⟨fun c => (h c).2, sem_eq_zero_of_no_sems (by rfl) _⟩) (Cert.Reference26Ideal.Value.run (F := Ideal) m g)

theorem alg : Cert.algebraic_Kernel26Ideal_Reference26Ideal := by
  intro m g m' g' _ hagree
  refine ⟨fun c => G2 (m ((c : Thread nD τ).loc main_arg0)) (m ((c : Thread nD τ).loc main_arg1)),
    Cert.Kernel26Ideal.Value.run (F := Ideal) m g, ?_⟩
  refine (θ_run Cert.Reference26Ideal.defs _ _).mono (fun r h c => ?_) (Cert.Reference26Ideal.Value.run (F := Ideal) m' g')
  obtain ⟨e0, e1⟩ := hagree c
  obtain ⟨hv, hk⟩ := h c
  rw [Cert.Reference26Ideal.Read.val_main_v2_eq, e0, e1] at hv
  clear h
  refine ⟨?_, hk⟩
  funext i
  rw [eq_ix2 i]
  refine (congrFun hv _).trans ?_
  exact (ref_ix _ _ (i 0) (i 1)).trans (pay1_ix _ _ (i 0) (i 1)).symm

end Cert.Prod.K26

end
-- ==== Proof.Ln.Spec.lean ====
/-
  The layer norm of one row of 1024 entries.
-/
module

public import proofs.«01_k».proof.Defs
public import Idealize.ShloMosaic.Lib.IdealHost
public import Idealize.ShloMosaic.Lib.Pointwise

@[expose] public section

noncomputable section

open Idealize.ShloMosaic

namespace Cert.Ln

/-- The mean of a row. -/
def mean (r : Fin 1024 → EReal) : EReal := Ideal.div (∑ k : Fin 1024, r k) (Ideal.ofBits .f32 0x44800000#32)

/-- A row's deviations from its mean, by their root mean square. -/
def hat (r : Fin 1024 → EReal) (d : Fin 1024) : EReal :=
  (r d - mean r) * Ideal.rsqrt (mean (fun k => (r k - mean r) * (r k - mean r)) + Ideal.ofBits .f32 0x3727C5AC#32)

/-- The layer norm of a row. -/
def ln (r g b : Fin 1024 → EReal) (d : Fin 1024) : EReal := hat r d * g d + b d

end Cert.Ln

end
-- ==== Proof.Ln.Rows.lean ====
/-
  The sum over all rows, from the sums over the blocks of rows.
-/
module

public import Idealize.ShloMosaic.Lib.IdealHost
public import proofs.«01_k».proof.Proof.Prod.Sum

@[expose] public section

noncomputable section

open Cert.Prod

namespace Cert.Ln

/-- Sums of 512 rows each, added block after block, are the sum of all rows. -/
theorem sum_blocks (f : Fin 16384 → EReal) (o : (n : ℕ) → n < 32 → EReal)
    (h0 : o 0 (by omega) = 0 + ∑ r : Fin 512, f ⟨r.val, by omega⟩)
    (hs : ∀ (n : ℕ) (h : n + 1 < 32), o (n + 1) h = o n (by omega) + ∑ r : Fin 512, f ⟨512 * (n + 1) + r.val, by omega⟩) :
    o 31 (by omega) = ∑ R, f R := by
  have key : ∀ (n : ℕ) (h : n < 32), o n h = ∑ k ∈ Finset.range (512 * n + 512), term 16384 f k := by
    intro n
    induction n with
    | zero =>
      intro h
      rw [h0, zero_add, sum_first]
      refine Finset.sum_congr rfl fun r _ => ?_
      rw [show 512 * 0 + r.val = r.val by omega]
      exact (term_of_lt f _ _).symm
    | succ n ih =>
      intro h
      rw [hs, ih, sum_step]
      refine congrArg (_ + ·) (Finset.sum_congr rfl fun r _ => ?_)
      exact (term_of_lt f _ _).symm
  rw [key]
  exact sum_term f rfl

end Cert.Ln

end
-- ==== Proof.Prod.K25.lean ====
/-
  The gradient through the up projection, to the first layer norm's weights.
-/
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.On_weights_alone
public import proofs.«01_k».proof.Proof.Prod.Sum
public import proofs.«01_k».proof.Proof.Ln.Spec
public import proofs.«01_k».proof.Proof.Ln.Rows
public import Idealize.ShloMosaic.Lib.IdealHost
public import Idealize.ShloMosaic.Lib.Pipeline.ReadBack
public import Idealize.ShloMosaic.Lib.Pipeline.Value
public import Idealize.ShloMosaic.Lib.Pipeline.ValueKit.Tiles
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K25

open Cert.Kernel25Ideal Cert.Kernel25Ideal.Gen Cert.Kernel25Ideal.Value

variable (m : (ℓ : Loc nD τ sig) → Buf (Elt Ideal) ℓ)

theorem hN : cfg0.N = 64 := N_0

theorem idx0 : ∀ t : Fin cfg0.N, win0_0.index t 0 = t.val % 2 ∧ win0_0.index t 1 = t.val / 2 ∧ win0_0.index t 2 = 0 := by decide +kernel
theorem idx1 : ∀ t : Fin cfg0.N, win0_1.index t 0 = 0 ∧ win0_1.index t 1 = t.val % 2 := by decide +kernel
theorem idx2 : ∀ t : Fin cfg0.N, win0_2.index t 0 = t.val / 2 ∧ win0_2.index t 1 = 0 := by decide +kernel
theorem idx3 : ∀ t : Fin cfg0.N, win0_3.index t 0 = t.val / 2 ∧ win0_3.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel

theorem ib0 (c : Dev nD) (t : Fin cfg0.N) (r : Fin 512) (k : Fin 2816) (h : Fin 2) (R : Fin 16384) (hh : h.val = t.val % 2)
    (hR : R.val = 512 * (t.val / 2) + r.val) : iblk m c 0 t (ix3 0 r k) = V m c main_arg0 (ix3 h R k) := by
  unfold iblk
  rw [View.read_apply]
  show V m c main_arg0 _ = _
  congr 1
  funext a
  apply Fin.ext
  match a with
  | ⟨0, _⟩ => show win0_0.index t 0 * 1 + 1 * 0 = h.val; rw [(idx0 t).1]; omega
  | ⟨1, _⟩ => show win0_0.index t 1 * 512 + 1 * r.val = R.val; rw [(idx0 t).2.1]; omega
  | ⟨2, _⟩ => show win0_0.index t 2 * 2816 + 1 * k.val = k.val; rw [(idx0 t).2.2]; omega

theorem ib1 (c : Dev nD) (t : Fin cfg0.N) (d : Fin 1024) (k : Fin 2816) (K : Fin 5632) (hK : K.val = 2816 * (t.val % 2) + k.val) :
    iblk m c 1 t (ix2 d k) = V m c main_arg1 (ix2 d K) := by
  unfold iblk
  rw [View.read_apply]
  show V m c main_arg1 _ = _
  congr 1
  funext a
  apply Fin.ext
  match a with
  | ⟨0, _⟩ => show win0_1.index t 0 * 1024 + 1 * d.val = d.val; rw [(idx1 t).1]; omega
  | ⟨1, _⟩ => show win0_1.index t 1 * 2816 + 1 * k.val = K.val; rw [(idx1 t).2]; omega

theorem ib2 (c : Dev nD) (t : Fin cfg0.N) (r : Fin 512) (d : Fin 1024) (R : Fin 16384) (hR : R.val = 512 * (t.val / 2) + r.val) :
    iblk m c 2 t (ix2 r d) = V m c main_arg2 (ix2 R d) := by
  unfold iblk
  rw [View.read_apply]
  show V m c main_arg2 _ = _
  congr 1
  funext a
  apply Fin.ext
  match a with
  | ⟨0, _⟩ => show win0_2.index t 0 * 512 + 1 * r.val = R.val; rw [(idx2 t).1]; omega
  | ⟨1, _⟩ => show win0_2.index t 1 * 1024 + 1 * d.val = d.val; rw [(idx2 t).2]; omega

theorem ib3 (c : Dev nD) (t : Fin cfg0.N) (r : Fin 512) (d : Fin 1024) (R : Fin 16384) (hR : R.val = 512 * (t.val / 2) + r.val) :
    iblk m c 3 t (ix2 r d) = V m c main_arg3 (ix2 R d) := by
  unfold iblk
  rw [View.read_apply]
  show V m c main_arg3 _ = _
  congr 1
  funext a
  apply Fin.ext
  match a with
  | ⟨0, _⟩ => show win0_3.index t 0 * 512 + 1 * r.val = R.val; rw [(idx3 t).1]; omega
  | ⟨1, _⟩ => show win0_3.index t 1 * 1024 + 1 * d.val = d.val; rw [(idx3 t).2]; omega

/-- The product of one half of the gradient with the same half of the weight's columns. -/
def half (du : S2x16384x2816.Idx → EReal) (w : Mat 1024 5632) (h : Fin 2) (R : Fin 16384) (d : Fin 1024) : EReal :=
  ∑ k : Fin 2816, du (ix3 h R k) * w (ix2 d ⟨2816 * h.val + k.val, by omega⟩)

/-- The gradient of the layer norm's result. -/
def dy (du : S2x16384x2816.Idx → EReal) (w : Mat 1024 5632) (x : Mat 16384 1024) (R : Fin 16384) (d : Fin 1024) : EReal :=
  Ideal.ofBits .f32 0x3F9837F0#32 * x (ix2 R d) + half du w 0 R d + half du w 1 R d

theorem pay3_ix (x) (r : Fin 512) (d : Fin 1024) : (k0_pay3 (F := Ideal) x (ix2 r d) : EReal)
    = Ideal.ofBits .f32 0x3F9837F0#32 * x (ix2 r d) := by
  pointwise [k0_pay3]

theorem pay4_ix (s a w) (r : Fin 512) (d : Fin 1024) : (k0_pay4 (F := Ideal) s a w (ix2 r d) : EReal)
    = s (ix2 r d) + ∑ k : Fin 2816, (a (ix3 0 r k) : EReal) * w (ix2 d k) := by
  pointwise [k0_pay4]

theorem pay7_ix (x) (r : Fin 512) (d : Fin 1024) : (k0_pay7 (F := Ideal) x (ix2 r d) : EReal)
    = x (ix2 r d) - Ln.mean (fun k => x (ix2 r k)) := by
  pointwise [k0_pay7]
  rfl

theorem pay8_ix (x : Vec Ideal S512x1024 .f32) (r : Fin 512) (d : Fin 1) : (k0_pay8 (F := Ideal) x (ix2 r d) : EReal)
    = Ideal.rsqrt (Ln.mean (fun k => ((x (ix2 r k) : EReal) - Ln.mean (fun k => x (ix2 r k))) * ((x (ix2 r k) : EReal) - Ln.mean (fun k => x (ix2 r k))))
        + Ideal.ofBits .f32 0x3727C5AC#32) := by
  pointwise [k0_pay8]
  simp only [pay7_ix]
  rfl

theorem pay9_ix (x) (r : Fin 512) (d : Fin 1024) : (k0_pay9 (F := Ideal) x (ix2 r d) : EReal) = Ln.hat (fun k => x (ix2 r k)) d := by
  pointwise [k0_pay9]
  simp only [pay7_ix, pay8_ix]
  rfl

theorem pay10_ix (x y s) (u : Fin 1) (d : Fin 1024) : (k0_pay10 (F := Ideal) x y s (ix2 u d) : EReal)
    = s (ix2 u d) + ∑ r : Fin 512, (y (ix2 r d) : EReal) * Ln.hat (fun k => x (ix2 r k)) d := by
  pointwise [k0_pay10]
  simp only [pay9_ix]

theorem pay11_ix (y s) (u : Fin 1) (d : Fin 1024) : (k0_pay11 (F := Ideal) y s (ix2 u d) : EReal)
    = s (ix2 u d) + ∑ r : Fin 512, (y (ix2 r d) : EReal) := by
  pointwise [k0_pay11]

theorem pay1_ix (u : Fin 1) (d : Fin 1024) : (k0_pay1 (F := Ideal) (ix2 u d) : EReal) = 0 := by
  pointwise [k0_pay1]

theorem pay2_ix (u : Fin 1) (d : Fin 1024) : (k0_pay2 (F := Ideal) (ix2 u d) : EReal) = 0 := by
  pointwise [k0_pay2]

/-- The scratch after the first half's point. -/
abbrev acc0 (c : Dev nD) (t : Fin cfg0.N) : FVec Ideal S512x1024 .f32 := k0_pay4 (k0_pay3 (iblk m c 2 t)) (iblk m c 0 t) (iblk m c 1 t)

theorem sc_A (c : Dev nD) (t : Fin cfg0.N) (h0 : t.val = 0) : (outsAt0 m c t.val t.isLt).2.2.2.2
    = acc0 m c t := by
  rw [outsAt0_A m c t (by omega) (by omega) (by omega)]; dsimp only; unfold sout0_A_0
  refine (View.read_writes_eq_canon _ _ _ fun y => scover0_A_0 ..).trans ?_
  unfold kernelRun0_A; dsimp only; sl_unfold_words
  rw [View.canon_cons_unit_zero (S := S512x1024) hz]
  simp only [View.readAt_eq_ld, (hs0_0 t).read_unread, (hs0_1 t).read_unread, (hs0_2 t).read_unread, (hs0_3 t).read_unread, (hs0_4 t).read_unread, (hs0_5 t).read_unread,
    View.ld_unit_zero (S := S512x1024) hz, View.ld_unit_zero (S := S1x512x2816) hz3, View.ld_unit_zero (S := S1024x2816) hz, View.ld_unit_zero (S := S1x1024) hz]
  exact congrArg (fun x => k0_pay4 x _ _) (View.readCov_unit_zero (S := S512x1024) _ hz _ _)

theorem sc_C (c : Dev nD) (t : Fin cfg0.N) (h0 : t.val % 2 = 0) (h1 : t.val ≠ 0) : (outsAt0 m c t.val t.isLt).2.2.2.2
    = acc0 m c t := by
  rw [outsAt0_C m c t (by have : t.val < 64 := hN ▸ t.isLt; omega) (by omega) (by omega)]; dsimp only; unfold sout0_C_0
  refine (View.read_writes_eq_canon _ _ _ fun y => scover0_C_0 ..).trans ?_
  unfold kernelRun0_C; dsimp only; sl_unfold_words
  rw [View.canon_cons_unit_zero (S := S512x1024) hz]
  simp only [View.readAt_eq_ld, (hs0_0 t).read_unread, (hs0_1 t).read_unread, (hs0_2 t).read_unread, (hs0_3 t).read_unread, (hs0_4 t).read_unread, (hs0_5 t).read_unread,
    View.ld_unit_zero (S := S512x1024) hz, View.ld_unit_zero (S := S1x512x2816) hz3, View.ld_unit_zero (S := S1024x2816) hz, View.ld_unit_zero (S := S1x1024) hz]
  exact congrArg (fun x => k0_pay4 x _ _) (View.readCov_unit_zero (S := S512x1024) _ hz _ _)

theorem out8_A (c : Dev nD) (t : Fin cfg0.N) (h0 : t.val = 0) : (outsAt0 m c t.val t.isLt).2.2.1
    = k0_pay1 (F := Ideal) := by
  rw [outsAt0_A m c t (by omega) (by omega) (by omega)]; dsimp only; unfold out0_A_8
  refine (View.read_writes_eq_canon _ _ _ fun y => cover0_A_8 ..).trans ?_
  unfold kernelRun0_A; dsimp only; sl_unfold_words
  rw [View.canon_unit_zero (S := S1x1024) hz]

theorem out8_C (c : Dev nD) (t : Fin cfg0.N) (h0 : t.val % 2 = 0) (h1 : t.val ≠ 0) : (outsAt0 m c t.val t.isLt).2.2.1
    = (outsAt0 m c (t.val - 1) (Nat.lt_of_le_of_lt (Nat.sub_le _ _) t.isLt)).2.2.1 := by
  rw [outsAt0_C m c t (by have : t.val < 64 := hN ▸ t.isLt; omega) (by omega) (by omega)]; dsimp only; unfold out0_C_8
  rfl

theorem out9_A (c : Dev nD) (t : Fin cfg0.N) (h0 : t.val = 0) : (outsAt0 m c t.val t.isLt).2.2.2.1
    = k0_pay2 (F := Ideal) := by
  rw [outsAt0_A m c t (by omega) (by omega) (by omega)]; dsimp only; unfold out0_A_9
  refine (View.read_writes_eq_canon _ _ _ fun y => cover0_A_9 ..).trans ?_
  unfold kernelRun0_A; dsimp only; sl_unfold_words
  rw [View.canon_unit_zero (S := S1x1024) hz]

theorem out9_C (c : Dev nD) (t : Fin cfg0.N) (h0 : t.val % 2 = 0) (h1 : t.val ≠ 0) : (outsAt0 m c t.val t.isLt).2.2.2.1
    = (outsAt0 m c (t.val - 1) (Nat.lt_of_le_of_lt (Nat.sub_le _ _) t.isLt)).2.2.2.1 := by
  rw [outsAt0_C m c t (by have : t.val < 64 := hN ▸ t.isLt; omega) (by omega) (by omega)]; dsimp only; unfold out0_C_9
  rfl

theorem out8_B (c : Dev nD) (t : Fin cfg0.N) (h0 : t.val % 2 = 1) : (outsAt0 m c t.val t.isLt).2.2.1
    = k0_pay10 (iblk m c 3 t) (k0_pay4 (outsAt0 m c (t.val - 1) (Nat.lt_of_le_of_lt (Nat.sub_le _ _) t.isLt)).2.2.2.2 (iblk m c 0 t) (iblk m c 1 t)) (outsAt0 m c (t.val - 1) (Nat.lt_of_le_of_lt (Nat.sub_le _ _) t.isLt)).2.2.1 := by
  rw [outsAt0_B m c t (by omega) (by omega) h0]; dsimp only; unfold out0_B_8
  refine (View.read_writes_eq_canon _ _ _ fun y => cover0_B_8 ..).trans ?_
  unfold kernelRun0_B; dsimp only; sl_unfold_words
  rw [View.canon_unit_zero (S := S1x1024) hz]
  simp only [View.readAt_eq_ld, (hs0_0 t).read_unread, (hs0_1 t).read_unread, (hs0_2 t).read_unread, (hs0_3 t).read_unread, (hs0_4 t).read_unread, (hs0_5 t).read_unread, (hs0_8 t).read_unread, (hs0_9 t).read_unread, (Memref.isWhole_whole _).read_unread,
    View.ld_unit_zero (S := S512x1024) hz, View.ld_unit_zero (S := S1x512x2816) hz3, View.ld_unit_zero (S := S1024x2816) hz, View.ld_unit_zero (S := S1x1024) hz]
  exact congrArg (fun x => k0_pay10 _ x _) (View.readCov_unit_zero (S := S512x1024) _ hz _ _)

theorem out9_B (c : Dev nD) (t : Fin cfg0.N) (h0 : t.val % 2 = 1) : (outsAt0 m c t.val t.isLt).2.2.2.1
    = k0_pay11 (k0_pay4 (outsAt0 m c (t.val - 1) (Nat.lt_of_le_of_lt (Nat.sub_le _ _) t.isLt)).2.2.2.2 (iblk m c 0 t) (iblk m c 1 t)) (outsAt0 m c (t.val - 1) (Nat.lt_of_le_of_lt (Nat.sub_le _ _) t.isLt)).2.2.2.1 := by
  rw [outsAt0_B m c t (by omega) (by omega) h0]; dsimp only; unfold out0_B_9
  refine (View.read_writes_eq_canon _ _ _ fun y => cover0_B_9 ..).trans ?_
  unfold kernelRun0_B; dsimp only; sl_unfold_words
  rw [View.canon_unit_zero (S := S1x1024) hz]
  simp only [View.readAt_eq_ld, (hs0_0 t).read_unread, (hs0_1 t).read_unread, (hs0_2 t).read_unread, (hs0_3 t).read_unread, (hs0_4 t).read_unread, (hs0_5 t).read_unread, (hs0_8 t).read_unread, (hs0_9 t).read_unread, (Memref.isWhole_whole _).read_unread,
    View.ld_unit_zero (S := S512x1024) hz, View.ld_unit_zero (S := S1x512x2816) hz3, View.ld_unit_zero (S := S1024x2816) hz, View.ld_unit_zero (S := S1x1024) hz]
  exact congrArg (fun x => k0_pay11 x _) (View.readCov_unit_zero (S := S512x1024) _ hz _ _)

abbrev b0 (c : Dev nD) (t : Fin cfg0.N) : S1x512x2816.Idx → EReal := iblk m c 0 t
abbrev b1 (c : Dev nD) (t : Fin cfg0.N) : Mat 1024 2816 := iblk m c 1 t
abbrev b3 (c : Dev nD) (t : Fin cfg0.N) : Mat 512 1024 := iblk m c 3 t

abbrev DY (c : Dev nD) := dy (V m c main_arg0) (V m c main_arg1) (V m c main_arg2)
abbrev ROW (c : Dev nD) (R : Fin 16384) : Fin 1024 → EReal := fun k => V m c main_arg3 (ix2 R k)

theorem half_blk (c : Dev nD) (t : Fin cfg0.N) (h : Fin 2) (hh : h.val = t.val % 2) (r : Fin 512) (R : Fin 16384)
    (hR : R.val = 512 * (t.val / 2) + r.val) (d : Fin 1024) :
    ∑ k : Fin 2816, b0 m c t (ix3 0 r k) * b1 m c t (ix2 d k) = half (V m c main_arg0) (V m c main_arg1) h R d := by
  refine Finset.sum_congr rfl ?_
  intro k _
  exact congrArg₂ (· * ·) (ib0 m c t r k h R hh hR) (ib1 m c t d k _ (by rw [← hh]))

theorem sc_first (c : Dev nD) (t : Fin cfg0.N) (h0 : t.val % 2 = 0) (r : Fin 512) (R : Fin 16384) (hR : R.val = 512 * (t.val / 2) + r.val)
    (d : Fin 1024) : ((outsAt0 m c t.val t.isLt).2.2.2.2 (ix2 r d) : EReal)
      = Ideal.ofBits .f32 0x3F9837F0#32 * V m c main_arg2 (ix2 R d) + half (V m c main_arg0) (V m c main_arg1) 0 R d := by
  have e : (outsAt0 m c t.val t.isLt).2.2.2.2 = acc0 m c t := by
    by_cases h1 : t.val = 0
    · exact sc_A m c t h1
    · exact sc_C m c t h0 h1
  rw [e]
  refine (pay4_ix _ _ _ r d).trans ?_
  exact congrArg₂ (· + ·) ((pay3_ix _ r d).trans (congrArg _ (ib2 m c t r d R hR))) (half_blk m c t 0 h0.symm r R hR d)

/-- The whole gradient of the layer norm's result, at the second half's point. -/
theorem acc_blk (c : Dev nD) (t : Fin cfg0.N) (h0 : t.val % 2 = 1) (r : Fin 512) (R : Fin 16384) (hR : R.val = 512 * (t.val / 2) + r.val)
    (d : Fin 1024) : ((k0_pay4 (outsAt0 m c (t.val - 1) (Nat.lt_of_le_of_lt (Nat.sub_le _ _) t.isLt)).2.2.2.2 (iblk m c 0 t) (iblk m c 1 t)) (ix2 r d) : EReal) = DY m c R d := by
  refine (pay4_ix _ _ _ r d).trans ?_
  refine congrArg₂ (· + ·) (sc_first m c ⟨t.val - 1, by omega⟩ (by show (t.val - 1) % 2 = 0; omega) r R ?_ d) (half_blk m c t 1 h0.symm r R hR d)
  show R.val = 512 * ((t.val - 1) / 2) + r.val
  omega

theorem row_blk (c : Dev nD) (t : Fin cfg0.N) (r : Fin 512) (R : Fin 16384) (hR : R.val = 512 * (t.val / 2) + r.val) :
    (fun k => b3 m c t (ix2 r k)) = ROW m c R := funext fun k => ib3 m c t r k R hR

/-- The point of a block of rows' second half. -/
def pt (n : ℕ) (h : n < 32) : Fin cfg0.N := ⟨2 * n + 1, by rw [hN]; omega⟩

theorem pt_val (n : ℕ) (h : n < 32) : (pt n h).val = 2 * n + 1 := rfl

theorem pt_row {n : ℕ} (h : n < 32) (r : Fin 512) : 512 * ((pt n h).val / 2) + r.val = 512 * n + r.val := by rw [pt_val]; omega

theorem pred_lt (t : Fin cfg0.N) : t.val - 1 < cfg0.N := by omega

theorem outs_congr (c : Dev nD) {a b : ℕ} (ha : a < cfg0.N) (hb : b < cfg0.N) (e : a = b) : outsAt0 m c a ha = outsAt0 m c b hb := by
  subst e; rfl

theorem arr8 (c : Dev nD) (last : Fin cfg0.N) (hl : last.val = 63) (u : Fin 1) (d : Fin 1024) :
    (dats m 0 c).arrAt 8 cfg0.N (ix2 u d) = (outsAt0 m c last.val last.isLt).2.2.1 (ix2 u d) := by
  have hd : ∀ t t' : Fin cfg0.N, (cfg0.win 8).flush t = true → (cfg0.win 8).flush t' = true → t ≠ t'
      → Disjoint ((cfg0.win 8).blk t).view.set ((cfg0.win 8).blk t').view.set := by
    intro t t' h h' hne
    have h1 := (flush0_8 t).mp h
    have h2 := (flush0_8 t').mp h'
    have h3 : t.val < 64 := hN ▸ t.isLt
    have h4 : t'.val < 64 := hN ▸ t'.isLt
    exact absurd (Fin.ext (by omega)) hne
  have h := congrFun ((dats m 0 c).read_blk_arrAt_eq_flushed 8 hd cfg0.N last last.isLt ((flush0_8 last).mpr (by omega))) (ix2 u d)
  rw [View.read_apply, flushed8] at h
  refine (congrArg ((dats m 0 c).arrAt 8 cfg0.N) ?_).trans h
  funext a
  apply Fin.ext
  match a with
  | ⟨0, _⟩ => show u.val = win0_8.index last 0 * 1 + 1 * u.val; rw [(idx8 last).1]; omega
  | ⟨1, _⟩ => show d.val = win0_8.index last 1 * 1024 + 1 * d.val; rw [(idx8 last).2]; omega

theorem step8 (c : Dev nD) (t : Fin cfg0.N) (h0 : t.val % 2 = 1) (u : Fin 1) (d : Fin 1024) (s : EReal)
    (hs : ((outsAt0 m c (t.val - 1) (Nat.lt_of_le_of_lt (Nat.sub_le _ _) t.isLt)).2.2.1 (ix2 u d) : EReal) = s) : ((outsAt0 m c t.val t.isLt).2.2.1 (ix2 u d) : EReal)
      = s + ∑ r : Fin 512, (fun R => DY m c R d * Ln.hat (ROW m c R) d) ⟨512 * (t.val / 2) + r.val, by have : t.val < 64 := hN ▸ t.isLt; omega⟩ := by
  rw [out8_B m c t h0]
  refine (pay10_ix _ _ _ u d).trans (congrArg₂ (· + ·) hs (Finset.sum_congr rfl ?_))
  intro r _
  exact congrArg₂ (· * ·) (acc_blk m c t h0 r _ (rfl) d) (congrArg (fun f => Ln.hat f d) (row_blk m c t r _ (rfl)))

theorem start8 (c : Dev nD) (t : Fin cfg0.N) (h1 : t.val = 1) (u : Fin 1) (d : Fin 1024) :
    ((outsAt0 m c t.val t.isLt).2.2.1 (ix2 u d) : EReal) = 0 + ∑ r : Fin 512, (fun R => DY m c R d * Ln.hat (ROW m c R) d) ⟨r.val, by omega⟩ := by
  refine (step8 m c t (by omega) u d 0 ?_).trans ?_
  · exact (congrFun (out8_A m c ⟨t.val - 1, pred_lt t⟩ (by show t.val - 1 = 0; omega)) (ix2 u d)).trans (pay1_ix u d)
  · refine congrArg (0 + ·) (Finset.sum_congr rfl ?_)
    intro r _
    exact congrArg (fun R => DY m c R d * Ln.hat (ROW m c R) d) (Fin.ext (by show 512 * (t.val / 2) + r.val = r.val; omega))

theorem next8 (c : Dev nD) (t t' : Fin cfg0.N) (h0 : t.val % 2 = 1) (h : t'.val + 2 = t.val) (u : Fin 1) (d : Fin 1024) :
    ((outsAt0 m c t.val t.isLt).2.2.1 (ix2 u d) : EReal) = (outsAt0 m c t'.val t'.isLt).2.2.1 (ix2 u d)
      + ∑ r : Fin 512, (fun R => DY m c R d * Ln.hat (ROW m c R) d) ⟨512 * (t.val / 2) + r.val, by have : t.val < 64 := hN ▸ t.isLt; omega⟩ := by
  refine step8 m c t h0 u d _ ?_
  refine (congrFun (out8_C m c ⟨t.val - 1, pred_lt t⟩ (by show (t.val - 1) % 2 = 0; omega) (by show t.val - 1 ≠ 0; omega)) (ix2 u d)).trans ?_
  exact congrArg (fun o => o.2.2.1 (ix2 u d)) (outs_congr m c _ t'.isLt (by show t.val - 1 - 1 = t'.val; omega))

def o8 (c : Dev nD) (u : Fin 1) (d : Fin 1024) (n : ℕ) (h : n < 32) : EReal :=
  (outsAt0 m c (pt n h).val (pt n h).isLt).2.2.1 (ix2 u d)

theorem o8_first (c : Dev nD) (u : Fin 1) (d : Fin 1024) (n : ℕ) (h : n < 32) (e : n = 0) :
    o8 m c u d n h = 0 + ∑ r : Fin 512, (fun R => DY m c R d * Ln.hat (ROW m c R) d) ⟨r.val, by omega⟩ :=
  start8 m c (pt n h) (by rw [pt_val, e]) u d

theorem o8_next (c : Dev nD) (u : Fin 1) (d : Fin 1024) (n : ℕ) (h : n + 1 < 32) :
    o8 m c u d (n + 1) h = o8 m c u d n (Nat.lt_of_succ_lt h)
      + ∑ r : Fin 512, (fun R => DY m c R d * Ln.hat (ROW m c R) d) ⟨512 * (n + 1) + r.val, by omega⟩ := by
  refine (next8 m c (pt (n + 1) h) (pt n (Nat.lt_of_succ_lt h)) (by rw [pt_val]; omega) (by rw [pt_val, pt_val]; omega) u d).trans ?_
  refine congrArg (_ + ·) (Finset.sum_congr rfl ?_)
  intro r _
  exact congrArg (fun R => DY m c R d * Ln.hat (ROW m c R) d) (Fin.ext (pt_row _ r))

theorem o8_last (c : Dev nD) (u : Fin 1) (d : Fin 1024) (n : ℕ) (h : n < 32) (e : n = 31) :
    ((dats m 0 c).arrAt 8 cfg0.N (ix2 u d) : EReal) = o8 m c u d n h :=
  arr8 m c (pt n h) (by rw [pt_val, e]) u d

theorem fin8 (c : Dev nD) (u : Fin 1) (d : Fin 1024) : ((dats m 0 c).arrAt 8 cfg0.N (ix2 u d) : EReal)
    = ∑ R : Fin 16384, DY m c R d * Ln.hat (ROW m c R) d :=
  (o8_last m c u d 31 (by omega) rfl).trans (Ln.sum_blocks (fun R => DY m c R d * Ln.hat (ROW m c R) d) (o8 m c u d)
    (o8_first m c u d 0 _ rfl) (o8_next m c u d))

theorem arr9 (c : Dev nD) (last : Fin cfg0.N) (hl : last.val = 63) (u : Fin 1) (d : Fin 1024) :
    (dats m 0 c).arrAt 9 cfg0.N (ix2 u d) = (outsAt0 m c last.val last.isLt).2.2.2.1 (ix2 u d) := by
  have hd : ∀ t t' : Fin cfg0.N, (cfg0.win 9).flush t = true → (cfg0.win 9).flush t' = true → t ≠ t'
      → Disjoint ((cfg0.win 9).blk t).view.set ((cfg0.win 9).blk t').view.set := by
    intro t t' h h' hne
    have h1 := (flush0_9 t).mp h
    have h2 := (flush0_9 t').mp h'
    have h3 : t.val < 64 := hN ▸ t.isLt
    have h4 : t'.val < 64 := hN ▸ t'.isLt
    exact absurd (Fin.ext (by omega)) hne
  have h := congrFun ((dats m 0 c).read_blk_arrAt_eq_flushed 9 hd cfg0.N last last.isLt ((flush0_9 last).mpr (by omega))) (ix2 u d)
  rw [View.read_apply, flushed9] at h
  refine (congrArg ((dats m 0 c).arrAt 9 cfg0.N) ?_).trans h
  funext a
  apply Fin.ext
  match a with
  | ⟨0, _⟩ => show u.val = win0_9.index last 0 * 1 + 1 * u.val; rw [(idx9 last).1]; omega
  | ⟨1, _⟩ => show d.val = win0_9.index last 1 * 1024 + 1 * d.val; rw [(idx9 last).2]; omega

theorem step9 (c : Dev nD) (t : Fin cfg0.N) (h0 : t.val % 2 = 1) (u : Fin 1) (d : Fin 1024) (s : EReal)
    (hs : ((outsAt0 m c (t.val - 1) (Nat.lt_of_le_of_lt (Nat.sub_le _ _) t.isLt)).2.2.2.1 (ix2 u d) : EReal) = s) : ((outsAt0 m c t.val t.isLt).2.2.2.1 (ix2 u d) : EReal)
      = s + ∑ r : Fin 512, (fun R => DY m c R d) ⟨512 * (t.val / 2) + r.val, by have : t.val < 64 := hN ▸ t.isLt; omega⟩ := by
  rw [out9_B m c t h0]
  refine (pay11_ix _ _ u d).trans (congrArg₂ (· + ·) hs (Finset.sum_congr rfl ?_))
  intro r _
  exact acc_blk m c t h0 r _ (rfl) d

theorem start9 (c : Dev nD) (t : Fin cfg0.N) (h1 : t.val = 1) (u : Fin 1) (d : Fin 1024) :
    ((outsAt0 m c t.val t.isLt).2.2.2.1 (ix2 u d) : EReal) = 0 + ∑ r : Fin 512, (fun R => DY m c R d) ⟨r.val, by omega⟩ := by
  refine (step9 m c t (by omega) u d 0 ?_).trans ?_
  · exact (congrFun (out9_A m c ⟨t.val - 1, pred_lt t⟩ (by show t.val - 1 = 0; omega)) (ix2 u d)).trans (pay2_ix u d)
  · refine congrArg (0 + ·) (Finset.sum_congr rfl ?_)
    intro r _
    exact congrArg (fun R => DY m c R d) (Fin.ext (by show 512 * (t.val / 2) + r.val = r.val; omega))

theorem next9 (c : Dev nD) (t t' : Fin cfg0.N) (h0 : t.val % 2 = 1) (h : t'.val + 2 = t.val) (u : Fin 1) (d : Fin 1024) :
    ((outsAt0 m c t.val t.isLt).2.2.2.1 (ix2 u d) : EReal) = (outsAt0 m c t'.val t'.isLt).2.2.2.1 (ix2 u d)
      + ∑ r : Fin 512, (fun R => DY m c R d) ⟨512 * (t.val / 2) + r.val, by have : t.val < 64 := hN ▸ t.isLt; omega⟩ := by
  refine step9 m c t h0 u d _ ?_
  refine (congrFun (out9_C m c ⟨t.val - 1, pred_lt t⟩ (by show (t.val - 1) % 2 = 0; omega) (by show t.val - 1 ≠ 0; omega)) (ix2 u d)).trans ?_
  exact congrArg (fun o => o.2.2.2.1 (ix2 u d)) (outs_congr m c _ t'.isLt (by show t.val - 1 - 1 = t'.val; omega))

def o9 (c : Dev nD) (u : Fin 1) (d : Fin 1024) (n : ℕ) (h : n < 32) : EReal :=
  (outsAt0 m c (pt n h).val (pt n h).isLt).2.2.2.1 (ix2 u d)

theorem o9_first (c : Dev nD) (u : Fin 1) (d : Fin 1024) (n : ℕ) (h : n < 32) (e : n = 0) :
    o9 m c u d n h = 0 + ∑ r : Fin 512, (fun R => DY m c R d) ⟨r.val, by omega⟩ :=
  start9 m c (pt n h) (by rw [pt_val, e]) u d

theorem o9_next (c : Dev nD) (u : Fin 1) (d : Fin 1024) (n : ℕ) (h : n + 1 < 32) :
    o9 m c u d (n + 1) h = o9 m c u d n (Nat.lt_of_succ_lt h)
      + ∑ r : Fin 512, (fun R => DY m c R d) ⟨512 * (n + 1) + r.val, by omega⟩ := by
  refine (next9 m c (pt (n + 1) h) (pt n (Nat.lt_of_succ_lt h)) (by rw [pt_val]; omega) (by rw [pt_val, pt_val]; omega) u d).trans ?_
  refine congrArg (_ + ·) (Finset.sum_congr rfl ?_)
  intro r _
  exact congrArg (fun R => DY m c R d) (Fin.ext (pt_row _ r))

theorem o9_last (c : Dev nD) (u : Fin 1) (d : Fin 1024) (n : ℕ) (h : n < 32) (e : n = 31) :
    ((dats m 0 c).arrAt 9 cfg0.N (ix2 u d) : EReal) = o9 m c u d n h :=
  arr9 m c (pt n h) (by rw [pt_val, e]) u d

theorem fin9 (c : Dev nD) (u : Fin 1) (d : Fin 1024) : ((dats m 0 c).arrAt 9 cfg0.N (ix2 u d) : EReal)
    = ∑ R : Fin 16384, DY m c R d :=
  (o9_last m c u d 31 (by omega) rfl).trans (Ln.sum_blocks (fun R => DY m c R d) (o9 m c u d)
    (o9_first m c u d 0 _ rfl) (o9_next m c u d))

section
open Cert.Reference25Ideal.Read

theorem ref3 (x3) (R : Fin 16384) (d : Fin 1) : (val_main_v3 (F := Ideal) x3 (ix2 R d) : EReal) = Ln.mean (fun k => x3 (ix2 R k)) := by
  pointwise [val_main_v3, val_main_v2, val_main_cst_0, val_main_v1, val_main_v0, val_main_cst]
  rfl

theorem ref18 (x3) (R : Fin 16384) (d : Fin 1024) : (val_main_v18 (F := Ideal) x3 (ix2 R d) : EReal) = Ln.hat (fun k => x3 (ix2 R k)) d := by
  pointwise [val_main_v18, val_main_v17, val_main_v13, val_main_v12, val_main_v11, val_main_cst_3, val_main_v10, val_main_v9, val_main_cst_2,
    val_main_v8, val_main_v7, val_main_cst_1, val_main_v6, val_main_v5, val_main_v4]
  simp only [ref3]
  rfl

/-- The two halves side by side. -/
def cat (x : S2x16384x2816.Idx → EReal) : Mat 16384 5632 := fun i =>
  if h : (i 1).val < 2816 then x (ix3 0 (i 0) ⟨(i 1).val, h⟩) else x (ix3 1 (i 0) ⟨(i 1).val - 2816, by have : (i 1).val < 5632 := (i 1).isLt; omega⟩)

theorem sum_cat (du : S2x16384x2816.Idx → EReal) (w : Mat 1024 5632) (R : Fin 16384) (d : Fin 1024) :
    ∑ k : Fin 5632, cat du (ix2 R k) * w (ix2 d k) = half du w 0 R d + half du w 1 R d := by
  refine (Fin.sum_univ_add (a := 2816) (b := 2816) (fun k => cat du (ix2 R k) * w (ix2 d k))).trans ?_
  refine congrArg₂ (· + ·) (Finset.sum_congr rfl ?_) (Finset.sum_congr rfl ?_)
  · intro k _
    refine congrArg₂ (· * ·) ?_ (congrArg (fun j => w (ix2 d j)) (Fin.ext (by show k.val = 2816 * 0 + k.val; omega)))
    exact dif_pos (show k.val < 2816 from k.isLt)
  · intro k _
    refine congrArg₂ (· * ·) ?_ (congrArg (fun j => w (ix2 d j)) (Fin.ext (by show 2816 + k.val = 2816 * 1 + k.val; omega)))
    refine (dif_neg (show ¬ 2816 + k.val < 2816 by omega)).trans ?_
    exact congrArg (fun j => du (ix3 1 R j)) (Fin.ext (by show 2816 + k.val - 2816 = k.val; omega))

theorem ref33 (x0 x1) (R : Fin 16384) (d : Fin 1024) : (val_main_v33 (F := Ideal) x0 x1 (ix2 R d) : EReal)
    = ∑ k : Fin 5632, cat x0 (ix2 R k) * x1 (ix2 d k) := by
  pointwise [val_main_v33, val_main_v32, val_main_v31, val_main_v30, val_main_v29, val_main_v28, val_main_v27, val_main_v25, cat]

theorem ref36 (x0 x1 x2) (R : Fin 16384) (d : Fin 1024) : (val_main_v36 (F := Ideal) x0 x1 x2 (ix2 R d) : EReal) = dy x0 x1 x2 R d := by
  pointwise [val_main_v36, val_main_v35, val_main_v34, val_main_cst_6]
  rw [ref33, sum_cat]
  unfold dy
  rw [add_comm, add_assoc]

theorem ref38 (x0 x1 x2) (u : Fin 1) (d : Fin 1024) : (val_main_v38 (F := Ideal) x0 x1 x2 (ix2 u d) : EReal)
    = ∑ R : Fin 16384, dy x0 x1 x2 R d := by
  pointwise [val_main_v38, val_main_v37, val_main_cst_7]
  simp only [ref36]

theorem ref41 (x0 x1 x2 x3) (u : Fin 1) (d : Fin 1024) : (val_main_v41 (F := Ideal) x0 x1 x2 x3 (ix2 u d) : EReal)
    = ∑ R : Fin 16384, dy x0 x1 x2 R d * Ln.hat (fun k => x3 (ix2 R k)) d := by
  pointwise [val_main_v41, val_main_v40, val_main_cst_8, val_main_v39]
  refine Finset.sum_congr rfl ?_
  intro R _
  rw [ref18, ref36, mul_comm]

end

theorem frame_reference : Cert.quiescent_Reference25Ideal := fun m g _ =>
  (θ_run Cert.Reference25Ideal.defs _ _).mono
    (fun r h => ⟨fun c => (h c).2.2.2.2, sem_eq_zero_of_no_sems (by rfl) _⟩) (Cert.Reference25Ideal.Value.run (F := Ideal) m g)

theorem alg : Cert.algebraic_Kernel25Ideal_Reference25Ideal_on_weights_alone := by
  intro m g m' g' _ hagree
  refine ⟨fun c => (dats m 0 c).arrAt 6 Cert.Kernel25Ideal.cfg0.N, fun c => (dats m 0 c).arrAt 7 Cert.Kernel25Ideal.cfg0.N,
    fun c => (dats m 0 c).arrAt 8 Cert.Kernel25Ideal.cfg0.N, fun c => (dats m 0 c).arrAt 9 Cert.Kernel25Ideal.cfg0.N, ?_, ?_⟩
  · exact (θ_run Cert.Kernel25Ideal.defs _ _).mono (fun r h c => ⟨fun i _ => congrFun (h c).1 i, fun i _ => congrFun (h c).2.1 i,
      fun i _ => congrFun (h c).2.2.1 i, fun i _ => congrFun (h c).2.2.2.1 i, (h c).2.2.2.2⟩) (run_blocks m g)
  · refine (θ_run Cert.Reference25Ideal.defs _ _).mono (fun r h c => ?_) (Cert.Reference25Ideal.Value.run (F := Ideal) m' g')
    obtain ⟨e0, e1, e2, e3, e4, e5⟩ := hagree c
    obtain ⟨_, _, h41, h38, hk⟩ := h c
    rw [Cert.Reference25Ideal.Read.val_main_v41_eq, e0, e1, e2, e3] at h41
    rw [Cert.Reference25Ideal.Read.val_main_v38_eq, e0, e1, e2] at h38
    clear h
    refine ⟨fun i hi => ?_, fun i hi => ?_, fun i _ => ?_, fun i _ => ?_, hk⟩
    · exact absurd hi (by show ¬ (0#1 = 1#1); decide)
    · exact absurd hi (by show ¬ (0#1 = 1#1); decide)
    · rw [eq_ix2 i]
      exact (congrFun h41 _).trans ((ref41 _ _ _ _ (i 0) (i 1)).trans (fin8 m c (i 0) (i 1)).symm)
    · rw [eq_ix2 i]
      exact (congrFun h38 _).trans ((ref38 _ _ _ (i 0) (i 1)).trans (fin9 m c (i 0) (i 1)).symm)

end Cert.Prod.K25

end
-- ==== Proof.Prod.K24.lean ====
/-
  The down projection, the residual, the second layer norm and the loss.
-/
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.On_loss_and_weights
public import proofs.«01_k».proof.Proof.Prod.Sum
public import proofs.«01_k».proof.Proof.Ln.Spec
public import Idealize.ShloMosaic.Lib.IdealHost
public import Idealize.ShloMosaic.Lib.Pipeline.ReadBack
public import Idealize.ShloMosaic.Lib.Pipeline.Value
public import Idealize.ShloMosaic.Lib.Pipeline.ValueKit.Tiles
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K24

open Cert.Kernel24Ideal Cert.Kernel24Ideal.Gen Cert.Kernel24Ideal.Value

variable (m : (ℓ : Loc nD τ sig) → Buf (Elt Ideal) ℓ)

theorem hN : cfg0.N = 32 := N_0

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel

theorem ib0 (c : Dev nD) (t : Fin cfg0.N) (r : Fin 512) (d : Fin 2816) (R : Fin 16384) (hR : R.val = 512 * t.val + r.val) :
    iblk m c 0 t (ix2 r d) = V m c main_arg0 (ix2 R d) := by
  unfold iblk
  rw [View.read_apply]
  show V m c main_arg0 _ = _
  congr 1
  funext a
  apply Fin.ext
  match a with
  | ⟨0, _⟩ => show win0_0.index t 0 * 512 + 1 * r.val = R.val; rw [(idx0 t).1]; omega
  | ⟨1, _⟩ => show win0_0.index t 1 * 2816 + 1 * d.val = d.val; rw [(idx0 t).2]; omega

theorem ib1 (c : Dev nD) (t : Fin cfg0.N) (r : Fin 2816) (d : Fin 1024) (R : Fin 2816) (hR : R.val = 2816 * 0 + r.val) :
    iblk m c 1 t (ix2 r d) = V m c main_arg1 (ix2 R d) := by
  unfold iblk
  rw [View.read_apply]
  show V m c main_arg1 _ = _
  congr 1
  funext a
  apply Fin.ext
  match a with
  | ⟨0, _⟩ => show win0_1.index t 0 * 2816 + 1 * r.val = R.val; rw [(idx1 t).1]; omega
  | ⟨1, _⟩ => show win0_1.index t 1 * 1024 + 1 * d.val = d.val; rw [(idx1 t).2]; omega

theorem ib2 (c : Dev nD) (t : Fin cfg0.N) (r : Fin 512) (d : Fin 1024) (R : Fin 16384) (hR : R.val = 512 * t.val + r.val) :
    iblk m c 2 t (ix2 r d) = V m c main_arg2 (ix2 R d) := by
  unfold iblk
  rw [View.read_apply]
  show V m c main_arg2 _ = _
  congr 1
  funext a
  apply Fin.ext
  match a with
  | ⟨0, _⟩ => show win0_2.index t 0 * 512 + 1 * r.val = R.val; rw [(idx2 t).1]; omega
  | ⟨1, _⟩ => show win0_2.index t 1 * 1024 + 1 * d.val = d.val; rw [(idx2 t).2]; omega

theorem ib3 (c : Dev nD) (t : Fin cfg0.N) (r : Fin 512) (d : Fin 1024) (R : Fin 16384) (hR : R.val = 512 * t.val + r.val) :
    iblk m c 3 t (ix2 r d) = V m c main_arg3 (ix2 R d) := by
  unfold iblk
  rw [View.read_apply]
  show V m c main_arg3 _ = _
  congr 1
  funext a
  apply Fin.ext
  match a with
  | ⟨0, _⟩ => show win0_3.index t 0 * 512 + 1 * r.val = R.val; rw [(idx3 t).1]; omega
  | ⟨1, _⟩ => show win0_3.index t 1 * 1024 + 1 * d.val = d.val; rw [(idx3 t).2]; omega

theorem ib4 (c : Dev nD) (t : Fin cfg0.N) (r : Fin 1) (d : Fin 1024) (R : Fin 1) (hR : R.val = 1 * 0 + r.val) :
    iblk m c 4 t (ix2 r d) = V m c main_arg4 (ix2 R d) := by
  unfold iblk
  rw [View.read_apply]
  show V m c main_arg4 _ = _
  congr 1
  funext a
  apply Fin.ext
  match a with
  | ⟨0, _⟩ => show win0_4.index t 0 * 1 + 1 * r.val = R.val; rw [(idx4 t).1]; omega
  | ⟨1, _⟩ => show win0_4.index t 1 * 1024 + 1 * d.val = d.val; rw [(idx4 t).2]; omega

theorem ib5 (c : Dev nD) (t : Fin cfg0.N) (r : Fin 1) (d : Fin 1024) (R : Fin 1) (hR : R.val = 1 * 0 + r.val) :
    iblk m c 5 t (ix2 r d) = V m c main_arg5 (ix2 R d) := by
  unfold iblk
  rw [View.read_apply]
  show V m c main_arg5 _ = _
  congr 1
  funext a
  apply Fin.ext
  match a with
  | ⟨0, _⟩ => show win0_5.index t 0 * 1 + 1 * r.val = R.val; rw [(idx5 t).1]; omega
  | ⟨1, _⟩ => show win0_5.index t 1 * 1024 + 1 * d.val = d.val; rw [(idx5 t).2]; omega

/-- A row of the residual plus the product. -/
def res {n : Nat} (a : Mat n 2816) (w : Mat 2816 1024) (x : Mat n 1024) (R : Fin n) (d : Fin 1024) : EReal :=
  Ideal.ofBits .f32 0x3F9837F0#32 * x (ix2 R d) + ∑ k : Fin 2816, a (ix2 R k) * w (ix2 k d)

/-- A row of the layer norm less the target. -/
def err {n : Nat} (a : Mat n 2816) (w : Mat 2816 1024) (x t : Mat n 1024) (g b : Mat 1 1024) (R : Fin n) (d : Fin 1024) : EReal :=
  Ln.ln (res a w x R) (fun d => g (ix2 0 d)) (fun d => b (ix2 0 d)) d - t (ix2 R d)

/-- One over the number of columns. -/
abbrev q : EReal := Ideal.ofBits .f32 0x3A800000#32

theorem pay6_ix (x a w) (r : Fin 512) (d : Fin 1024) : (k0_pay6 (F := Ideal) x a w (ix2 r d) : EReal)
    = res a w x r d - Ln.mean (res a w x r) := by
  pointwise [k0_pay6]
  rfl

theorem pay7_ix (x a w) (r : Fin 512) (d : Fin 1) : (k0_pay7 (F := Ideal) x a w (ix2 r d) : EReal)
    = Ideal.rsqrt (Ln.mean (fun k => (res a w x r k - Ln.mean (res a w x r)) * (res a w x r k - Ln.mean (res a w x r)))
        + Ideal.ofBits .f32 0x3727C5AC#32) := by
  pointwise [k0_pay7]
  simp only [pay6_ix]
  rfl

theorem pay8_ix (x a w) (r : Fin 512) (d : Fin 1024) : (k0_pay8 (F := Ideal) x a w (ix2 r d) : EReal) = Ln.hat (res a w x r) d := by
  pointwise [k0_pay8]
  simp only [pay6_ix, pay7_ix]
  rfl

theorem pay9_ix (x a w g b t) (r : Fin 512) (d : Fin 1024) : (k0_pay9 (F := Ideal) x a w g b t (ix2 r d) : EReal)
    = err a w x t g b r d := by
  pointwise [k0_pay9]
  simp only [pay8_ix]
  rfl

theorem pay10_ix (e s) (u v : Fin 1) : (k0_pay10 (F := Ideal) e s (ix2 u v) : EReal)
    = s (ix2 u v) + ∑ r : Fin 512, ∑ d : Fin 1024, (e (ix2 r d) : EReal) * e (ix2 r d) := by
  pointwise [k0_pay10]

theorem pay12_ix (h e s) (u : Fin 1) (d : Fin 1024) : (k0_pay12 (F := Ideal) h e s (ix2 u d) : EReal)
    = s (ix2 u d) + ∑ r : Fin 512, (e (ix2 r d) : EReal) * q * h (ix2 r d) := by
  pointwise [k0_pay12, k0_pay11]

theorem pay13_ix (e s) (u : Fin 1) (d : Fin 1024) : (k0_pay13 (F := Ideal) e s (ix2 u d) : EReal)
    = s (ix2 u d) + ∑ r : Fin 512, (e (ix2 r d) : EReal) * q := by
  pointwise [k0_pay13, k0_pay11]

theorem pay3_ix (u : Fin 1) (d : Fin 1024) : (k0_pay3 (F := Ideal) (ix2 u d) : EReal) = 0 := by
  pointwise [k0_pay3]

theorem pay4_ix (u : Fin 1) (d : Fin 1024) : (k0_pay4 (F := Ideal) (ix2 u d) : EReal) = 0 := by
  pointwise [k0_pay4]

theorem pay5_ix (u v : Fin 1) : (k0_pay5 (F := Ideal) (ix2 u v) : EReal) = 0 := by
  pointwise [k0_pay5]

theorem hz : (![0, 0] : Fin 2 → Nat) = fun _ => 0 := funext fun a => by fin_cases a <;> rfl

/-- The normalised rows of the block at a point. -/
abbrev hatB (c : Dev nD) (t : Fin cfg0.N) : FVec Ideal S512x1024 .f32 := k0_pay8 (iblk m c 2 t) (iblk m c 0 t) (iblk m c 1 t)

/-- The errors of the block at a point. -/
abbrev errB (c : Dev nD) (t : Fin cfg0.N) : FVec Ideal S512x1024 .f32 :=
  k0_pay9 (iblk m c 2 t) (iblk m c 0 t) (iblk m c 1 t) (iblk m c 4 t) (iblk m c 5 t) (iblk m c 3 t)

theorem out8_A (c : Dev nD) (t : Fin cfg0.N) (h0 : t.val % 32 = 0) : (outsAt0 m c t.val t.isLt).2.2.1
    = k0_pay12 (hatB m c t) (errB m c t) (k0_pay3 (F := Ideal)) := by
  rw [outsAt0_A m c t h0]; dsimp only; unfold out0_A_8
  refine (View.read_writes_eq_canon _ _ _ fun y => cover0_A_8 ..).trans ?_
  unfold kernelRun0_A; dsimp only; sl_unfold_words
  rw [View.canon_cons_unit_zero (S := S1x1024) hz]
  simp only [View.readAt_eq_ld, (hs0_0 t).read_unread, (hs0_1 t).read_unread, (hs0_2 t).read_unread, (hs0_3 t).read_unread, (hs0_4 t).read_unread, (hs0_5 t).read_unread,
    View.ld_unit_zero (S := S512x1024) hz, View.ld_unit_zero (S := S512x2816) hz, View.ld_unit_zero (S := S2816x1024) hz, View.ld_unit_zero (S := S1x1024) hz, View.ld_unit_zero (S := S1x1) hz]
  exact congrArg _ (View.readCov_unit_zero (S := S1x1024) _ hz _ _)

theorem out8_B (c : Dev nD) (t : Fin cfg0.N) (h0 : ¬ t.val % 32 = 0) : (outsAt0 m c t.val t.isLt).2.2.1
    = k0_pay12 (hatB m c t) (errB m c t) (outsAt0 m c (t.val - 1) (Nat.lt_of_le_of_lt (Nat.sub_le _ _) t.isLt)).2.2.1 := by
  rw [outsAt0_B m c t h0]; dsimp only; unfold out0_B_8
  refine (View.read_writes_eq_canon _ _ _ fun y => cover0_B_8 ..).trans ?_
  unfold kernelRun0_B; dsimp only; sl_unfold_words
  rw [View.canon_unit_zero (S := S1x1024) hz]
  simp only [View.readAt_eq_ld, (hs0_0 t).read_unread, (hs0_1 t).read_unread, (hs0_2 t).read_unread, (hs0_3 t).read_unread, (hs0_4 t).read_unread, (hs0_5 t).read_unread,
    (hs0_8 t).read_unread,
    View.ld_unit_zero (S := S512x1024) hz, View.ld_unit_zero (S := S512x2816) hz, View.ld_unit_zero (S := S2816x1024) hz, View.ld_unit_zero (S := S1x1024) hz, View.ld_unit_zero (S := S1x1) hz]

theorem out9_A (c : Dev nD) (t : Fin cfg0.N) (h0 : t.val % 32 = 0) : (outsAt0 m c t.val t.isLt).2.2.2.1
    = k0_pay13 (errB m c t) (k0_pay4 (F := Ideal)) := by
  rw [outsAt0_A m c t h0]; dsimp only; unfold out0_A_9
  refine (View.read_writes_eq_canon _ _ _ fun y => cover0_A_9 ..).trans ?_
  unfold kernelRun0_A; dsimp only; sl_unfold_words
  rw [View.canon_cons_unit_zero (S := S1x1024) hz]
  simp only [View.readAt_eq_ld, (hs0_0 t).read_unread, (hs0_1 t).read_unread, (hs0_2 t).read_unread, (hs0_3 t).read_unread, (hs0_4 t).read_unread, (hs0_5 t).read_unread,
    View.ld_unit_zero (S := S512x1024) hz, View.ld_unit_zero (S := S512x2816) hz, View.ld_unit_zero (S := S2816x1024) hz, View.ld_unit_zero (S := S1x1024) hz, View.ld_unit_zero (S := S1x1) hz]
  exact congrArg _ (View.readCov_unit_zero (S := S1x1024) _ hz _ _)

theorem out9_B (c : Dev nD) (t : Fin cfg0.N) (h0 : ¬ t.val % 32 = 0) : (outsAt0 m c t.val t.isLt).2.2.2.1
    = k0_pay13 (errB m c t) (outsAt0 m c (t.val - 1) (Nat.lt_of_le_of_lt (Nat.sub_le _ _) t.isLt)).2.2.2.1 := by
  rw [outsAt0_B m c t h0]; dsimp only; unfold out0_B_9
  refine (View.read_writes_eq_canon _ _ _ fun y => cover0_B_9 ..).trans ?_
  unfold kernelRun0_B; dsimp only; sl_unfold_words
  rw [View.canon_unit_zero (S := S1x1024) hz]
  simp only [View.readAt_eq_ld, (hs0_0 t).read_unread, (hs0_1 t).read_unread, (hs0_2 t).read_unread, (hs0_3 t).read_unread, (hs0_4 t).read_unread, (hs0_5 t).read_unread,
    (hs0_9 t).read_unread,
    View.ld_unit_zero (S := S512x1024) hz, View.ld_unit_zero (S := S512x2816) hz, View.ld_unit_zero (S := S2816x1024) hz, View.ld_unit_zero (S := S1x1024) hz, View.ld_unit_zero (S := S1x1) hz]

theorem out10_A (c : Dev nD) (t : Fin cfg0.N) (h0 : t.val % 32 = 0) : (outsAt0 m c t.val t.isLt).2.2.2.2
    = k0_pay10 (errB m c t) (k0_pay5 (F := Ideal)) := by
  rw [outsAt0_A m c t h0]; dsimp only; unfold out0_A_10
  refine (View.read_writes_eq_canon _ _ _ fun y => cover0_A_10 ..).trans ?_
  unfold kernelRun0_A; dsimp only; sl_unfold_words
  refine (View.canon_cons_unit_zero (S := S1x1) hz _ _ _).trans ?_
  simp only [View.readAt_eq_ld, (hs0_0 t).read_unread, (hs0_1 t).read_unread, (hs0_2 t).read_unread, (hs0_3 t).read_unread, (hs0_4 t).read_unread, (hs0_5 t).read_unread,
    View.ld_unit_zero (S := S512x1024) hz, View.ld_unit_zero (S := S512x2816) hz, View.ld_unit_zero (S := S2816x1024) hz, View.ld_unit_zero (S := S1x1024) hz, View.ld_unit_zero (S := S1x1) hz]
  exact congrArg _ (View.readCov_unit_zero (S := S1x1) _ hz _ _)

theorem out10_B (c : Dev nD) (t : Fin cfg0.N) (h0 : ¬ t.val % 32 = 0) : (outsAt0 m c t.val t.isLt).2.2.2.2
    = k0_pay10 (errB m c t) (outsAt0 m c (t.val - 1) (Nat.lt_of_le_of_lt (Nat.sub_le _ _) t.isLt)).2.2.2.2 := by
  rw [outsAt0_B m c t h0]; dsimp only; unfold out0_B_10
  refine (View.read_writes_eq_canon _ _ _ fun y => cover0_B_10 ..).trans ?_
  unfold kernelRun0_B; dsimp only; sl_unfold_words
  refine (View.canon_unit_zero (S := S1x1) hz _ _).trans ?_
  simp only [View.readAt_eq_ld, (hs0_0 t).read_unread, (hs0_1 t).read_unread, (hs0_2 t).read_unread, (hs0_3 t).read_unread, (hs0_4 t).read_unread, (hs0_5 t).read_unread,
    (hs0_10 t).read_unread,
    View.ld_unit_zero (S := S512x1024) hz, View.ld_unit_zero (S := S512x2816) hz, View.ld_unit_zero (S := S2816x1024) hz, View.ld_unit_zero (S := S1x1024) hz, View.ld_unit_zero (S := S1x1) hz]

abbrev b0 (c : Dev nD) (t : Fin cfg0.N) : Mat 512 2816 := iblk m c 0 t
abbrev b1 (c : Dev nD) (t : Fin cfg0.N) : Mat 2816 1024 := iblk m c 1 t
abbrev b2 (c : Dev nD) (t : Fin cfg0.N) : Mat 512 1024 := iblk m c 2 t
abbrev b3 (c : Dev nD) (t : Fin cfg0.N) : Mat 512 1024 := iblk m c 3 t
abbrev b4 (c : Dev nD) (t : Fin cfg0.N) : Mat 1 1024 := iblk m c 4 t
abbrev b5 (c : Dev nD) (t : Fin cfg0.N) : Mat 1 1024 := iblk m c 5 t

abbrev RES (c : Dev nD) := res (V m c main_arg0) (V m c main_arg1) (V m c main_arg2)
abbrev ERR (c : Dev nD) := err (V m c main_arg0) (V m c main_arg1) (V m c main_arg2) (V m c main_arg3) (V m c main_arg4) (V m c main_arg5)

theorem res_blk (c : Dev nD) (t : Fin cfg0.N) (r : Fin 512) (R : Fin 16384) (hR : R.val = 512 * t.val + r.val) :
    res (b0 m c t) (b1 m c t) (b2 m c t) r = RES m c R := by
  funext d
  refine congrArg₂ (· + ·) (congrArg _ (ib2 m c t r d R hR)) (Finset.sum_congr rfl ?_)
  intro k _
  exact congrArg₂ (· * ·) (ib0 m c t r k R hR) (ib1 m c t k d k (by omega))

theorem hat_blk (c : Dev nD) (t : Fin cfg0.N) (r : Fin 512) (R : Fin 16384) (hR : R.val = 512 * t.val + r.val) (d : Fin 1024) :
    (hatB m c t (ix2 r d) : EReal) = Ln.hat (RES m c R) d :=
  (pay8_ix _ _ _ r d).trans (congrArg (fun f => Ln.hat f d) (res_blk m c t r R hR))

theorem err_blk (c : Dev nD) (t : Fin cfg0.N) (r : Fin 512) (R : Fin 16384) (hR : R.val = 512 * t.val + r.val) (d : Fin 1024) :
    (errB m c t (ix2 r d) : EReal) = ERR m c R d := by
  refine (pay9_ix _ _ _ _ _ _ r d).trans ?_
  show Ln.ln (res (b0 m c t) (b1 m c t) (b2 m c t) r) (fun d => b4 m c t (ix2 0 d)) (fun d => b5 m c t (ix2 0 d)) d - b3 m c t (ix2 r d) = _
  rw [res_blk m c t r R hR]
  exact congrArg₂ (· - ·) (congrArg₂ (· + ·) (congrArg _ (ib4 m c t 0 d 0 (by simp))) (ib5 m c t 0 d 0 (by simp))) (ib3 m c t r d R hR)

/-- A row's term, nothing beyond the last row. -/
def orZero (f : Fin 16384 → EReal) (k : ℕ) : EReal := if h : k < 16384 then f ⟨k, h⟩ else 0

theorem orZero_eq (f : Fin 16384 → EReal) (k : ℕ) (h : k < 16384) : orZero f k = f ⟨k, h⟩ := dif_pos h

/-- Sums of 512 rows each, added point after point, are the sum of all rows. -/
theorem acc (f : Fin 16384 → EReal) (o : (n : ℕ) → n < cfg0.N → EReal)
    (h0 : ∀ h, o 0 h = 0 + ∑ r : Fin 512, f ⟨r.val, by omega⟩)
    (hs : ∀ (n : ℕ) (h : n + 1 < cfg0.N), o (n + 1) h
      = o n (Nat.lt_of_succ_lt h) + ∑ r : Fin 512, f ⟨512 * (n + 1) + r.val, by have : n + 1 < 32 := hN ▸ h; omega⟩)
    (h31 : 31 < cfg0.N) : o 31 h31 = ∑ R, f R := by
  have key : ∀ (n : ℕ) (h : n < cfg0.N), o n h = ∑ k ∈ Finset.range (512 * n + 512), orZero f k := by
    intro n
    induction n with
    | zero =>
      intro h
      rw [h0, zero_add, Finset.sum_range]
      refine Finset.sum_congr rfl fun r _ => ?_
      exact (orZero_eq f _ _).symm
    | succ n ih =>
      intro h
      have h32 : n + 1 < 32 := hN ▸ h
      have e : ∑ x ∈ Finset.range 512, orZero f (512 * n + 512 + x) = ∑ r : Fin 512, f ⟨512 * (n + 1) + r.val, by omega⟩ := by
        rw [Finset.sum_range]
        refine Finset.sum_congr rfl fun r _ => ?_
        rw [show 512 * n + 512 = 512 * (n + 1) by omega]
        exact orZero_eq f _ _
      rw [hs, ih, show 512 * (n + 1) + 512 = (512 * n + 512) + 512 by omega, Finset.sum_range_add _ (512 * n + 512), e]
  rw [key, show 512 * 31 + 512 = 16384 from rfl, Finset.sum_range]
  exact Finset.sum_congr rfl fun R _ => orZero_eq f R.val R.isLt

theorem last_lt : 31 < cfg0.N := by rw [hN]; omega

/-- The last point. -/
abbrev last : Fin cfg0.N := ⟨31, last_lt⟩

theorem arr8 (c : Dev nD) (u : Fin 1) (d : Fin 1024) :
    (dats m 0 c).arrAt 8 cfg0.N (ix2 u d) = (outsAt0 m c 31 last_lt).2.2.1 (ix2 u d) := by
  have hd : ∀ t t' : Fin cfg0.N, (cfg0.win 8).flush t = true → (cfg0.win 8).flush t' = true → t ≠ t'
      → Disjoint ((cfg0.win 8).blk t).view.set ((cfg0.win 8).blk t').view.set := by
    intro t t' h h' hne
    have h1 := (flush0_8 t).mp h
    have h2 := (flush0_8 t').mp h'
    have h3 : t.val < 32 := hN ▸ t.isLt
    have h4 : t'.val < 32 := hN ▸ t'.isLt
    exact absurd (Fin.ext (by omega)) hne
  have h := congrFun ((dats m 0 c).read_blk_arrAt_eq_flushed 8 hd cfg0.N last last.isLt ((flush0_8 last).mpr rfl)) (ix2 u d)
  rw [View.read_apply, flushed8] at h
  refine (congrArg ((dats m 0 c).arrAt 8 cfg0.N) ?_).trans h
  funext a
  apply Fin.ext
  match a with
  | ⟨0, _⟩ => show u.val = win0_8.index last 0 * 1 + 1 * u.val; rw [(idx8 last).1]; omega
  | ⟨1, _⟩ => show d.val = win0_8.index last 1 * 1024 + 1 * d.val; rw [(idx8 last).2]; omega

theorem fin8 (c : Dev nD) (u : Fin 1) (d : Fin 1024) : ((dats m 0 c).arrAt 8 cfg0.N (ix2 u d) : EReal)
    = ∑ R : Fin 16384, ERR m c R d * q * Ln.hat (RES m c R) d := by
  refine (arr8 m c u d).trans (acc (fun R => ERR m c R d * q * Ln.hat (RES m c R) d)
    (fun n h => (outsAt0 m c n h).2.2.1 (ix2 u d)) ?_ ?_ last_lt)
  · intro h
    refine (congrFun (out8_A m c ⟨0, h⟩ rfl) (ix2 u d)).trans ((pay12_ix _ _ _ u d).trans ?_)
    refine congrArg₂ (· + ·) (pay3_ix u d) (Finset.sum_congr rfl ?_)
    intro r _
    exact congrArg₂ (· * ·) (congrArg (· * q) (err_blk m c ⟨0, h⟩ r _ (by simp) d)) (hat_blk m c ⟨0, h⟩ r _ (by simp) d)
  · intro n h
    have h32 : n + 1 < 32 := hN ▸ h
    refine (congrFun (out8_B m c ⟨n + 1, h⟩ (by show ¬ (n + 1) % 32 = 0; omega)) (ix2 u d)).trans ((pay12_ix _ _ _ u d).trans ?_)
    refine congrArg₂ (· + ·) rfl (Finset.sum_congr rfl ?_)
    intro r _
    exact congrArg₂ (· * ·) (congrArg (· * q) (err_blk m c ⟨n + 1, h⟩ r _ rfl d)) (hat_blk m c ⟨n + 1, h⟩ r _ rfl d)

theorem arr9 (c : Dev nD) (u : Fin 1) (d : Fin 1024) :
    (dats m 0 c).arrAt 9 cfg0.N (ix2 u d) = (outsAt0 m c 31 last_lt).2.2.2.1 (ix2 u d) := by
  have hd : ∀ t t' : Fin cfg0.N, (cfg0.win 9).flush t = true → (cfg0.win 9).flush t' = true → t ≠ t'
      → Disjoint ((cfg0.win 9).blk t).view.set ((cfg0.win 9).blk t').view.set := by
    intro t t' h h' hne
    have h1 := (flush0_9 t).mp h
    have h2 := (flush0_9 t').mp h'
    have h3 : t.val < 32 := hN ▸ t.isLt
    have h4 : t'.val < 32 := hN ▸ t'.isLt
    exact absurd (Fin.ext (by omega)) hne
  have h := congrFun ((dats m 0 c).read_blk_arrAt_eq_flushed 9 hd cfg0.N last last.isLt ((flush0_9 last).mpr rfl)) (ix2 u d)
  rw [View.read_apply, flushed9] at h
  refine (congrArg ((dats m 0 c).arrAt 9 cfg0.N) ?_).trans h
  funext a
  apply Fin.ext
  match a with
  | ⟨0, _⟩ => show u.val = win0_9.index last 0 * 1 + 1 * u.val; rw [(idx9 last).1]; omega
  | ⟨1, _⟩ => show d.val = win0_9.index last 1 * 1024 + 1 * d.val; rw [(idx9 last).2]; omega

theorem fin9 (c : Dev nD) (u : Fin 1) (d : Fin 1024) : ((dats m 0 c).arrAt 9 cfg0.N (ix2 u d) : EReal)
    = ∑ R : Fin 16384, ERR m c R d * q := by
  refine (arr9 m c u d).trans (acc (fun R => ERR m c R d * q)
    (fun n h => (outsAt0 m c n h).2.2.2.1 (ix2 u d)) ?_ ?_ last_lt)
  · intro h
    refine (congrFun (out9_A m c ⟨0, h⟩ rfl) (ix2 u d)).trans ((pay13_ix _ _ u d).trans ?_)
    refine congrArg₂ (· + ·) (pay4_ix u d) (Finset.sum_congr rfl ?_)
    intro r _
    exact congrArg (· * q) (err_blk m c ⟨0, h⟩ r _ (by simp) d)
  · intro n h
    have h32 : n + 1 < 32 := hN ▸ h
    refine (congrFun (out9_B m c ⟨n + 1, h⟩ (by show ¬ (n + 1) % 32 = 0; omega)) (ix2 u d)).trans ((pay13_ix _ _ u d).trans ?_)
    refine congrArg₂ (· + ·) rfl (Finset.sum_congr rfl ?_)
    intro r _
    exact congrArg (· * q) (err_blk m c ⟨n + 1, h⟩ r _ rfl d)

theorem arr10 (c : Dev nD) (u : Fin 1) (v : Fin 1) :
    (dats m 0 c).arrAt 10 cfg0.N (ix2 u v) = (outsAt0 m c 31 last_lt).2.2.2.2 (ix2 u v) := by
  have hd : ∀ t t' : Fin cfg0.N, (cfg0.win 10).flush t = true → (cfg0.win 10).flush t' = true → t ≠ t'
      → Disjoint ((cfg0.win 10).blk t).view.set ((cfg0.win 10).blk t').view.set := by
    intro t t' h h' hne
    have h1 := (flush0_10 t).mp h
    have h2 := (flush0_10 t').mp h'
    have h3 : t.val < 32 := hN ▸ t.isLt
    have h4 : t'.val < 32 := hN ▸ t'.isLt
    exact absurd (Fin.ext (by omega)) hne
  have h := congrFun ((dats m 0 c).read_blk_arrAt_eq_flushed 10 hd cfg0.N last last.isLt ((flush0_10 last).mpr rfl)) (ix2 u v)
  rw [View.read_apply, flushed10] at h
  refine (congrArg ((dats m 0 c).arrAt 10 cfg0.N) ?_).trans h
  funext a
  apply Fin.ext
  match a with
  | ⟨0, _⟩ => show u.val = win0_10.index last 0 * 1 + 1 * u.val; rw [(idx10 last).1]; omega
  | ⟨1, _⟩ => show v.val = win0_10.index last 1 * 1 + 1 * v.val; rw [(idx10 last).2]; omega

theorem fin10 (c : Dev nD) (u : Fin 1) (v : Fin 1) : ((dats m 0 c).arrAt 10 cfg0.N (ix2 u v) : EReal)
    = ∑ R : Fin 16384, ∑ d : Fin 1024, ERR m c R d * ERR m c R d := by
  refine (arr10 m c u v).trans (acc (fun R => ∑ d : Fin 1024, ERR m c R d * ERR m c R d)
    (fun n h => (outsAt0 m c n h).2.2.2.2 (ix2 u v)) ?_ ?_ last_lt)
  · intro h
    refine (congrFun (out10_A m c ⟨0, h⟩ rfl) (ix2 u v)).trans ((pay10_ix _ _ u v).trans ?_)
    refine congrArg₂ (· + ·) (pay5_ix u v) (Finset.sum_congr rfl ?_)
    intro r _
    exact Finset.sum_congr rfl fun d _ => congrArg₂ (· * ·) (err_blk m c ⟨0, h⟩ r _ (by simp) d) (err_blk m c ⟨0, h⟩ r _ (by simp) d)
  · intro n h
    have h32 : n + 1 < 32 := hN ▸ h
    refine (congrFun (out10_B m c ⟨n + 1, h⟩ (by show ¬ (n + 1) % 32 = 0; omega)) (ix2 u v)).trans ((pay10_ix _ _ u v).trans ?_)
    refine congrArg₂ (· + ·) rfl (Finset.sum_congr rfl ?_)
    intro r _
    exact Finset.sum_congr rfl fun d _ => congrArg₂ (· * ·) (err_blk m c ⟨n + 1, h⟩ r _ rfl d) (err_blk m c ⟨n + 1, h⟩ r _ rfl d)

section
open Cert.Reference24Ideal.Read

theorem ref5 (x0 x1 x2) (R : Fin 16384) (d : Fin 1024) : (val_main_v5 (F := Ideal) x0 x1 x2 (ix2 R d) : EReal) = res x0 x1 x2 R d := by
  pointwise [val_main_v5, val_main_v4, val_main_v3, val_main_v2, val_main_v1, val_main_v0, val_main_cst]
  rfl

theorem ref9 (x0 x1 x2) (R : Fin 16384) (d : Fin 1) : (val_main_v9 (F := Ideal) x0 x1 x2 (ix2 R d) : EReal) = Ln.mean (res x0 x1 x2 R) := by
  pointwise [val_main_v9, val_main_v8, val_main_cst_1, val_main_v7, val_main_v6, val_main_cst_0]
  simp only [ref5]
  rfl

theorem ref24 (x0 x1 x2) (R : Fin 16384) (d : Fin 1024) : (val_main_v24 (F := Ideal) x0 x1 x2 (ix2 R d) : EReal) = Ln.hat (res x0 x1 x2 R) d := by
  pointwise [val_main_v24, val_main_v23, val_main_v19, val_main_v18, val_main_v17, val_main_cst_4, val_main_v16, val_main_v15, val_main_cst_3,
    val_main_v14, val_main_v13, val_main_cst_2, val_main_v12, val_main_v11, val_main_v10]
  simp only [ref5, ref9]
  rfl

theorem ref29 (x0 x1 x2 x3 x4 x5) (R : Fin 16384) (d : Fin 1024) : (val_main_v29 (F := Ideal) x0 x1 x2 x3 x4 x5 (ix2 R d) : EReal)
    = err x0 x1 x2 x3 x4 x5 R d := by
  pointwise [val_main_v29, val_main_v28, val_main_v27, val_main_v26, val_main_v25]
  simp only [ref24]
  rfl

theorem ref36 (x0 x1 x2 x3 x4 x5) (u : Fin 1) (d : Fin 1024) : (val_main_v36 (F := Ideal) x0 x1 x2 x3 x4 x5 (ix2 u d) : EReal)
    = ∑ R : Fin 16384, err x0 x1 x2 x3 x4 x5 R d * q * Ln.hat (res x0 x1 x2 R) d := by
  pointwise [val_main_v36, val_main_v35, val_main_cst_8, val_main_v34, val_main_v31, val_main_v30, val_main_cst_6]
  refine Finset.sum_congr rfl ?_
  intro R _
  rw [ref29, ref24, mul_comm]

theorem ref33 (x0 x1 x2 x3 x4 x5) (u : Fin 1) (d : Fin 1024) : (val_main_v33 (F := Ideal) x0 x1 x2 x3 x4 x5 (ix2 u d) : EReal)
    = ∑ R : Fin 16384, err x0 x1 x2 x3 x4 x5 R d * q := by
  pointwise [val_main_v33, val_main_v32, val_main_cst_7, val_main_v31, val_main_v30, val_main_cst_6]
  refine Finset.sum_congr rfl ?_
  intro R _
  rw [ref29]

theorem ref64 (x0 x1 x2 x3 x4 x5) (u v : Fin 1) : (val_main_v64 (F := Ideal) x0 x1 x2 x3 x4 x5 (ix2 u v) : EReal)
    = ∑ R : Fin 16384, ∑ d : Fin 1024, err x0 x1 x2 x3 x4 x5 R d * err x0 x1 x2 x3 x4 x5 R d := by
  pointwise [val_main_v64, val_main_v63, val_main_cst_15, val_main_v62]
  simp only [ref29]

end

theorem frame_reference : Cert.quiescent_Reference24Ideal := fun m g _ =>
  (θ_run Cert.Reference24Ideal.defs _ _).mono
    (fun r h => ⟨fun c => (h c).2.2.2.2.2, sem_eq_zero_of_no_sems (by rfl) _⟩) (Cert.Reference24Ideal.Value.run (F := Ideal) m g)

theorem alg : Cert.algebraic_Kernel24Ideal_Reference24Ideal_on_loss_and_weights := by
  intro m g m' g' _ hagree
  refine ⟨fun c => (dats m 0 c).arrAt 6 Cert.Kernel24Ideal.cfg0.N, fun c => (dats m 0 c).arrAt 7 Cert.Kernel24Ideal.cfg0.N,
    fun c => (dats m 0 c).arrAt 8 Cert.Kernel24Ideal.cfg0.N, fun c => (dats m 0 c).arrAt 9 Cert.Kernel24Ideal.cfg0.N,
    fun c => (dats m 0 c).arrAt 10 Cert.Kernel24Ideal.cfg0.N, ?_, ?_⟩
  · exact (θ_run Cert.Kernel24Ideal.defs _ _).mono (fun r h c => ⟨fun i _ => congrFun (h c).1 i, fun i _ => congrFun (h c).2.1 i,
      fun i _ => congrFun (h c).2.2.1 i, fun i _ => congrFun (h c).2.2.2.1 i, fun i _ => congrFun (h c).2.2.2.2.1 i,
      (h c).2.2.2.2.2⟩) (run_blocks m g)
  · refine (θ_run Cert.Reference24Ideal.defs _ _).mono (fun r h c => ?_) (Cert.Reference24Ideal.Value.run (F := Ideal) m' g')
    obtain ⟨e0, e1, e2, e3, e4, e5⟩ := hagree c
    obtain ⟨_, _, h36, h33, h64, hk⟩ := h c
    rw [Cert.Reference24Ideal.Read.val_main_v36_eq, e0, e1, e2, e3, e4, e5] at h36
    rw [Cert.Reference24Ideal.Read.val_main_v33_eq, e0, e1, e2, e3, e4, e5] at h33
    rw [Cert.Reference24Ideal.Read.val_main_v64_eq, e0, e1, e2, e3, e4, e5] at h64
    clear h
    refine ⟨fun i hi => ?_, fun i hi => ?_, fun i _ => ?_, fun i _ => ?_, fun i _ => ?_, hk⟩
    · exact absurd hi (by show ¬ (0#1 = 1#1); decide)
    · exact absurd hi (by show ¬ (0#1 = 1#1); decide)
    · rw [eq_ix2 i]
      exact (congrFun h36 _).trans ((ref36 _ _ _ _ _ _ (i 0) (i 1)).trans (fin8 m c (i 0) (i 1)).symm)
    · rw [eq_ix2 i]
      exact (congrFun h33 _).trans ((ref33 _ _ _ _ _ _ (i 0) (i 1)).trans (fin9 m c (i 0) (i 1)).symm)
    · rw [eq_ix2 i]
      exact (congrFun h64 _).trans ((ref64 _ _ _ _ _ _ (i 0) (i 1)).trans (fin10 m c (i 0) (i 1)).symm)

end Cert.Prod.K24

end
-- ==== Proof.Prod.K23.lean ====
/-
  The mixing projection, the residual and the first layer norm.
-/
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import proofs.«01_k».proof.Proof.Prod.Sum
public import proofs.«01_k».proof.Proof.Ln.Spec
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K23

open Cert.Kernel23Ideal Cert.Kernel23Ideal.Gen Cert.Kernel23Ideal.Value

variable (m : (ℓ : Loc nD τ sig) → Buf (Elt Ideal) ℓ)

theorem hN : cfg0.N = 16 := N_0

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel

theorem ib0 (c : Dev nD) (t : Fin cfg0.N) (r : Fin 1024) (d : Fin 1024) (R : Fin 16384) (hR : R.val = 1024 * t.val + r.val) :
    iblk m c 0 t (ix2 r d) = V m c main_arg0 (ix2 R d) := by
  unfold iblk
  rw [View.read_apply]
  show V m c main_arg0 _ = _
  congr 1
  funext a
  apply Fin.ext
  match a with
  | ⟨0, _⟩ => show win0_0.index t 0 * 1024 + 1 * r.val = R.val; rw [(idx0 t).1]; omega
  | ⟨1, _⟩ => show win0_0.index t 1 * 1024 + 1 * d.val = d.val; rw [(idx0 t).2]; omega

theorem ib1 (c : Dev nD) (t : Fin cfg0.N) (r : Fin 1024) (d : Fin 1024) (R : Fin 1024) (hR : R.val = 1024 * 0 + r.val) :
    iblk m c 1 t (ix2 r d) = V m c main_arg1 (ix2 R d) := by
  unfold iblk
  rw [View.read_apply]
  show V m c main_arg1 _ = _
  congr 1
  funext a
  apply Fin.ext
  match a with
  | ⟨0, _⟩ => show win0_1.index t 0 * 1024 + 1 * r.val = R.val; rw [(idx1 t).1]; omega
  | ⟨1, _⟩ => show win0_1.index t 1 * 1024 + 1 * d.val = d.val; rw [(idx1 t).2]; omega

theorem ib2 (c : Dev nD) (t : Fin cfg0.N) (r : Fin 1024) (d : Fin 1024) (R : Fin 16384) (hR : R.val = 1024 * t.val + r.val) :
    iblk m c 2 t (ix2 r d) = V m c main_arg2 (ix2 R d) := by
  unfold iblk
  rw [View.read_apply]
  show V m c main_arg2 _ = _
  congr 1
  funext a
  apply Fin.ext
  match a with
  | ⟨0, _⟩ => show win0_2.index t 0 * 1024 + 1 * r.val = R.val; rw [(idx2 t).1]; omega
  | ⟨1, _⟩ => show win0_2.index t 1 * 1024 + 1 * d.val = d.val; rw [(idx2 t).2]; omega

theorem ib3 (c : Dev nD) (t : Fin cfg0.N) (r : Fin 1) (d : Fin 1024) (R : Fin 1) (hR : R.val = 1 * 0 + r.val) :
    iblk m c 3 t (ix2 r d) = V m c main_arg3 (ix2 R d) := by
  unfold iblk
  rw [View.read_apply]
  show V m c main_arg3 _ = _
  congr 1
  funext a
  apply Fin.ext
  match a with
  | ⟨0, _⟩ => show win0_3.index t 0 * 1 + 1 * r.val = R.val; rw [(idx3 t).1]; omega
  | ⟨1, _⟩ => show win0_3.index t 1 * 1024 + 1 * d.val = d.val; rw [(idx3 t).2]; omega

theorem ib4 (c : Dev nD) (t : Fin cfg0.N) (r : Fin 1) (d : Fin 1024) (R : Fin 1) (hR : R.val = 1 * 0 + r.val) :
    iblk m c 4 t (ix2 r d) = V m c main_arg4 (ix2 R d) := by
  unfold iblk
  rw [View.read_apply]
  show V m c main_arg4 _ = _
  congr 1
  funext a
  apply Fin.ext
  match a with
  | ⟨0, _⟩ => show win0_4.index t 0 * 1 + 1 * r.val = R.val; rw [(idx4 t).1]; omega
  | ⟨1, _⟩ => show win0_4.index t 1 * 1024 + 1 * d.val = d.val; rw [(idx4 t).2]; omega

/-- A row of the residual plus the product. -/
def res {n : Nat} (a : Mat n 1024) (w : Mat 1024 1024) (x : Mat n 1024) (R : Fin n) (d : Fin 1024) : EReal :=
  Ideal.ofBits .f32 0x3F9837F0#32 * x (ix2 R d) + ∑ k : Fin 1024, a (ix2 R k) * w (ix2 k d)

theorem pay1_ix (x2 x0 x1) (r d : Fin 1024) : (k0_pay1 (F := Ideal) x2 x0 x1 (ix2 r d) : EReal) = res x0 x1 x2 r d := by
  pointwise [k0_pay1]
  rfl

theorem pay2_ix (x2 x0 x1 x3 x4) (r d : Fin 1024) : (k0_pay2 (F := Ideal) x2 x0 x1 x3 x4 (ix2 r d) : EReal)
    = Ln.ln (res x0 x1 x2 r) (fun d => x3 (ix2 0 d)) (fun d => x4 (ix2 0 d)) d := by
  pointwise [k0_pay2]
  simp only [pay1_ix]
  rfl

theorem pay3_ix (x2 x0 x1 x3 x4) (r d : Fin 1024) : (k0_pay3 (F := Ideal) x2 x0 x1 x3 x4 (ix2 r d) : EReal)
    = Ln.ln (res x0 x1 x2 r) (fun d => x3 (ix2 0 d)) (fun d => x4 (ix2 0 d)) d := by
  pointwise [k0_pay3]
  exact pay2_ix x2 x0 x1 x3 x4 r d

abbrev b0 (c : Dev nD) (t : Fin cfg0.N) : Mat 1024 1024 := iblk m c 0 t
abbrev b1 (c : Dev nD) (t : Fin cfg0.N) : Mat 1024 1024 := iblk m c 1 t
abbrev b2 (c : Dev nD) (t : Fin cfg0.N) : Mat 1024 1024 := iblk m c 2 t
abbrev b3 (c : Dev nD) (t : Fin cfg0.N) : Mat 1 1024 := iblk m c 3 t
abbrev b4 (c : Dev nD) (t : Fin cfg0.N) : Mat 1 1024 := iblk m c 4 t

theorem res_blk (c : Dev nD) (t : Fin cfg0.N) (r : Fin 1024) (R : Fin 16384) (hR : R.val = 1024 * t.val + r.val) :
    res (b0 m c t) (b1 m c t) (b2 m c t) r = res (V m c main_arg0) (V m c main_arg1) (V m c main_arg2) R := by
  funext d
  refine congrArg₂ (· + ·) (congrArg _ (ib2 m c t r d R hR)) (Finset.sum_congr rfl ?_)
  intro k _
  exact congrArg₂ (· * ·) (ib0 m c t r k R hR) (ib1 m c t k d k (by omega))

theorem ln_blk (c : Dev nD) (t : Fin cfg0.N) (r : Fin 1024) (R : Fin 16384) (hR : R.val = 1024 * t.val + r.val) (d : Fin 1024) :
    Ln.ln (res (b0 m c t) (b1 m c t) (b2 m c t) r) (fun d => b3 m c t (ix2 0 d)) (fun d => b4 m c t (ix2 0 d)) d
      = Ln.ln (res (V m c main_arg0) (V m c main_arg1) (V m c main_arg2) R) (fun d => V m c main_arg3 (ix2 0 d))
          (fun d => V m c main_arg4 (ix2 0 d)) d := by
  rw [res_blk m c t r R hR]
  exact congrArg₂ (· + ·) (congrArg _ (ib3 m c t 0 d 0 (by simp))) (ib4 m c t 0 d 0 (by simp))

theorem point (R : Fin 16384) : ∃ (t : Fin cfg0.N) (r : Fin 1024), R.val = 1024 * t.val + r.val :=
  ⟨⟨R.val / 1024, by rw [hN]; omega⟩, ⟨R.val % 1024, by omega⟩, by show R.val = 1024 * (R.val / 1024) + R.val % 1024; omega⟩

theorem out5_ix (x0 x1 x2 x3 x4) (r d : Fin 1024) : (out0_5 (F := Ideal) x0 x1 x2 x3 x4 (ix2 r d) : EReal)
    = res x0 x1 x2 r d := by
  unfold out0_5
  rw [View.canon_unit_zero (S := S1024x1024) hz]
  simp only [View.ld_unit_zero (S := S1024x1024) hz, View.ld_unit_zero (S := S1x1024) hz]
  exact pay1_ix _ _ _ r d

theorem fin5 (c : Dev nD) (R : Fin 16384) (d : Fin 1024) : ((dats m 0 c).arrAt 5 cfg0.N (ix2 R d) : EReal)
    = res (V m c main_arg0) (V m c main_arg1) (V m c main_arg2) R d := by
  obtain ⟨t, r, hR⟩ := point R
  have h := congrFun (blocks5 m c t (flush0_5 t)) (ix2 r d)
  rw [View.read_apply, flushed5] at h
  refine ((congrArg ((dats m 0 c).arrAt 5 cfg0.N) ?_).trans h).trans ((out5_ix _ _ _ _ _ r d).trans (congrFun (res_blk m c t r R hR) d))
  funext a
  apply Fin.ext
  match a with
  | ⟨0, _⟩ => show R.val = win0_5.index t 0 * 1024 + 1 * r.val; rw [(idx5 t).1]; omega
  | ⟨1, _⟩ => show d.val = win0_5.index t 1 * 1024 + 1 * d.val; rw [(idx5 t).2]; omega

theorem out6_ix (x0 x1 x2 x3 x4) (r d : Fin 1024) : (out0_6 (F := Ideal) x0 x1 x2 x3 x4 (ix2 r d) : EReal)
    = Ln.ln (res x0 x1 x2 r) (fun d => x3 (ix2 0 d)) (fun d => x4 (ix2 0 d)) d := by
  unfold out0_6
  rw [View.canon_unit_zero (S := S1024x1024) hz]
  simp only [View.ld_unit_zero (S := S1024x1024) hz, View.ld_unit_zero (S := S1x1024) hz]
  exact pay2_ix _ _ _ _ _ r d

theorem fin6 (c : Dev nD) (R : Fin 16384) (d : Fin 1024) : ((dats m 0 c).arrAt 6 cfg0.N (ix2 R d) : EReal)
    = Ln.ln (res (V m c main_arg0) (V m c main_arg1) (V m c main_arg2) R) (fun d => V m c main_arg3 (ix2 0 d))
          (fun d => V m c main_arg4 (ix2 0 d)) d := by
  obtain ⟨t, r, hR⟩ := point R
  have h := congrFun (blocks6 m c t (flush0_6 t)) (ix2 r d)
  rw [View.read_apply, flushed6] at h
  refine ((congrArg ((dats m 0 c).arrAt 6 cfg0.N) ?_).trans h).trans ((out6_ix _ _ _ _ _ r d).trans (ln_blk m c t r R hR d))
  funext a
  apply Fin.ext
  match a with
  | ⟨0, _⟩ => show R.val = win0_6.index t 0 * 1024 + 1 * r.val; rw [(idx6 t).1]; omega
  | ⟨1, _⟩ => show d.val = win0_6.index t 1 * 1024 + 1 * d.val; rw [(idx6 t).2]; omega

theorem out7_ix (x0 x1 x2 x3 x4) (r d : Fin 1024) : (out0_7 (F := Ideal) x0 x1 x2 x3 x4 (ix2 r d) : EReal)
    = Ln.ln (res x0 x1 x2 r) (fun d => x3 (ix2 0 d)) (fun d => x4 (ix2 0 d)) d := by
  unfold out0_7
  rw [View.canon_unit_zero (S := S1024x1024) hz]
  simp only [View.ld_unit_zero (S := S1024x1024) hz, View.ld_unit_zero (S := S1x1024) hz]
  exact pay3_ix _ _ _ _ _ r d

theorem fin7 (c : Dev nD) (R : Fin 16384) (d : Fin 1024) : ((dats m 0 c).arrAt 7 cfg0.N (ix2 R d) : EReal)
    = Ln.ln (res (V m c main_arg0) (V m c main_arg1) (V m c main_arg2) R) (fun d => V m c main_arg3 (ix2 0 d))
          (fun d => V m c main_arg4 (ix2 0 d)) d := by
  obtain ⟨t, r, hR⟩ := point R
  have h := congrFun (blocks7 m c t (flush0_7 t)) (ix2 r d)
  rw [View.read_apply, flushed7] at h
  refine ((congrArg ((dats m 0 c).arrAt 7 cfg0.N) ?_).trans h).trans ((out7_ix _ _ _ _ _ r d).trans (ln_blk m c t r R hR d))
  funext a
  apply Fin.ext
  match a with
  | ⟨0, _⟩ => show R.val = win0_7.index t 0 * 1024 + 1 * r.val; rw [(idx7 t).1]; omega
  | ⟨1, _⟩ => show d.val = win0_7.index t 1 * 1024 + 1 * d.val; rw [(idx7 t).2]; omega

section
open Cert.Reference23Ideal.Read

theorem ref5 (x0 x1 x2) (R : Fin 16384) (d : Fin 1024) : (val_main_v5 (F := Ideal) x0 x1 x2 (ix2 R d) : EReal) = res x0 x1 x2 R d := by
  pointwise [val_main_v5, val_main_v4, val_main_v3, val_main_v2, val_main_v1, val_main_v0, val_main_cst]
  rfl

theorem ref9 (x0 x1 x2) (R : Fin 16384) (d : Fin 1) : (val_main_v9 (F := Ideal) x0 x1 x2 (ix2 R d) : EReal) = Ln.mean (res x0 x1 x2 R) := by
  pointwise [val_main_v9, val_main_v8, val_main_cst_1, val_main_v7, val_main_v6, val_main_cst_0]
  simp only [ref5]
  rfl

theorem ref25 (x0 x1 x2 x3 x4) (R : Fin 16384) (d : Fin 1024) : (val_main_v25 (F := Ideal) x0 x1 x2 x3 x4 (ix2 R d) : EReal)
    = Ln.ln (res x0 x1 x2 R) (fun d => x3 (ix2 0 d)) (fun d => x4 (ix2 0 d)) d := by
  pointwise [val_main_v25, val_main_v24, val_main_v23, val_main_v22, val_main_v21, val_main_v20, val_main_v19, val_main_v18, val_main_v17,
    val_main_cst_4, val_main_v16, val_main_v15, val_main_cst_3, val_main_v14, val_main_v13, val_main_cst_2, val_main_v12, val_main_v11, val_main_v10]
  simp only [ref5, ref9]
  rfl

theorem ref26 (x0 x1 x2 x3 x4) (R : Fin 16384) (d : Fin 1024) : (val_main_v26 (F := Ideal) x0 x1 x2 x3 x4 (ix2 R d) : EReal)
    = Ln.ln (res x0 x1 x2 R) (fun d => x3 (ix2 0 d)) (fun d => x4 (ix2 0 d)) d := by
  pointwise [val_main_v26]
  exact ref25 x0 x1 x2 x3 x4 R d

end

theorem frame_reference : Cert.quiescent_Reference23Ideal := fun m g _ =>
  (θ_run Cert.Reference23Ideal.defs _ _).mono
    (fun r h => ⟨fun c => (h c).2.2.2, sem_eq_zero_of_no_sems (by rfl) _⟩) (Cert.Reference23Ideal.Value.run (F := Ideal) m g)

theorem alg : Cert.algebraic_Kernel23Ideal_Reference23Ideal := by
  intro m g m' g' _ hagree
  refine ⟨fun c => (dats m 0 c).arrAt 5 Cert.Kernel23Ideal.cfg0.N, fun c => (dats m 0 c).arrAt 6 Cert.Kernel23Ideal.cfg0.N,
    fun c => (dats m 0 c).arrAt 7 Cert.Kernel23Ideal.cfg0.N, ?_, ?_⟩
  · exact (θ_run Cert.Kernel23Ideal.defs _ _).mono (fun r h c => h c) (run_blocks m g)
  · refine (θ_run Cert.Reference23Ideal.defs _ _).mono (fun r h c => ?_) (Cert.Reference23Ideal.Value.run (F := Ideal) m' g')
    obtain ⟨e0, e1, e2, e3, e4⟩ := hagree c
    obtain ⟨h5, h25, h26, hk⟩ := h c
    rw [Cert.Reference23Ideal.Read.val_main_v5_eq, e0, e1, e2] at h5
    rw [Cert.Reference23Ideal.Read.val_main_v25_eq, e0, e1, e2, e3, e4] at h25
    rw [Cert.Reference23Ideal.Read.val_main_v26_eq, e0, e1, e2, e3, e4] at h26
    clear h
    refine ⟨?_, ?_, ?_, hk⟩
    · funext i
      rw [eq_ix2 i]
      exact (congrFun h5 _).trans ((ref5 _ _ _ (i 0) (i 1)).trans (fin5 m c (i 0) (i 1)).symm)
    · funext i
      rw [eq_ix2 i]
      exact (congrFun h25 _).trans ((ref25 _ _ _ _ _ (i 0) (i 1)).trans (fin6 m c (i 0) (i 1)).symm)
    · funext i
      rw [eq_ix2 i]
      exact (congrFun h26 _).trans ((ref26 _ _ _ _ _ (i 0) (i 1)).trans (fin7 m c (i 0) (i 1)).symm)

end Cert.Prod.K23

end
-- ==== Proof.Prod.K21.lean ====
/-
  The optimiser's update of the feed-forward's convolution's weight.
-/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem

namespace Cert.Prod.K21

open Cert.Kernel21Ideal Cert.Kernel21Ideal.Gen Cert.Kernel21Ideal.Value
open Cert.Reference21Ideal.Read

theorem grad (a0 a1 a2 a3) : G4 (F := Ideal) a0 a1 a2 a3 = val_main_v0 a0 := by
  funext i
  rw [eq_ix2 i]
  generalize i 0 = r
  generalize i 1 = d
  show k0_pay4 (F := Ideal) _ _ _ _ _ _ _ _ (ix2 r d) = _
  pointwise [k0_pay4, val_main_v0, val_main_cst]
  rw [Fin.sum_univ_eight]

theorem mean (a0 a1 a2 a3) : G6 (F := Ideal) a0 a1 a2 a3 = val_main_v5 a0 a2 := by
  have h := grad a0 a1 a2 a3
  show k0_pay1 (G4 a0 a1 a2 a3) a2 = _
  rw [h]
  rfl

theorem sq (a0 a1 a2 a3) : G7 (F := Ideal) a0 a1 a2 a3 = val_main_v11 a0 a3 := by
  have h := grad a0 a1 a2 a3
  show k0_pay2 (G4 a0 a1 a2 a3) a3 = _
  rw [h]
  rfl

theorem step (a0 a1 a2 a3) : G5 (F := Ideal) a0 a1 a2 a3 = val_main_v24 a0 a1 a2 a3 := by
  have h := grad a0 a1 a2 a3
  show k0_pay3 (G4 a0 a1 a2 a3) a1 a2 a3 = _
  rw [h]
  rfl

theorem frame_reference : Cert.quiescent_Reference21Ideal := fun m g _ =>
  (θ_run Cert.Reference21Ideal.defs _ _).mono
    (fun r h => ⟨fun c => (h c).2.2.2.2, sem_eq_zero_of_no_sems (by rfl) _⟩) (Cert.Reference21Ideal.Value.run (F := Ideal) m g)

theorem alg : Cert.algebraic_Kernel21Ideal_Reference21Ideal := by
  intro m g m' g' _ hagree
  refine ⟨_, _, _, _, (θ_run Cert.Kernel21Ideal.defs _ _).mono (fun r h c => h c) (run m g), ?_⟩
  refine (θ_run Cert.Reference21Ideal.defs _ _).mono (fun r h c => ?_) (Cert.Reference21Ideal.Value.run (F := Ideal) m' g')
  obtain ⟨e0, e1, e2, e3⟩ := hagree c
  obtain ⟨h1, h25, h6, h12, hk⟩ := h c
  rw [val_main_v0_eq, e0] at h1
  rw [val_main_v24_eq, e0, e1, e2, e3] at h25
  rw [val_main_v5_eq, e0, e2] at h6
  rw [val_main_v11_eq, e0, e3] at h12
  clear h
  exact ⟨h1.trans (grad _ _ _ _).symm, h25.trans (step _ _ _ _).symm, h6.trans (mean _ _ _ _).symm,
    h12.trans (sq _ _ _ _).symm, hk⟩

end Cert.Prod.K21

end
-- ==== Proof.Prod.K20.lean ====
/-
  The optimiser's update of the first convolution's weight.
-/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem

namespace Cert.Prod.K20

open Cert.Kernel20Ideal Cert.Kernel20Ideal.Gen Cert.Kernel20Ideal.Value
open Cert.Reference20Ideal.Read

theorem grad (a0 a1 a2 a3) : G4 (F := Ideal) a0 a1 a2 a3 = val_main_v0 a0 := by
  funext i
  rw [eq_ix2 i]
  generalize i 0 = r
  generalize i 1 = d
  show k0_pay4 (F := Ideal) _ _ _ _ _ _ _ _ (ix2 r d) = _
  pointwise [k0_pay4, val_main_v0, val_main_cst]
  rw [Fin.sum_univ_eight]

theorem mean (a0 a1 a2 a3) : G6 (F := Ideal) a0 a1 a2 a3 = val_main_v5 a0 a2 := by
  have h := grad a0 a1 a2 a3
  show k0_pay1 (G4 a0 a1 a2 a3) a2 = _
  rw [h]
  rfl

theorem sq (a0 a1 a2 a3) : G7 (F := Ideal) a0 a1 a2 a3 = val_main_v11 a0 a3 := by
  have h := grad a0 a1 a2 a3
  show k0_pay2 (G4 a0 a1 a2 a3) a3 = _
  rw [h]
  rfl

theorem step (a0 a1 a2 a3) : G5 (F := Ideal) a0 a1 a2 a3 = val_main_v24 a0 a1 a2 a3 := by
  have h := grad a0 a1 a2 a3
  show k0_pay3 (G4 a0 a1 a2 a3) a1 a2 a3 = _
  rw [h]
  rfl

theorem frame_reference : Cert.quiescent_Reference20Ideal := fun m g _ =>
  (θ_run Cert.Reference20Ideal.defs _ _).mono
    (fun r h => ⟨fun c => (h c).2.2.2.2, sem_eq_zero_of_no_sems (by rfl) _⟩) (Cert.Reference20Ideal.Value.run (F := Ideal) m g)

theorem alg : Cert.algebraic_Kernel20Ideal_Reference20Ideal := by
  intro m g m' g' _ hagree
  refine ⟨_, _, _, _, (θ_run Cert.Kernel20Ideal.defs _ _).mono (fun r h c => h c) (run m g), ?_⟩
  refine (θ_run Cert.Reference20Ideal.defs _ _).mono (fun r h c => ?_) (Cert.Reference20Ideal.Value.run (F := Ideal) m' g')
  obtain ⟨e0, e1, e2, e3⟩ := hagree c
  obtain ⟨h1, h25, h6, h12, hk⟩ := h c
  rw [val_main_v0_eq, e0] at h1
  rw [val_main_v24_eq, e0, e1, e2, e3] at h25
  rw [val_main_v5_eq, e0, e2] at h6
  rw [val_main_v11_eq, e0, e3] at h12
  clear h
  exact ⟨h1.trans (grad _ _ _ _).symm, h25.trans (step _ _ _ _).symm, h6.trans (mean _ _ _ _).symm,
    h12.trans (sq _ _ _ _).symm, hk⟩

end Cert.Prod.K20

end
-- ==== Proof.Prod.K19.lean ====
/-
  The optimiser's update of the down projection.
-/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem

namespace Cert.Prod.K19

open Cert.Kernel19Ideal Cert.Kernel19Ideal.Gen Cert.Kernel19Ideal.Value
open Cert.Reference19Ideal.Read

theorem grad (a0 a1 a2 a3) : G4 (F := Ideal) a0 a1 a2 a3 = val_main_v1 a0 := by
  funext i
  rw [eq_ix2 i]
  generalize i 0 = r
  generalize i 1 = d
  show k0_pay4 (F := Ideal) _ _ _ _ _ _ _ _ (ix2 r d) = _
  pointwise [k0_pay4, val_main_v1, val_main_v0, val_main_cst]
  rw [Fin.sum_univ_eight]

theorem mean (a0 a1 a2 a3) : G6 (F := Ideal) a0 a1 a2 a3 = val_main_v6 a0 a2 := by
  have h := grad a0 a1 a2 a3
  show k0_pay1 (G4 a0 a1 a2 a3) a2 = _
  rw [h]
  rfl

theorem sq (a0 a1 a2 a3) : G7 (F := Ideal) a0 a1 a2 a3 = val_main_v12 a0 a3 := by
  have h := grad a0 a1 a2 a3
  show k0_pay2 (G4 a0 a1 a2 a3) a3 = _
  rw [h]
  rfl

theorem step (a0 a1 a2 a3) : G5 (F := Ideal) a0 a1 a2 a3 = val_main_v25 a0 a1 a2 a3 := by
  have h := grad a0 a1 a2 a3
  show k0_pay3 (G4 a0 a1 a2 a3) a1 a2 a3 = _
  rw [h]
  rfl

theorem frame_reference : Cert.quiescent_Reference19Ideal := fun m g _ =>
  (θ_run Cert.Reference19Ideal.defs _ _).mono
    (fun r h => ⟨fun c => (h c).2.2.2.2, sem_eq_zero_of_no_sems (by rfl) _⟩) (Cert.Reference19Ideal.Value.run (F := Ideal) m g)

theorem alg : Cert.algebraic_Kernel19Ideal_Reference19Ideal := by
  intro m g m' g' _ hagree
  refine ⟨_, _, _, _, (θ_run Cert.Kernel19Ideal.defs _ _).mono (fun r h c => h c) (run m g), ?_⟩
  refine (θ_run Cert.Reference19Ideal.defs _ _).mono (fun r h c => ?_) (Cert.Reference19Ideal.Value.run (F := Ideal) m' g')
  obtain ⟨e0, e1, e2, e3⟩ := hagree c
  obtain ⟨h1, h25, h6, h12, hk⟩ := h c
  rw [val_main_v1_eq, e0] at h1
  rw [val_main_v25_eq, e0, e1, e2, e3] at h25
  rw [val_main_v6_eq, e0, e2] at h6
  rw [val_main_v12_eq, e0, e3] at h12
  clear h
  exact ⟨h1.trans (grad _ _ _ _).symm, h25.trans (step _ _ _ _).symm, h6.trans (mean _ _ _ _).symm,
    h12.trans (sq _ _ _ _).symm, hk⟩

end Cert.Prod.K19

end
-- ==== Proof.Prod.Step.lean ====
/-
  One weight's update from its gradient, its moments and itself.
-/
module

public import Idealize.ShloMosaic.Lib.IdealHost

@[expose] public section

noncomputable section

open Idealize.ShloMosaic Idealize.ShloMosaic.TcCoe

namespace Cert.Prod

/-- A literal of the programs. -/
abbrev lit (b : BitVec 32) : Ideal .f32 := Scalar.ofBits .f32 b

/-- The new first moment. -/
def newM (g m : Ideal .f32) : Ideal .f32 :=
  FloatOps.addf (FloatOps.mulf (lit 0x3F666666#32) m) (FloatOps.mulf (lit 0x3DCCCCCD#32) g)

/-- The new second moment. -/
def newV (g v : Ideal .f32) : Ideal .f32 :=
  FloatOps.addf (FloatOps.mulf (lit 0x3F7FBE77#32) v) (FloatOps.mulf (lit 0x3A83126F#32) (FloatOps.mulf g g))

/-- The step. -/
def delta (g w m v : Ideal .f32) : Ideal .f32 :=
  FloatOps.mulf (lit 0xBA83126F#32) (FloatOps.addf
    (FloatOps.divf (FloatOps.divf (newM g m) (lit 0x3F26BD02#32))
      (FloatOps.addf (FloatOps.sqrt (FloatOps.divf (newV g v) (lit 0x3C231ACC#32))) (lit 0x322BCC77#32)))
    (FloatOps.mulf (lit 0x3C23D70A#32) w))

theorem newM_congr {g g' m m' : Ideal .f32} (hg : g = g') (hm : m = m') : newM g m = newM g' m' := by rw [hg, hm]

theorem newV_congr {g g' v v' : Ideal .f32} (hg : g = g') (hv : v = v') : newV g v = newV g' v' := by rw [hg, hv]

theorem delta_congr {g g' w w' m m' v v' : Ideal .f32} (hg : g = g') (hw : w = w') (hm : m = m') (hv : v = v') :
    delta g w m v = delta g' w' m' v' := by rw [hg, hw, hm, hv]

end Cert.Prod

end
-- ==== Proof.Prod.K18.lean ====
/-
  The optimiser's update of the input projection, block of rows by block of rows.
-/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Prod.Step
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K18

open Cert.Kernel18Ideal Cert.Kernel18Ideal.Gen Cert.Kernel18Ideal.Value
open Cert.Reference18Ideal.Read

variable (m : (ℓ : Loc nD τ sig) → Buf (Elt Ideal) ℓ)

theorem hN : cfg0.N = 4 := N_0

theorem idx0 : ∀ t : Fin cfg0.N, win0_0.index t 0 = 0 ∧ win0_0.index t 1 = t.val ∧ win0_0.index t 2 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel

/-- Where a row's block is, and where in it the row is. -/
theorem point (R : Fin 1024) : ∃ (t : Fin cfg0.N) (r : Fin 256), R.val = 256 * t.val + r.val :=
  ⟨⟨R.val / 256, by rw [hN]; omega⟩, ⟨R.val % 256, by omega⟩, by show R.val = 256 * (R.val / 256) + R.val % 256; omega⟩

section
variable (c : Dev nD) (t : Fin cfg0.N) (r : Fin 256) (d : Fin 704) (R : Fin 1024) (hR : R.val = 256 * t.val + r.val)
include hR

theorem ib0 (k : Fin 8) : iblk m c 0 t (ix3 k r d) = V m c main_arg0 (ix3 k R d) := by
  unfold iblk
  rw [View.read_apply]
  show V m c main_arg0 _ = _
  congr 1
  funext a
  apply Fin.ext
  match a with
  | ⟨0, _⟩ => show win0_0.index t 0 * 8 + 1 * k.val = k.val; rw [(idx0 t).1]; omega
  | ⟨1, _⟩ => show win0_0.index t 1 * 256 + 1 * r.val = R.val; rw [(idx0 t).2.1]; omega
  | ⟨2, _⟩ => show win0_0.index t 2 * 704 + 1 * d.val = d.val; rw [(idx0 t).2.2]; omega

theorem ib1 : iblk m c 1 t (ix2 r d) = V m c main_arg1 (ix2 R d) := by
  unfold iblk
  rw [View.read_apply]
  show V m c main_arg1 _ = _
  congr 1
  funext a
  apply Fin.ext
  match a with
  | ⟨0, _⟩ => show win0_1.index t 0 * 256 + 1 * r.val = R.val; rw [(idx1 t).1]; omega
  | ⟨1, _⟩ => show win0_1.index t 1 * 704 + 1 * d.val = d.val; rw [(idx1 t).2]; omega

theorem ib2 : iblk m c 2 t (ix2 r d) = V m c main_arg2 (ix2 R d) := by
  unfold iblk
  rw [View.read_apply]
  show V m c main_arg2 _ = _
  congr 1
  funext a
  apply Fin.ext
  match a with
  | ⟨0, _⟩ => show win0_2.index t 0 * 256 + 1 * r.val = R.val; rw [(idx2 t).1]; omega
  | ⟨1, _⟩ => show win0_2.index t 1 * 704 + 1 * d.val = d.val; rw [(idx2 t).2]; omega

theorem ib3 : iblk m c 3 t (ix2 r d) = V m c main_arg3 (ix2 R d) := by
  unfold iblk
  rw [View.read_apply]
  show V m c main_arg3 _ = _
  congr 1
  funext a
  apply Fin.ext
  match a with
  | ⟨0, _⟩ => show win0_3.index t 0 * 256 + 1 * r.val = R.val; rw [(idx3 t).1]; omega
  | ⟨1, _⟩ => show win0_3.index t 1 * 704 + 1 * d.val = d.val; rw [(idx3 t).2]; omega

theorem arr4 : (dats m 0 c).arrAt 4 cfg0.N (ix2 R d)
    = out0_4 (iblk m c 0 t) (iblk m c 1 t) (iblk m c 2 t) (iblk m c 3 t) (ix2 r d) := by
  have h := congrFun (blocks4 m c t (flush0_4 t)) (ix2 r d)
  rw [View.read_apply, flushed4] at h
  refine (congrArg _ ?_).trans h
  funext a
  apply Fin.ext
  match a with
  | ⟨0, _⟩ => show R.val = win0_4.index t 0 * 256 + 1 * r.val; rw [(idx4 t).1]; omega
  | ⟨1, _⟩ => show d.val = win0_4.index t 1 * 704 + 1 * d.val; rw [(idx4 t).2]; omega

theorem arr5 : (dats m 0 c).arrAt 5 cfg0.N (ix2 R d)
    = out0_5 (iblk m c 0 t) (iblk m c 1 t) (iblk m c 2 t) (iblk m c 3 t) (ix2 r d) := by
  have h := congrFun (blocks5 m c t (flush0_5 t)) (ix2 r d)
  rw [View.read_apply, flushed5] at h
  refine (congrArg _ ?_).trans h
  funext a
  apply Fin.ext
  match a with
  | ⟨0, _⟩ => show R.val = win0_5.index t 0 * 256 + 1 * r.val; rw [(idx5 t).1]; omega
  | ⟨1, _⟩ => show d.val = win0_5.index t 1 * 704 + 1 * d.val; rw [(idx5 t).2]; omega

theorem arr6 : (dats m 0 c).arrAt 6 cfg0.N (ix2 R d)
    = out0_6 (iblk m c 0 t) (iblk m c 1 t) (iblk m c 2 t) (iblk m c 3 t) (ix2 r d) := by
  have h := congrFun (blocks6 m c t (flush0_6 t)) (ix2 r d)
  rw [View.read_apply, flushed6] at h
  refine (congrArg _ ?_).trans h
  funext a
  apply Fin.ext
  match a with
  | ⟨0, _⟩ => show R.val = win0_6.index t 0 * 256 + 1 * r.val; rw [(idx6 t).1]; omega
  | ⟨1, _⟩ => show d.val = win0_6.index t 1 * 704 + 1 * d.val; rw [(idx6 t).2]; omega

theorem arr7 : (dats m 0 c).arrAt 7 cfg0.N (ix2 R d)
    = out0_7 (iblk m c 0 t) (iblk m c 1 t) (iblk m c 2 t) (iblk m c 3 t) (ix2 r d) := by
  have h := congrFun (blocks7 m c t (flush0_7 t)) (ix2 r d)
  rw [View.read_apply, flushed7] at h
  refine (congrArg _ ?_).trans h
  funext a
  apply Fin.ext
  match a with
  | ⟨0, _⟩ => show R.val = win0_7.index t 0 * 256 + 1 * r.val; rw [(idx7 t).1]; omega
  | ⟨1, _⟩ => show d.val = win0_7.index t 1 * 704 + 1 * d.val; rw [(idx7 t).2]; omega

end

section
variable (x0 : Vec Ideal S8x256x704 .bf16) (x1 x2 x3 : Vec Ideal S256x704 .f32) (r : Fin 256) (d : Fin 704)

theorem sum_ix : k0_pay5 (F := Ideal) x0 x1 x2 x3 (ix2 r d) = ∑ k : Fin 8, (x0 (ix3 k r d) : EReal) := by
  pointwise [k0_pay5, k0_pay4]
  rw [Fin.sum_univ_eight]

theorem out4_ix : out0_4 (F := Ideal) x0 x1 x2 x3 (ix2 r d) = ∑ k : Fin 8, (x0 (ix3 k r d) : EReal) := by
  unfold out0_4
  rw [View.canon_unit_zero (S := S256x704) hz]
  exact sum_ix x0 x1 x2 x3 r d

theorem out5_ix : out0_5 (F := Ideal) x0 x1 x2 x3 (ix2 r d)
    = delta (∑ k : Fin 8, (x0 (ix3 k r d) : EReal)) (x1 (ix2 r d)) (x2 (ix2 r d)) (x3 (ix2 r d)) := by
  rw [← sum_ix x0 x1 x2 x3 r d]
  unfold out0_5
  rw [View.canon_unit_zero (S := S256x704) hz]
  simp only [View.ld_unit_zero (S := S256x704) hz]
  rfl

theorem out6_ix : out0_6 (F := Ideal) x0 x1 x2 x3 (ix2 r d)
    = newM (∑ k : Fin 8, (x0 (ix3 k r d) : EReal)) (x2 (ix2 r d)) := by
  rw [← sum_ix x0 x1 x2 x3 r d]
  unfold out0_6
  rw [View.canon_unit_zero (S := S256x704) hz]
  simp only [View.ld_unit_zero (S := S256x704) hz]
  rfl

theorem out7_ix : out0_7 (F := Ideal) x0 x1 x2 x3 (ix2 r d)
    = newV (∑ k : Fin 8, (x0 (ix3 k r d) : EReal)) (x3 (ix2 r d)) := by
  rw [← sum_ix x0 x1 x2 x3 r d]
  unfold out0_7
  rw [View.canon_unit_zero (S := S256x704) hz]
  simp only [View.ld_unit_zero (S := S256x704) hz]
  rfl

end

theorem ref1 (a0) (R : Fin 1024) (d : Fin 704) :
    val_main_v1 (F := Ideal) a0 (ix2 R d) = ∑ k : Fin 8, (a0 (ix3 k R d) : EReal) := by
  pointwise [val_main_v1, val_main_v0, val_main_cst]

theorem ref25 (a0 a1 a2 a3) (R : Fin 1024) (d : Fin 704) : val_main_v25 (F := Ideal) a0 a1 a2 a3 (ix2 R d)
    = delta (val_main_v1 (F := Ideal) a0 (ix2 R d)) (a1 (ix2 R d)) (a2 (ix2 R d)) (a3 (ix2 R d)) := rfl

theorem ref6 (a0 a2) (R : Fin 1024) (d : Fin 704) : val_main_v6 (F := Ideal) a0 a2 (ix2 R d)
    = newM (val_main_v1 (F := Ideal) a0 (ix2 R d)) (a2 (ix2 R d)) := rfl

theorem ref12 (a0 a3) (R : Fin 1024) (d : Fin 704) : val_main_v12 (F := Ideal) a0 a3 (ix2 R d)
    = newV (val_main_v1 (F := Ideal) a0 (ix2 R d)) (a3 (ix2 R d)) := rfl

abbrev b0 (c : Dev nD) (t : Fin cfg0.N) : Vec Ideal S8x256x704 .bf16 := iblk m c 0 t

theorem sum_eq (c : Dev nD) (t : Fin cfg0.N) (r : Fin 256) (d : Fin 704) (R : Fin 1024) (hR : R.val = 256 * t.val + r.val) :
    ∑ k : Fin 8, (b0 m c t (ix3 k r d) : EReal) = val_main_v1 (F := Ideal) (V m c main_arg0) (ix2 R d) := by
  refine .trans ?_ (ref1 _ R d).symm
  refine Finset.sum_congr rfl ?_
  intro k _
  exact ib0 m c t r d R hR k

theorem grad (c : Dev nD) : (dats m 0 c).arrAt 4 cfg0.N = val_main_v1 (F := Ideal) (V m c main_arg0) := by
  funext i
  rw [eq_ix2 i]
  obtain ⟨t, r, hR⟩ := point (i 0)
  exact (arr4 m c t r (i 1) (i 0) hR).trans ((out4_ix _ _ _ _ r (i 1)).trans (sum_eq m c t r (i 1) (i 0) hR))

theorem step (c : Dev nD) : (dats m 0 c).arrAt 5 cfg0.N
    = val_main_v25 (F := Ideal) (V m c main_arg0) (V m c main_arg1) (V m c main_arg2) (V m c main_arg3) := by
  funext i
  rw [eq_ix2 i]
  obtain ⟨t, r, hR⟩ := point (i 0)
  refine (arr5 m c t r (i 1) (i 0) hR).trans ((out5_ix _ _ _ _ r (i 1)).trans (.trans ?_ (ref25 _ _ _ _ _ _).symm))
  exact delta_congr (sum_eq m c t r (i 1) (i 0) hR) (ib1 m c t r (i 1) (i 0) hR) (ib2 m c t r (i 1) (i 0) hR)
    (ib3 m c t r (i 1) (i 0) hR)

theorem mean (c : Dev nD) : (dats m 0 c).arrAt 6 cfg0.N = val_main_v6 (F := Ideal) (V m c main_arg0) (V m c main_arg2) := by
  funext i
  rw [eq_ix2 i]
  obtain ⟨t, r, hR⟩ := point (i 0)
  refine (arr6 m c t r (i 1) (i 0) hR).trans ((out6_ix _ _ _ _ r (i 1)).trans (.trans ?_ (ref6 _ _ _ _).symm))
  exact newM_congr (sum_eq m c t r (i 1) (i 0) hR) (ib2 m c t r (i 1) (i 0) hR)

theorem sq (c : Dev nD) : (dats m 0 c).arrAt 7 cfg0.N = val_main_v12 (F := Ideal) (V m c main_arg0) (V m c main_arg3) := by
  funext i
  rw [eq_ix2 i]
  obtain ⟨t, r, hR⟩ := point (i 0)
  refine (arr7 m c t r (i 1) (i 0) hR).trans ((out7_ix _ _ _ _ r (i 1)).trans (.trans ?_ (ref12 _ _ _ _).symm))
  exact newV_congr (sum_eq m c t r (i 1) (i 0) hR) (ib3 m c t r (i 1) (i 0) hR)

theorem frame_reference : Cert.quiescent_Reference18Ideal := fun m g _ =>
  (θ_run Cert.Reference18Ideal.defs _ _).mono
    (fun r h => ⟨fun c => (h c).2.2.2.2, sem_eq_zero_of_no_sems (by rfl) _⟩) (Cert.Reference18Ideal.Value.run (F := Ideal) m g)

theorem alg : Cert.algebraic_Kernel18Ideal_Reference18Ideal := by
  intro m g m' g' _ hagree
  refine ⟨_, _, _, _, (θ_run Cert.Kernel18Ideal.defs _ _).mono (fun r h c => h c) (run_blocks m g), ?_⟩
  refine (θ_run Cert.Reference18Ideal.defs _ _).mono (fun r h c => ?_) (Cert.Reference18Ideal.Value.run (F := Ideal) m' g')
  obtain ⟨e0, e1, e2, e3⟩ := hagree c
  obtain ⟨h1, h25, h6, h12, hk⟩ := h c
  rw [val_main_v1_eq, e0] at h1
  rw [val_main_v25_eq, e0, e1, e2, e3] at h25
  rw [val_main_v6_eq, e0, e2] at h6
  rw [val_main_v12_eq, e0, e3] at h12
  clear h
  exact ⟨h1.trans (grad m c).symm, h25.trans (step m c).symm, h6.trans (mean m c).symm, h12.trans (sq m c).symm, hk⟩

end Cert.Prod.K18

end
-- ==== Proof.Prod.K17.lean ====
/-
  The optimiser's update of the attention branch's projection (the merged branches' has the same program).
-/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem

namespace Cert.Prod.K17

open Cert.Kernel17Ideal Cert.Kernel17Ideal.Gen Cert.Kernel17Ideal.Value
open Cert.Reference17Ideal.Read

theorem grad (a0 a1 a2 a3) : G4 (F := Ideal) a0 a1 a2 a3 = val_main_v1 a0 := by
  funext i
  rw [eq_ix2 i]
  generalize i 0 = r
  generalize i 1 = d
  show k0_pay4 (F := Ideal) _ _ _ _ _ _ _ _ (ix2 r d) = _
  pointwise [k0_pay4, val_main_v1, val_main_v0, val_main_cst]
  rw [Fin.sum_univ_eight]

theorem mean (a0 a1 a2 a3) : G6 (F := Ideal) a0 a1 a2 a3 = val_main_v6 a0 a2 := by
  have h := grad a0 a1 a2 a3
  show k0_pay1 (G4 a0 a1 a2 a3) a2 = _
  rw [h]
  rfl

theorem sq (a0 a1 a2 a3) : G7 (F := Ideal) a0 a1 a2 a3 = val_main_v12 a0 a3 := by
  have h := grad a0 a1 a2 a3
  show k0_pay2 (G4 a0 a1 a2 a3) a3 = _
  rw [h]
  rfl

theorem step (a0 a1 a2 a3) : G5 (F := Ideal) a0 a1 a2 a3 = val_main_v25 a0 a1 a2 a3 := by
  have h := grad a0 a1 a2 a3
  show k0_pay3 (G4 a0 a1 a2 a3) a1 a2 a3 = _
  rw [h]
  rfl

theorem frame_reference : Cert.quiescent_Reference17Ideal := fun m g _ =>
  (θ_run Cert.Reference17Ideal.defs _ _).mono
    (fun r h => ⟨fun c => (h c).2.2.2.2, sem_eq_zero_of_no_sems (by rfl) _⟩) (Cert.Reference17Ideal.Value.run (F := Ideal) m g)

theorem alg : Cert.algebraic_Kernel17Ideal_Reference17Ideal := by
  intro m g m' g' _ hagree
  refine ⟨_, _, _, _, (θ_run Cert.Kernel17Ideal.defs _ _).mono (fun r h c => h c) (run m g), ?_⟩
  refine (θ_run Cert.Reference17Ideal.defs _ _).mono (fun r h c => ?_) (Cert.Reference17Ideal.Value.run (F := Ideal) m' g')
  obtain ⟨e0, e1, e2, e3⟩ := hagree c
  obtain ⟨h1, h25, h6, h12, hk⟩ := h c
  rw [val_main_v1_eq, e0] at h1
  rw [val_main_v25_eq, e0, e1, e2, e3] at h25
  rw [val_main_v6_eq, e0, e2] at h6
  rw [val_main_v12_eq, e0, e3] at h12
  clear h
  exact ⟨h1.trans (grad _ _ _ _).symm, h25.trans (step _ _ _ _).symm, h6.trans (mean _ _ _ _).symm,
    h12.trans (sq _ _ _ _).symm, hk⟩

end Cert.Prod.K17

end
-- ==== Proof.Prod.K16.lean ====
/-
  The optimiser's update of the state-space branch's projection.
-/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem

namespace Cert.Prod.K16

open Cert.Kernel16Ideal Cert.Kernel16Ideal.Gen Cert.Kernel16Ideal.Value
open Cert.Reference16Ideal.Read

theorem grad (a0 a1 a2 a3) : G4 (F := Ideal) a0 a1 a2 a3 = val_main_v1 a0 := by
  funext i
  rw [eq_ix2 i]
  generalize i 0 = r
  generalize i 1 = d
  show k0_pay4 (F := Ideal) _ _ _ _ _ _ _ _ (ix2 r d) = _
  pointwise [k0_pay4, val_main_v1, val_main_v0, val_main_cst]
  rw [Fin.sum_univ_eight]

theorem mean (a0 a1 a2 a3) : G6 (F := Ideal) a0 a1 a2 a3 = val_main_v6 a0 a2 := by
  have h := grad a0 a1 a2 a3
  show k0_pay1 (G4 a0 a1 a2 a3) a2 = _
  rw [h]
  rfl

theorem sq (a0 a1 a2 a3) : G7 (F := Ideal) a0 a1 a2 a3 = val_main_v12 a0 a3 := by
  have h := grad a0 a1 a2 a3
  show k0_pay2 (G4 a0 a1 a2 a3) a3 = _
  rw [h]
  rfl

theorem step (a0 a1 a2 a3) : G5 (F := Ideal) a0 a1 a2 a3 = val_main_v25 a0 a1 a2 a3 := by
  have h := grad a0 a1 a2 a3
  show k0_pay3 (G4 a0 a1 a2 a3) a1 a2 a3 = _
  rw [h]
  rfl

theorem frame_reference : Cert.quiescent_Reference16Ideal := fun m g _ =>
  (θ_run Cert.Reference16Ideal.defs _ _).mono
    (fun r h => ⟨fun c => (h c).2.2.2.2, sem_eq_zero_of_no_sems (by rfl) _⟩) (Cert.Reference16Ideal.Value.run (F := Ideal) m g)

theorem alg : Cert.algebraic_Kernel16Ideal_Reference16Ideal := by
  intro m g m' g' _ hagree
  refine ⟨_, _, _, _, (θ_run Cert.Kernel16Ideal.defs _ _).mono (fun r h c => h c) (run m g), ?_⟩
  refine (θ_run Cert.Reference16Ideal.defs _ _).mono (fun r h c => ?_) (Cert.Reference16Ideal.Value.run (F := Ideal) m' g')
  obtain ⟨e0, e1, e2, e3⟩ := hagree c
  obtain ⟨h1, h25, h6, h12, hk⟩ := h c
  rw [val_main_v1_eq, e0] at h1
  rw [val_main_v25_eq, e0, e1, e2, e3] at h25
  rw [val_main_v6_eq, e0, e2] at h6
  rw [val_main_v12_eq, e0, e3] at h12
  clear h
  exact ⟨h1.trans (grad _ _ _ _).symm, h25.trans (step _ _ _ _).symm, h6.trans (mean _ _ _ _).symm,
    h12.trans (sq _ _ _ _).symm, hk⟩

end Cert.Prod.K16

end
-- ==== Proof.Prod.K15.lean ====
/-
  The optimiser's update of the input projection, block of rows by block of rows.
-/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Prod.Step
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K15

open Cert.Kernel15Ideal Cert.Kernel15Ideal.Gen Cert.Kernel15Ideal.Value
open Cert.Reference15Ideal.Read

variable (m : (ℓ : Loc nD τ sig) → Buf (Elt Ideal) ℓ)

theorem hN : cfg0.N = 4 := N_0

theorem idx0 : ∀ t : Fin cfg0.N, win0_0.index t 0 = 0 ∧ win0_0.index t 1 = t.val ∧ win0_0.index t 2 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel

/-- Where a row's block is, and where in it the row is. -/
theorem point (R : Fin 1024) : ∃ (t : Fin cfg0.N) (r : Fin 256), R.val = 256 * t.val + r.val :=
  ⟨⟨R.val / 256, by rw [hN]; omega⟩, ⟨R.val % 256, by omega⟩, by show R.val = 256 * (R.val / 256) + R.val % 256; omega⟩

section
variable (c : Dev nD) (t : Fin cfg0.N) (r : Fin 256) (d : Fin 1060) (R : Fin 1024) (hR : R.val = 256 * t.val + r.val)
include hR

theorem ib0 (k : Fin 8) : iblk m c 0 t (ix3 k r d) = V m c main_arg0 (ix3 k R d) := by
  unfold iblk
  rw [View.read_apply]
  show V m c main_arg0 _ = _
  congr 1
  funext a
  apply Fin.ext
  match a with
  | ⟨0, _⟩ => show win0_0.index t 0 * 8 + 1 * k.val = k.val; rw [(idx0 t).1]; omega
  | ⟨1, _⟩ => show win0_0.index t 1 * 256 + 1 * r.val = R.val; rw [(idx0 t).2.1]; omega
  | ⟨2, _⟩ => show win0_0.index t 2 * 1060 + 1 * d.val = d.val; rw [(idx0 t).2.2]; omega

theorem ib1 : iblk m c 1 t (ix2 r d) = V m c main_arg1 (ix2 R d) := by
  unfold iblk
  rw [View.read_apply]
  show V m c main_arg1 _ = _
  congr 1
  funext a
  apply Fin.ext
  match a with
  | ⟨0, _⟩ => show win0_1.index t 0 * 256 + 1 * r.val = R.val; rw [(idx1 t).1]; omega
  | ⟨1, _⟩ => show win0_1.index t 1 * 1060 + 1 * d.val = d.val; rw [(idx1 t).2]; omega

theorem ib2 : iblk m c 2 t (ix2 r d) = V m c main_arg2 (ix2 R d) := by
  unfold iblk
  rw [View.read_apply]
  show V m c main_arg2 _ = _
  congr 1
  funext a
  apply Fin.ext
  match a with
  | ⟨0, _⟩ => show win0_2.index t 0 * 256 + 1 * r.val = R.val; rw [(idx2 t).1]; omega
  | ⟨1, _⟩ => show win0_2.index t 1 * 1060 + 1 * d.val = d.val; rw [(idx2 t).2]; omega

theorem ib3 : iblk m c 3 t (ix2 r d) = V m c main_arg3 (ix2 R d) := by
  unfold iblk
  rw [View.read_apply]
  show V m c main_arg3 _ = _
  congr 1
  funext a
  apply Fin.ext
  match a with
  | ⟨0, _⟩ => show win0_3.index t 0 * 256 + 1 * r.val = R.val; rw [(idx3 t).1]; omega
  | ⟨1, _⟩ => show win0_3.index t 1 * 1060 + 1 * d.val = d.val; rw [(idx3 t).2]; omega

theorem arr4 : (dats m 0 c).arrAt 4 cfg0.N (ix2 R d)
    = out0_4 (iblk m c 0 t) (iblk m c 1 t) (iblk m c 2 t) (iblk m c 3 t) (ix2 r d) := by
  have h := congrFun (blocks4 m c t (flush0_4 t)) (ix2 r d)
  rw [View.read_apply, flushed4] at h
  refine (congrArg _ ?_).trans h
  funext a
  apply Fin.ext
  match a with
  | ⟨0, _⟩ => show R.val = win0_4.index t 0 * 256 + 1 * r.val; rw [(idx4 t).1]; omega
  | ⟨1, _⟩ => show d.val = win0_4.index t 1 * 1060 + 1 * d.val; rw [(idx4 t).2]; omega

theorem arr5 : (dats m 0 c).arrAt 5 cfg0.N (ix2 R d)
    = out0_5 (iblk m c 0 t) (iblk m c 1 t) (iblk m c 2 t) (iblk m c 3 t) (ix2 r d) := by
  have h := congrFun (blocks5 m c t (flush0_5 t)) (ix2 r d)
  rw [View.read_apply, flushed5] at h
  refine (congrArg _ ?_).trans h
  funext a
  apply Fin.ext
  match a with
  | ⟨0, _⟩ => show R.val = win0_5.index t 0 * 256 + 1 * r.val; rw [(idx5 t).1]; omega
  | ⟨1, _⟩ => show d.val = win0_5.index t 1 * 1060 + 1 * d.val; rw [(idx5 t).2]; omega

theorem arr6 : (dats m 0 c).arrAt 6 cfg0.N (ix2 R d)
    = out0_6 (iblk m c 0 t) (iblk m c 1 t) (iblk m c 2 t) (iblk m c 3 t) (ix2 r d) := by
  have h := congrFun (blocks6 m c t (flush0_6 t)) (ix2 r d)
  rw [View.read_apply, flushed6] at h
  refine (congrArg _ ?_).trans h
  funext a
  apply Fin.ext
  match a with
  | ⟨0, _⟩ => show R.val = win0_6.index t 0 * 256 + 1 * r.val; rw [(idx6 t).1]; omega
  | ⟨1, _⟩ => show d.val = win0_6.index t 1 * 1060 + 1 * d.val; rw [(idx6 t).2]; omega

theorem arr7 : (dats m 0 c).arrAt 7 cfg0.N (ix2 R d)
    = out0_7 (iblk m c 0 t) (iblk m c 1 t) (iblk m c 2 t) (iblk m c 3 t) (ix2 r d) := by
  have h := congrFun (blocks7 m c t (flush0_7 t)) (ix2 r d)
  rw [View.read_apply, flushed7] at h
  refine (congrArg _ ?_).trans h
  funext a
  apply Fin.ext
  match a with
  | ⟨0, _⟩ => show R.val = win0_7.index t 0 * 256 + 1 * r.val; rw [(idx7 t).1]; omega
  | ⟨1, _⟩ => show d.val = win0_7.index t 1 * 1060 + 1 * d.val; rw [(idx7 t).2]; omega

end

section
variable (x0 : Vec Ideal S8x256x1060 .bf16) (x1 x2 x3 : Vec Ideal S256x1060 .f32) (r : Fin 256) (d : Fin 1060)

theorem sum_ix : k0_pay5 (F := Ideal) x0 x1 x2 x3 (ix2 r d) = ∑ k : Fin 8, (x0 (ix3 k r d) : EReal) := by
  pointwise [k0_pay5, k0_pay4]
  rw [Fin.sum_univ_eight]

theorem out4_ix : out0_4 (F := Ideal) x0 x1 x2 x3 (ix2 r d) = ∑ k : Fin 8, (x0 (ix3 k r d) : EReal) := by
  unfold out0_4
  rw [View.canon_unit_zero (S := S256x1060) hz]
  exact sum_ix x0 x1 x2 x3 r d

theorem out5_ix : out0_5 (F := Ideal) x0 x1 x2 x3 (ix2 r d)
    = delta (∑ k : Fin 8, (x0 (ix3 k r d) : EReal)) (x1 (ix2 r d)) (x2 (ix2 r d)) (x3 (ix2 r d)) := by
  rw [← sum_ix x0 x1 x2 x3 r d]
  unfold out0_5
  rw [View.canon_unit_zero (S := S256x1060) hz]
  simp only [View.ld_unit_zero (S := S256x1060) hz]
  rfl

theorem out6_ix : out0_6 (F := Ideal) x0 x1 x2 x3 (ix2 r d)
    = newM (∑ k : Fin 8, (x0 (ix3 k r d) : EReal)) (x2 (ix2 r d)) := by
  rw [← sum_ix x0 x1 x2 x3 r d]
  unfold out0_6
  rw [View.canon_unit_zero (S := S256x1060) hz]
  simp only [View.ld_unit_zero (S := S256x1060) hz]
  rfl

theorem out7_ix : out0_7 (F := Ideal) x0 x1 x2 x3 (ix2 r d)
    = newV (∑ k : Fin 8, (x0 (ix3 k r d) : EReal)) (x3 (ix2 r d)) := by
  rw [← sum_ix x0 x1 x2 x3 r d]
  unfold out0_7
  rw [View.canon_unit_zero (S := S256x1060) hz]
  simp only [View.ld_unit_zero (S := S256x1060) hz]
  rfl

end

theorem ref1 (a0) (R : Fin 1024) (d : Fin 1060) :
    val_main_v1 (F := Ideal) a0 (ix2 R d) = ∑ k : Fin 8, (a0 (ix3 k R d) : EReal) := by
  pointwise [val_main_v1, val_main_v0, val_main_cst]

theorem ref25 (a0 a1 a2 a3) (R : Fin 1024) (d : Fin 1060) : val_main_v25 (F := Ideal) a0 a1 a2 a3 (ix2 R d)
    = delta (val_main_v1 (F := Ideal) a0 (ix2 R d)) (a1 (ix2 R d)) (a2 (ix2 R d)) (a3 (ix2 R d)) := rfl

theorem ref6 (a0 a2) (R : Fin 1024) (d : Fin 1060) : val_main_v6 (F := Ideal) a0 a2 (ix2 R d)
    = newM (val_main_v1 (F := Ideal) a0 (ix2 R d)) (a2 (ix2 R d)) := rfl

theorem ref12 (a0 a3) (R : Fin 1024) (d : Fin 1060) : val_main_v12 (F := Ideal) a0 a3 (ix2 R d)
    = newV (val_main_v1 (F := Ideal) a0 (ix2 R d)) (a3 (ix2 R d)) := rfl

abbrev b0 (c : Dev nD) (t : Fin cfg0.N) : Vec Ideal S8x256x1060 .bf16 := iblk m c 0 t

theorem sum_eq (c : Dev nD) (t : Fin cfg0.N) (r : Fin 256) (d : Fin 1060) (R : Fin 1024) (hR : R.val = 256 * t.val + r.val) :
    ∑ k : Fin 8, (b0 m c t (ix3 k r d) : EReal) = val_main_v1 (F := Ideal) (V m c main_arg0) (ix2 R d) := by
  refine .trans ?_ (ref1 _ R d).symm
  refine Finset.sum_congr rfl ?_
  intro k _
  exact ib0 m c t r d R hR k

theorem grad (c : Dev nD) : (dats m 0 c).arrAt 4 cfg0.N = val_main_v1 (F := Ideal) (V m c main_arg0) := by
  funext i
  rw [eq_ix2 i]
  obtain ⟨t, r, hR⟩ := point (i 0)
  exact (arr4 m c t r (i 1) (i 0) hR).trans ((out4_ix _ _ _ _ r (i 1)).trans (sum_eq m c t r (i 1) (i 0) hR))

theorem step (c : Dev nD) : (dats m 0 c).arrAt 5 cfg0.N
    = val_main_v25 (F := Ideal) (V m c main_arg0) (V m c main_arg1) (V m c main_arg2) (V m c main_arg3) := by
  funext i
  rw [eq_ix2 i]
  obtain ⟨t, r, hR⟩ := point (i 0)
  refine (arr5 m c t r (i 1) (i 0) hR).trans ((out5_ix _ _ _ _ r (i 1)).trans (.trans ?_ (ref25 _ _ _ _ _ _).symm))
  exact delta_congr (sum_eq m c t r (i 1) (i 0) hR) (ib1 m c t r (i 1) (i 0) hR) (ib2 m c t r (i 1) (i 0) hR)
    (ib3 m c t r (i 1) (i 0) hR)

theorem mean (c : Dev nD) : (dats m 0 c).arrAt 6 cfg0.N = val_main_v6 (F := Ideal) (V m c main_arg0) (V m c main_arg2) := by
  funext i
  rw [eq_ix2 i]
  obtain ⟨t, r, hR⟩ := point (i 0)
  refine (arr6 m c t r (i 1) (i 0) hR).trans ((out6_ix _ _ _ _ r (i 1)).trans (.trans ?_ (ref6 _ _ _ _).symm))
  exact newM_congr (sum_eq m c t r (i 1) (i 0) hR) (ib2 m c t r (i 1) (i 0) hR)

theorem sq (c : Dev nD) : (dats m 0 c).arrAt 7 cfg0.N = val_main_v12 (F := Ideal) (V m c main_arg0) (V m c main_arg3) := by
  funext i
  rw [eq_ix2 i]
  obtain ⟨t, r, hR⟩ := point (i 0)
  refine (arr7 m c t r (i 1) (i 0) hR).trans ((out7_ix _ _ _ _ r (i 1)).trans (.trans ?_ (ref12 _ _ _ _).symm))
  exact newV_congr (sum_eq m c t r (i 1) (i 0) hR) (ib3 m c t r (i 1) (i 0) hR)

theorem frame_reference : Cert.quiescent_Reference15Ideal := fun m g _ =>
  (θ_run Cert.Reference15Ideal.defs _ _).mono
    (fun r h => ⟨fun c => (h c).2.2.2.2, sem_eq_zero_of_no_sems (by rfl) _⟩) (Cert.Reference15Ideal.Value.run (F := Ideal) m g)

theorem alg : Cert.algebraic_Kernel15Ideal_Reference15Ideal := by
  intro m g m' g' _ hagree
  refine ⟨_, _, _, _, (θ_run Cert.Kernel15Ideal.defs _ _).mono (fun r h c => h c) (run_blocks m g), ?_⟩
  refine (θ_run Cert.Reference15Ideal.defs _ _).mono (fun r h c => ?_) (Cert.Reference15Ideal.Value.run (F := Ideal) m' g')
  obtain ⟨e0, e1, e2, e3⟩ := hagree c
  obtain ⟨h1, h25, h6, h12, hk⟩ := h c
  rw [val_main_v1_eq, e0] at h1
  rw [val_main_v25_eq, e0, e1, e2, e3] at h25
  rw [val_main_v6_eq, e0, e2] at h6
  rw [val_main_v12_eq, e0, e3] at h12
  clear h
  exact ⟨h1.trans (grad m c).symm, h25.trans (step m c).symm, h6.trans (mean m c).symm, h12.trans (sq m c).symm, hk⟩

end Cert.Prod.K15

end
-- ==== Proof.Prod.K14.lean ====
/-
  The gated merge of the two branches.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Prod.Sum
public import proofs.«01_k».proof.Proof.Mix.Sig
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K14

open Cert.Kernel14Ideal Cert.Kernel14Ideal.Gen Cert.Kernel14Ideal.Value

variable (m : (ℓ : Loc nD τ sig) → Buf (Elt Ideal) ℓ)

theorem hN : cfg0.N = 32 := N_0

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 6 := by decide +kernel
theorem idx3 : ∀ t : Fin cfg0.N, win0_3.index t 0 = t.val ∧ win0_3.index t 1 = 7 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel
theorem idx9 : ∀ t : Fin cfg0.N, win0_9.index t 0 = t.val ∧ win0_9.index t 1 = 0 := by decide +kernel

theorem ib0 (c : Dev nD) (t : Fin cfg0.N) (r : Fin 512) (d : Fin 2048) (R : Fin 16384) (C : Fin 2048)
    (hR : R.val = 512 * (t.val) + r.val) (hC : C.val = 2048 * (0) + d.val) :
    iblk m c 0 t (ix2 r d) = V m c main_arg0 (ix2 R C) := by
  unfold iblk
  rw [View.read_apply]
  show V m c main_arg0 _ = _
  congr 1
  funext a
  apply Fin.ext
  match a with
  | ⟨0, _⟩ => show win0_0.index t 0 * 512 + 1 * r.val = R.val; rw [(idx0 t).1]; omega
  | ⟨1, _⟩ => show win0_0.index t 1 * 2048 + 1 * d.val = C.val; rw [(idx0 t).2]; omega

theorem ib1 (c : Dev nD) (t : Fin cfg0.N) (r : Fin 512) (d : Fin 1024) (R : Fin 16384) (C : Fin 1024)
    (hR : R.val = 512 * (t.val) + r.val) (hC : C.val = 1024 * (0) + d.val) :
    iblk m c 1 t (ix2 r d) = V m c main_arg1 (ix2 R C) := by
  unfold iblk
  rw [View.read_apply]
  show V m c main_arg1 _ = _
  congr 1
  funext a
  apply Fin.ext
  match a with
  | ⟨0, _⟩ => show win0_1.index t 0 * 512 + 1 * r.val = R.val; rw [(idx1 t).1]; omega
  | ⟨1, _⟩ => show win0_1.index t 1 * 1024 + 1 * d.val = C.val; rw [(idx1 t).2]; omega

theorem ib2 (c : Dev nD) (t : Fin cfg0.N) (r : Fin 512) (d : Fin 1024) (R : Fin 16384) (C : Fin 8192)
    (hR : R.val = 512 * (t.val) + r.val) (hC : C.val = 1024 * (6) + d.val) :
    iblk m c 2 t (ix2 r d) = V m c main_arg2 (ix2 R C) := by
  unfold iblk
  rw [View.read_apply]
  show V m c main_arg2 _ = _
  congr 1
  funext a
  apply Fin.ext
  match a with
  | ⟨0, _⟩ => show win0_2.index t 0 * 512 + 1 * r.val = R.val; rw [(idx2 t).1]; omega
  | ⟨1, _⟩ => show win0_2.index t 1 * 1024 + 1 * d.val = C.val; rw [(idx2 t).2]; omega

theorem ib3 (c : Dev nD) (t : Fin cfg0.N) (r : Fin 512) (d : Fin 1024) (R : Fin 16384) (C : Fin 8192)
    (hR : R.val = 512 * (t.val) + r.val) (hC : C.val = 1024 * (7) + d.val) :
    iblk m c 3 t (ix2 r d) = V m c main_arg2 (ix2 R C) := by
  unfold iblk
  rw [View.read_apply]
  show V m c main_arg2 _ = _
  congr 1
  funext a
  apply Fin.ext
  match a with
  | ⟨0, _⟩ => show win0_3.index t 0 * 512 + 1 * r.val = R.val; rw [(idx3 t).1]; omega
  | ⟨1, _⟩ => show win0_3.index t 1 * 1024 + 1 * d.val = C.val; rw [(idx3 t).2]; omega

theorem ib4 (c : Dev nD) (t : Fin cfg0.N) (r : Fin 1) (d : Fin 2048) (R : Fin 1) (C : Fin 2048)
    (hR : R.val = 1 * (0) + r.val) (hC : C.val = 2048 * (0) + d.val) :
    iblk m c 4 t (ix2 r d) = V m c main_arg3 (ix2 R C) := by
  unfold iblk
  rw [View.read_apply]
  show V m c main_arg3 _ = _
  congr 1
  funext a
  apply Fin.ext
  match a with
  | ⟨0, _⟩ => show win0_4.index t 0 * 1 + 1 * r.val = R.val; rw [(idx4 t).1]; omega
  | ⟨1, _⟩ => show win0_4.index t 1 * 2048 + 1 * d.val = C.val; rw [(idx4 t).2]; omega

theorem ib5 (c : Dev nD) (t : Fin cfg0.N) (r : Fin 2048) (d : Fin 1024) (R : Fin 2048) (C : Fin 1024)
    (hR : R.val = 2048 * (0) + r.val) (hC : C.val = 1024 * (0) + d.val) :
    iblk m c 5 t (ix2 r d) = V m c main_arg4 (ix2 R C) := by
  unfold iblk
  rw [View.read_apply]
  show V m c main_arg4 _ = _
  congr 1
  funext a
  apply Fin.ext
  match a with
  | ⟨0, _⟩ => show win0_5.index t 0 * 2048 + 1 * r.val = R.val; rw [(idx5 t).1]; omega
  | ⟨1, _⟩ => show win0_5.index t 1 * 1024 + 1 * d.val = C.val; rw [(idx5 t).2]; omega

theorem ib6 (c : Dev nD) (t : Fin cfg0.N) (r : Fin 1024) (d : Fin 1024) (R : Fin 1024) (C : Fin 1024)
    (hR : R.val = 1024 * (0) + r.val) (hC : C.val = 1024 * (0) + d.val) :
    iblk m c 6 t (ix2 r d) = V m c main_arg5 (ix2 R C) := by
  unfold iblk
  rw [View.read_apply]
  show V m c main_arg5 _ = _
  congr 1
  funext a
  apply Fin.ext
  match a with
  | ⟨0, _⟩ => show win0_6.index t 0 * 1024 + 1 * r.val = R.val; rw [(idx6 t).1]; omega
  | ⟨1, _⟩ => show win0_6.index t 1 * 1024 + 1 * d.val = C.val; rw [(idx6 t).2]; omega

abbrev lo (x : Vec Ideal S1x2048 .f32) : Vec Ideal S1x1024 .f32 :=
  View.ld x (Rect.unit (s := S1x2048) ![0, 0] S1x1024.size inb_S1x2048_S1x1024_0_0)
abbrev hi (x : Vec Ideal S1x2048 .f32) : Vec Ideal S1x1024 .f32 :=
  View.ld x (Rect.unit (s := S1x2048) ![0, 1024] S1x1024.size inb_S1x2048_S1x1024_0_1024)

theorem lo_ix (x) (d : Fin 1024) : lo x (ix2 0 d) = x (ix2 0 (⟨d.val, by omega⟩ : Fin 2048)) := by
  show x _ = x _
  congr 1
  funext a
  apply Fin.ext
  match a with
  | ⟨0, _⟩ => rfl
  | ⟨1, _⟩ => show 0 + 1 * d.val = d.val; omega

theorem hi_ix (x) (d : Fin 1024) : hi x (ix2 0 d) = x (ix2 0 (⟨1024 + d.val, by omega⟩ : Fin 2048)) := by
  show x _ = x _
  congr 1
  funext a
  apply Fin.ext
  match a with
  | ⟨0, _⟩ => rfl
  | ⟨1, _⟩ => show 1024 + 1 * d.val = 1024 + d.val; omega

theorem pay1_ix (x0 x5) (r : Fin 512) (d : Fin 1024) :
    k0_pay1 (F := Ideal) x0 x5 (ix2 r d) = ∑ q : Fin 2048, (x0 (ix2 r q) : EReal) * x5 (ix2 q d) := by
  pointwise [k0_pay1]

theorem pay2_ix (x1 x6) (r : Fin 512) (d : Fin 1024) :
    k0_pay2 (F := Ideal) x1 x6 (ix2 r d) = ∑ q : Fin 1024, (x1 (ix2 r q) : EReal) * x6 (ix2 q d) := by
  pointwise [k0_pay2]

theorem pay3_ix (x0 x5 x1 x6 x2 l x3 h) (r : Fin 512) (d : Fin 1024) :
    k0_pay3 (F := Ideal) x0 x5 x1 x6 x2 l x3 h (ix2 r d)
      = Ideal.logistic (x2 (ix2 r d) + l (ix2 0 d)) * (∑ q : Fin 2048, (x0 (ix2 r q) : EReal) * x5 (ix2 q d))
        + Ideal.logistic (x3 (ix2 r d) + h (ix2 0 d)) * ∑ q : Fin 1024, (x1 (ix2 r q) : EReal) * x6 (ix2 q d) := by
  pointwise [k0_pay3, k0_pay1, k0_pay2, Cert.Mix.sig_f32]

theorem out7_ix (x0 x1 x2 x3 x4 x5 x6) (r : Fin 512) (d : Fin 1024) :
    out0_7 (F := Ideal) x0 x1 x2 x3 x4 x5 x6 (ix2 r d)
      = Ideal.logistic (x2 (ix2 r d) + x4 (ix2 0 (⟨d.val, by omega⟩ : Fin 2048))) * (∑ q : Fin 2048, (x0 (ix2 r q) : EReal) * x5 (ix2 q d))
        + Ideal.logistic (x3 (ix2 r d) + x4 (ix2 0 (⟨1024 + d.val, by omega⟩ : Fin 2048))) * ∑ q : Fin 1024, (x1 (ix2 r q) : EReal) * x6 (ix2 q d) := by
  unfold out0_7
  rw [View.canon_unit_zero (S := S512x1024) hz]
  simp only [View.ld_unit_zero (S := S512x2048) hz, View.ld_unit_zero (S := S2048x1024) hz, View.ld_unit_zero (S := S512x1024) hz, View.ld_unit_zero (S := S1024x1024) hz]
  refine (pay3_ix _ _ _ _ _ (lo x4) _ (hi x4) r d).trans ?_
  rw [lo_ix, hi_ix]

theorem arr7 (c : Dev nD) (t : Fin cfg0.N) (r : Fin 512) (d : Fin 1024) (R : Fin 16384) (hR : R.val = 512 * t.val + r.val) :
    (dats m 0 c).arrAt 7 cfg0.N (ix2 R d)
      = out0_7 (iblk m c 0 t) (iblk m c 1 t) (iblk m c 2 t) (iblk m c 3 t) (iblk m c 4 t) (iblk m c 5 t) (iblk m c 6 t) (ix2 r d) := by
  have h := congrFun (blocks7 m c t (flush0_7 t)) (ix2 r d)
  rw [View.read_apply, flushed7] at h
  refine (congrArg _ ?_).trans h
  funext a
  apply Fin.ext
  match a with
  | ⟨0, _⟩ => show R.val = win0_7.index t 0 * 512 + 1 * r.val; rw [(idx7 t).1]; omega
  | ⟨1, _⟩ => show d.val = win0_7.index t 1 * 1024 + 1 * d.val; rw [(idx7 t).2]; omega

theorem out8_ix (x0 x1 x2 x3 x4 x5 x6) (r : Fin 512) (d : Fin 1024) :
    out0_8 (F := Ideal) x0 x1 x2 x3 x4 x5 x6 (ix2 r d)
      = ∑ q : Fin 2048, (x0 (ix2 r q) : EReal) * x5 (ix2 q d) := by
  unfold out0_8
  rw [View.canon_unit_zero (S := S512x1024) hz]
  simp only [View.ld_unit_zero (S := S512x2048) hz, View.ld_unit_zero (S := S2048x1024) hz, View.ld_unit_zero (S := S512x1024) hz, View.ld_unit_zero (S := S1024x1024) hz]
  exact pay1_ix _ _ r d

theorem arr8 (c : Dev nD) (t : Fin cfg0.N) (r : Fin 512) (d : Fin 1024) (R : Fin 16384) (hR : R.val = 512 * t.val + r.val) :
    (dats m 0 c).arrAt 8 cfg0.N (ix2 R d)
      = out0_8 (iblk m c 0 t) (iblk m c 1 t) (iblk m c 2 t) (iblk m c 3 t) (iblk m c 4 t) (iblk m c 5 t) (iblk m c 6 t) (ix2 r d) := by
  have h := congrFun (blocks8 m c t (flush0_8 t)) (ix2 r d)
  rw [View.read_apply, flushed8] at h
  refine (congrArg _ ?_).trans h
  funext a
  apply Fin.ext
  match a with
  | ⟨0, _⟩ => show R.val = win0_8.index t 0 * 512 + 1 * r.val; rw [(idx8 t).1]; omega
  | ⟨1, _⟩ => show d.val = win0_8.index t 1 * 1024 + 1 * d.val; rw [(idx8 t).2]; omega

theorem out9_ix (x0 x1 x2 x3 x4 x5 x6) (r : Fin 512) (d : Fin 1024) :
    out0_9 (F := Ideal) x0 x1 x2 x3 x4 x5 x6 (ix2 r d)
      = ∑ q : Fin 1024, (x1 (ix2 r q) : EReal) * x6 (ix2 q d) := by
  unfold out0_9
  rw [View.canon_unit_zero (S := S512x1024) hz]
  simp only [View.ld_unit_zero (S := S512x2048) hz, View.ld_unit_zero (S := S2048x1024) hz, View.ld_unit_zero (S := S512x1024) hz, View.ld_unit_zero (S := S1024x1024) hz]
  exact pay2_ix _ _ r d

theorem arr9 (c : Dev nD) (t : Fin cfg0.N) (r : Fin 512) (d : Fin 1024) (R : Fin 16384) (hR : R.val = 512 * t.val + r.val) :
    (dats m 0 c).arrAt 9 cfg0.N (ix2 R d)
      = out0_9 (iblk m c 0 t) (iblk m c 1 t) (iblk m c 2 t) (iblk m c 3 t) (iblk m c 4 t) (iblk m c 5 t) (iblk m c 6 t) (ix2 r d) := by
  have h := congrFun (blocks9 m c t (flush0_9 t)) (ix2 r d)
  rw [View.read_apply, flushed9] at h
  refine (congrArg _ ?_).trans h
  funext a
  apply Fin.ext
  match a with
  | ⟨0, _⟩ => show R.val = win0_9.index t 0 * 512 + 1 * r.val; rw [(idx9 t).1]; omega
  | ⟨1, _⟩ => show d.val = win0_9.index t 1 * 1024 + 1 * d.val; rw [(idx9 t).2]; omega

/-- The state-space branch's product. -/
def bs (ys : Mat 16384 2048) (w : Mat 2048 1024) (R : Fin 16384) (d : Fin 1024) : EReal := ∑ q : Fin 2048, ys (ix2 R q) * w (ix2 q d)

/-- The attention branch's product. -/
def ba (ya : Mat 16384 1024) (w : Mat 1024 1024) (R : Fin 16384) (d : Fin 1024) : EReal := ∑ q : Fin 1024, ya (ix2 R q) * w (ix2 q d)

/-- The gated sum of the branches. -/
def mg (ys : Mat 16384 2048) (ya : Mat 16384 1024) (pm : Mat 16384 8192) (bg : Mat 1 2048) (ws : Mat 2048 1024) (wa : Mat 1024 1024)
    (R : Fin 16384) (d : Fin 1024) : EReal :=
  Ideal.logistic (pm (ix2 R ⟨6144 + d.val, by omega⟩) + bg (ix2 0 ⟨d.val, by omega⟩)) * bs ys ws R d
    + Ideal.logistic (pm (ix2 R ⟨7168 + d.val, by omega⟩) + bg (ix2 0 ⟨1024 + d.val, by omega⟩)) * ba ya wa R d

theorem point (R : Fin 16384) : ∃ (t : Fin cfg0.N) (r : Fin 512), R.val = 512 * t.val + r.val :=
  ⟨⟨R.val / 512, by rw [hN]; omega⟩, ⟨R.val % 512, by omega⟩, by show R.val = 512 * (R.val / 512) + R.val % 512; omega⟩

abbrev b0 (c : Dev nD) (t : Fin cfg0.N) : Mat 512 2048 := iblk m c 0 t
abbrev b5 (c : Dev nD) (t : Fin cfg0.N) : Mat 2048 1024 := iblk m c 5 t
abbrev b1 (c : Dev nD) (t : Fin cfg0.N) : Mat 512 1024 := iblk m c 1 t
abbrev b6 (c : Dev nD) (t : Fin cfg0.N) : Mat 1024 1024 := iblk m c 6 t

theorem bs_blk (c : Dev nD) (t : Fin cfg0.N) (r : Fin 512) (d : Fin 1024) (R : Fin 16384) (hR : R.val = 512 * t.val + r.val) :
    ∑ q : Fin 2048, b0 m c t (ix2 r q) * b5 m c t (ix2 q d)
      = bs (V m c main_arg0) (V m c main_arg4) R d :=
  Finset.sum_congr rfl fun q _ => congrArg₂ (· * ·) (ib0 m c t r q R q hR (by omega)) (ib5 m c t q d q d (by omega) (by omega))

theorem ba_blk (c : Dev nD) (t : Fin cfg0.N) (r : Fin 512) (d : Fin 1024) (R : Fin 16384) (hR : R.val = 512 * t.val + r.val) :
    ∑ q : Fin 1024, b1 m c t (ix2 r q) * b6 m c t (ix2 q d)
      = ba (V m c main_arg1) (V m c main_arg5) R d :=
  Finset.sum_congr rfl fun q _ => congrArg₂ (· * ·) (ib1 m c t r q R q hR (by omega)) (ib6 m c t q d q d (by omega) (by omega))

theorem fin7 (c : Dev nD) (R : Fin 16384) (d : Fin 1024) : ((dats m 0 c).arrAt 7 cfg0.N (ix2 R d) : EReal)
    = mg (V m c main_arg0) (V m c main_arg1) (V m c main_arg2) (V m c main_arg3) (V m c main_arg4) (V m c main_arg5) R d := by
  obtain ⟨t, r, hR⟩ := point R
  refine (arr7 m c t r d R hR).trans ((out7_ix _ _ _ _ _ _ _ r d).trans ?_)
  refine congrArg₂ (· + ·) (congrArg₂ (· * ·) (congrArg Ideal.logistic (congrArg₂ (· + ·) ?_ ?_)) (bs_blk m c t r d R hR))
    (congrArg₂ (· * ·) (congrArg Ideal.logistic (congrArg₂ (· + ·) ?_ ?_)) (ba_blk m c t r d R hR))
  · exact ib2 m c t r d R _ hR (by show 6144 + d.val = _; omega)
  · exact ib4 m c t 0 _ 0 _ (by simp) (by simp)
  · exact ib3 m c t r d R _ hR (by show 7168 + d.val = _; omega)
  · exact ib4 m c t 0 _ 0 _ (by simp) (by simp)

theorem fin8 (c : Dev nD) (R : Fin 16384) (d : Fin 1024) : ((dats m 0 c).arrAt 8 cfg0.N (ix2 R d) : EReal)
    = bs (V m c main_arg0) (V m c main_arg4) R d := by
  obtain ⟨t, r, hR⟩ := point R
  exact (arr8 m c t r d R hR).trans ((out8_ix _ _ _ _ _ _ _ r d).trans (bs_blk m c t r d R hR))

theorem fin9 (c : Dev nD) (R : Fin 16384) (d : Fin 1024) : ((dats m 0 c).arrAt 9 cfg0.N (ix2 R d) : EReal)
    = ba (V m c main_arg1) (V m c main_arg5) R d := by
  obtain ⟨t, r, hR⟩ := point R
  exact (arr9 m c t r d R hR).trans ((out9_ix _ _ _ _ _ _ _ r d).trans (ba_blk m c t r d R hR))

section
open Cert.Reference14Ideal.Read

theorem ref13 (x0 x4) (R : Fin 16384) (d : Fin 1024) : (val_main_v13 (F := Ideal) x0 x4 (ix2 R d) : EReal) = bs x0 x4 R d := by
  pointwise [val_main_v13, val_main_v12, val_main_v11]; rfl

theorem ref16 (x1 x5) (R : Fin 16384) (d : Fin 1024) : (val_main_v16 (F := Ideal) x1 x5 (ix2 R d) : EReal) = ba x1 x5 R d := by
  pointwise [val_main_v16, val_main_v15, val_main_v14]; rfl

theorem ref8 (x2 x3) (R : Fin 16384) (d : Fin 2048) : (val_main_v8 (F := Ideal) x2 x3 (ix2 R d) : EReal)
    = Ideal.logistic (x2 (ix2 R ⟨6144 + d.val, by omega⟩) + x3 (ix2 0 d)) := by
  pointwise [val_main_v8, val_main_v7, val_main_cst_0, val_main_v6, val_main_v5, val_main_cst, val_main_v4, val_main_v3, val_main_v2, val_main_v1, val_main_v0, Ideal.ofBits_one_f32]
  rfl

theorem ref20 (x0 x1 x2 x3 x4 x5) (R : Fin 16384) (d : Fin 1024) : (val_main_v20 (F := Ideal) x0 x1 x2 x3 x4 x5 (ix2 R d) : EReal) = mg x0 x1 x2 x3 x4 x5 R d := by
  pointwise [val_main_v20, val_main_v19, val_main_v18, val_main_v17, val_main_v10, val_main_v9, ref13, ref16, ref8]
  unfold mg
  rw [show (⟨6144 + (1024 + d.val), by omega⟩ : Fin 8192) = ⟨7168 + d.val, by omega⟩ from Fin.ext (by show 6144 + (1024 + d.val) = 7168 + d.val; omega)]

end

theorem frame_reference : Cert.quiescent_Reference14Ideal := fun m g _ =>
  (θ_run Cert.Reference14Ideal.defs _ _).mono
    (fun r h => ⟨fun c => (h c).2.2.2, sem_eq_zero_of_no_sems (by rfl) _⟩) (Cert.Reference14Ideal.Value.run (F := Ideal) m g)

theorem alg : Cert.algebraic_Kernel14Ideal_Reference14Ideal := by
  intro m g m' g' _ hagree
  refine ⟨fun c => (dats m 0 c).arrAt 7 Cert.Kernel14Ideal.cfg0.N, fun c => (dats m 0 c).arrAt 8 Cert.Kernel14Ideal.cfg0.N,
    fun c => (dats m 0 c).arrAt 9 Cert.Kernel14Ideal.cfg0.N, ?_, ?_⟩
  · exact (θ_run Cert.Kernel14Ideal.defs _ _).mono (fun r h c => h c) (run_blocks m g)
  · refine (θ_run Cert.Reference14Ideal.defs _ _).mono (fun r h c => ?_) (Cert.Reference14Ideal.Value.run (F := Ideal) m' g')
    obtain ⟨e0, e1, e2, e3, e4, e5⟩ := hagree c
    obtain ⟨h20, h13, h16, hk⟩ := h c
    rw [Cert.Reference14Ideal.Read.val_main_v20_eq, e0, e1, e2, e3, e4, e5] at h20
    rw [Cert.Reference14Ideal.Read.val_main_v13_eq, e0, e4] at h13
    rw [Cert.Reference14Ideal.Read.val_main_v16_eq, e1, e5] at h16
    clear h
    refine ⟨?_, ?_, ?_, hk⟩
    · funext i
      rw [eq_ix2 i]
      refine (congrFun h20 _).trans ?_
      exact (ref20 _ _ _ _ _ _ (i 0) (i 1)).trans (fin7 m c (i 0) (i 1)).symm
    · funext i
      rw [eq_ix2 i]
      refine (congrFun h13 _).trans ?_
      exact (ref13 _ _ (i 0) (i 1)).trans (fin8 m c (i 0) (i 1)).symm
    · funext i
      rw [eq_ix2 i]
      refine (congrFun h16 _).trans ?_
      exact (ref16 _ _ (i 0) (i 1)).trans (fin9 m c (i 0) (i 1)).symm

end Cert.Prod.K14

end
-- ==== Proof.Prod.K13.lean ====
/-
  The feed-forward up projection.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K13

open Cert.Kernel13Ideal Cert.Kernel13Ideal.Gen Cert.Kernel13Ideal.Value

variable (m : (ℓ : Loc nD τ sig) → Buf (Elt Ideal) ℓ)

theorem hN : cfg0.N = 32 := N_0

theorem idx0 : ∀ t : Fin cfg0.N, win0_0.index t 0 = t.val / 2 ∧ win0_0.index t 1 = 0 := by decide +kernel
theorem idx1 : ∀ t : Fin cfg0.N, win0_1.index t 0 = 0 ∧ win0_1.index t 1 = t.val % 2 := by decide +kernel
theorem idx2 : ∀ t : Fin cfg0.N, win0_2.index t 0 = t.val / 2 ∧ win0_2.index t 1 = t.val % 2 := by decide +kernel

theorem ib0 (c : Dev nD) (t : Fin cfg0.N) (r : Fin 1024) (d : Fin 1024) (R : Fin 16384) (C : Fin 1024)
    (hR : R.val = 1024 * (t.val / 2) + r.val) (hC : C.val = 1024 * (0) + d.val) :
    iblk m c 0 t (ix2 r d) = V m c main_arg0 (ix2 R C) := by
  unfold iblk
  rw [View.read_apply]
  show V m c main_arg0 _ = _
  congr 1
  funext a
  apply Fin.ext
  match a with
  | ⟨0, _⟩ => show win0_0.index t 0 * 1024 + 1 * r.val = R.val; rw [(idx0 t).1]; omega
  | ⟨1, _⟩ => show win0_0.index t 1 * 1024 + 1 * d.val = C.val; rw [(idx0 t).2]; omega

theorem ib1 (c : Dev nD) (t : Fin cfg0.N) (r : Fin 1024) (d : Fin 2816) (R : Fin 1024) (C : Fin 5632)
    (hR : R.val = 1024 * (0) + r.val) (hC : C.val = 2816 * (t.val % 2) + d.val) :
    iblk m c 1 t (ix2 r d) = V m c main_arg1 (ix2 R C) := by
  unfold iblk
  rw [View.read_apply]
  show V m c main_arg1 _ = _
  congr 1
  funext a
  apply Fin.ext
  match a with
  | ⟨0, _⟩ => show win0_1.index t 0 * 1024 + 1 * r.val = R.val; rw [(idx1 t).1]; omega
  | ⟨1, _⟩ => show win0_1.index t 1 * 2816 + 1 * d.val = C.val; rw [(idx1 t).2]; omega

theorem pay1_ix (x0 x1) (r : Fin 1024) (d : Fin 2816) :
    k0_pay1 (F := Ideal) x0 x1 (ix2 r d) = ∑ q : Fin 1024, (x0 (ix2 r q) : EReal) * x1 (ix2 q d) := by
  pointwise [k0_pay1]

theorem out_ix (x0 x1) (r : Fin 1024) (d : Fin 2816) :
    out0_2 (F := Ideal) x0 x1 (ix2 r d) = ∑ q : Fin 1024, (x0 (ix2 r q) : EReal) * x1 (ix2 q d) := by
  unfold out0_2
  rw [View.canon_unit_zero (S := S1024x2816) hz]
  simp only [View.ld_unit_zero (S := S1024x1024) hz, View.ld_unit_zero (S := S1024x2816) hz]
  exact pay1_ix x0 x1 r d

theorem arr (c : Dev nD) (t : Fin cfg0.N) (r : Fin 1024) (d : Fin 2816) (R : Fin 16384) (C : Fin 5632)
    (hR : R.val = 1024 * (t.val / 2) + r.val) (hC : C.val = 2816 * (t.val % 2) + d.val) :
    (dats m 0 c).arrAt 2 cfg0.N (ix2 R C) = out0_2 (iblk m c 0 t) (iblk m c 1 t) (ix2 r d) := by
  have h := congrFun (blocks2 m c t (flush0_2 t)) (ix2 r d)
  rw [View.read_apply, flushed2] at h
  refine (congrArg _ ?_).trans h
  funext a
  apply Fin.ext
  match a with
  | ⟨0, _⟩ => show R.val = win0_2.index t 0 * 1024 + 1 * r.val; rw [(idx2 t).1]; omega
  | ⟨1, _⟩ => show C.val = win0_2.index t 1 * 2816 + 1 * d.val; rw [(idx2 t).2]; omega

abbrev a0 (c : Dev nD) : Mat 16384 1024 := V m c main_arg0
abbrev a1 (c : Dev nD) : Mat 1024 5632 := V m c main_arg1

theorem fin (c : Dev nD) (R : Fin 16384) (C : Fin 5632) : ((dats m 0 c).arrAt 2 cfg0.N (ix2 R C) : EReal)
    = ∑ q : Fin 1024, a0 m c (ix2 R q) * a1 m c (ix2 q C) := by
  obtain ⟨t, ht⟩ : ∃ t : Fin cfg0.N, t.val = 2 * (R.val / 1024) + C.val / 2816 := ⟨⟨_, by rw [hN]; omega⟩, rfl⟩
  obtain ⟨r, hr⟩ : ∃ r : Fin 1024, r.val = R.val % 1024 := ⟨⟨_, by omega⟩, rfl⟩
  obtain ⟨d, hd⟩ : ∃ d : Fin 2816, d.val = C.val % 2816 := ⟨⟨_, by omega⟩, rfl⟩
  have hR : R.val = 1024 * (t.val / 2) + r.val := by omega
  have hC : C.val = 2816 * (t.val % 2) + d.val := by omega
  refine (arr m c t r d R C hR hC).trans ((out_ix _ _ r d).trans ?_)
  exact Finset.sum_congr rfl fun q _ => congrArg₂ (· * ·) (ib0 m c t r q R q hR (by omega)) (ib1 m c t q d q C (by omega) hC)

theorem ref_ix (x0 x1) (R : Fin 16384) (C : Fin 5632) : (Cert.Reference13Ideal.Read.val_main_v2 (F := Ideal) x0 x1 (ix2 R C) : EReal)
    = ∑ q : Fin 1024, (x0 (ix2 R q) : EReal) * x1 (ix2 q C) := by
  pointwise [Cert.Reference13Ideal.Read.val_main_v2, Cert.Reference13Ideal.Read.val_main_v1, Cert.Reference13Ideal.Read.val_main_v0]

theorem frame_reference : Cert.quiescent_Reference13Ideal := fun m g _ =>
  (θ_run Cert.Reference13Ideal.defs _ _).mono
    (fun r h => ⟨fun c => (h c).2, sem_eq_zero_of_no_sems (by rfl) _⟩) (Cert.Reference13Ideal.Value.run (F := Ideal) m g)

theorem alg : Cert.algebraic_Kernel13Ideal_Reference13Ideal := by
  intro m g m' g' _ hagree
  refine ⟨fun c => (dats m 0 c).arrAt 2 Cert.Kernel13Ideal.cfg0.N, ?_, ?_⟩
  · exact (θ_run Cert.Kernel13Ideal.defs _ _).mono (fun r h c => h c) (run_blocks m g)
  · refine (θ_run Cert.Reference13Ideal.defs _ _).mono (fun r h c => ?_) (Cert.Reference13Ideal.Value.run (F := Ideal) m' g')
    obtain ⟨e0, e1⟩ := hagree c
    obtain ⟨hv, hk⟩ := h c
    rw [Cert.Reference13Ideal.Read.val_main_v2_eq, e0, e1] at hv
    clear h
    refine ⟨?_, hk⟩
    funext i
    rw [eq_ix2 i]
    refine (congrFun hv _).trans ?_
    exact (ref_ix _ _ (i 0) (i 1)).trans (fin m c (i 0) (i 1)).symm

end Cert.Prod.K13

end
-- ==== Proof.Prod.K12.lean ====
/-
  The projection's last columns.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K12

open Cert.Kernel12Ideal Cert.Kernel12Ideal.Gen Cert.Kernel12Ideal.Value

variable (m : (ℓ : Loc nD τ sig) → Buf (Elt Ideal) ℓ)

theorem hN : cfg0.N = 8 := N_0

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel

theorem ib0 (c : Dev nD) (t : Fin cfg0.N) (r : Fin 2048) (d : Fin 1024) (R : Fin 16384) (C : Fin 1024)
    (hR : R.val = 2048 * (t.val) + r.val) (hC : C.val = 1024 * (0) + d.val) :
    iblk m c 0 t (ix2 r d) = V m c main_arg0 (ix2 R C) := by
  unfold iblk
  rw [View.read_apply]
  show V m c main_arg0 _ = _
  congr 1
  funext a
  apply Fin.ext
  match a with
  | ⟨0, _⟩ => show win0_0.index t 0 * 2048 + 1 * r.val = R.val; rw [(idx0 t).1]; omega
  | ⟨1, _⟩ => show win0_0.index t 1 * 1024 + 1 * d.val = C.val; rw [(idx0 t).2]; omega

theorem ib1 (c : Dev nD) (t : Fin cfg0.N) (r : Fin 1024) (d : Fin 384) (R : Fin 1024) (C : Fin 384)
    (hR : R.val = 1024 * (0) + r.val) (hC : C.val = 384 * (0) + d.val) :
    iblk m c 1 t (ix2 r d) = V m c main_arg1 (ix2 R C) := by
  unfold iblk
  rw [View.read_apply]
  show V m c main_arg1 _ = _
  congr 1
  funext a
  apply Fin.ext
  match a with
  | ⟨0, _⟩ => show win0_1.index t 0 * 1024 + 1 * r.val = R.val; rw [(idx1 t).1]; omega
  | ⟨1, _⟩ => show win0_1.index t 1 * 384 + 1 * d.val = C.val; rw [(idx1 t).2]; omega

theorem pay1_ix (x0 x1) (r : Fin 2048) (d : Fin 384) :
    k0_pay1 (F := Ideal) x0 x1 (ix2 r d) = ∑ q : Fin 1024, (x0 (ix2 r q) : EReal) * x1 (ix2 q d) := by
  pointwise [k0_pay1]

theorem out_ix (x0 x1) (r : Fin 2048) (d : Fin 384) :
    out0_2 (F := Ideal) x0 x1 (ix2 r d) = ∑ q : Fin 1024, (x0 (ix2 r q) : EReal) * x1 (ix2 q d) := by
  unfold out0_2
  rw [View.canon_unit_zero (S := S2048x384) hz]
  simp only [View.ld_unit_zero (S := S1024x384) hz, View.ld_unit_zero (S := S2048x1024) hz, View.ld_unit_zero (S := S2048x384) hz]
  exact pay1_ix x0 x1 r d

theorem arr (c : Dev nD) (t : Fin cfg0.N) (r : Fin 2048) (d : Fin 384) (R : Fin 16384) (C : Fin 384)
    (hR : R.val = 2048 * (t.val) + r.val) (hC : C.val = 384 * (0) + d.val) :
    (dats m 0 c).arrAt 2 cfg0.N (ix2 R C) = out0_2 (iblk m c 0 t) (iblk m c 1 t) (ix2 r d) := by
  have h := congrFun (blocks2 m c t (flush0_2 t)) (ix2 r d)
  rw [View.read_apply, flushed2] at h
  refine (congrArg _ ?_).trans h
  funext a
  apply Fin.ext
  match a with
  | ⟨0, _⟩ => show R.val = win0_2.index t 0 * 2048 + 1 * r.val; rw [(idx2 t).1]; omega
  | ⟨1, _⟩ => show C.val = win0_2.index t 1 * 384 + 1 * d.val; rw [(idx2 t).2]; omega

abbrev a0 (c : Dev nD) : Mat 16384 1024 := V m c main_arg0
abbrev a1 (c : Dev nD) : Mat 1024 384 := V m c main_arg1

theorem fin (c : Dev nD) (R : Fin 16384) (C : Fin 384) : ((dats m 0 c).arrAt 2 cfg0.N (ix2 R C) : EReal)
    = ∑ q : Fin 1024, a0 m c (ix2 R q) * a1 m c (ix2 q C) := by
  obtain ⟨t, ht⟩ : ∃ t : Fin cfg0.N, t.val = 1 * (R.val / 2048) + C.val / 384 := ⟨⟨_, by rw [hN]; omega⟩, rfl⟩
  obtain ⟨r, hr⟩ : ∃ r : Fin 2048, r.val = R.val % 2048 := ⟨⟨_, by omega⟩, rfl⟩
  obtain ⟨d, hd⟩ : ∃ d : Fin 384, d.val = C.val % 384 := ⟨⟨_, by omega⟩, rfl⟩
  have hR : R.val = 2048 * (t.val) + r.val := by omega
  have hC : C.val = 384 * (0) + d.val := by omega
  refine (arr m c t r d R C hR hC).trans ((out_ix _ _ r d).trans ?_)
  exact Finset.sum_congr rfl fun q _ => congrArg₂ (· * ·) (ib0 m c t r q R q hR (by omega)) (ib1 m c t q d q C (by omega) hC)

theorem ref_ix (x0 x1) (R : Fin 16384) (C : Fin 384) : (Cert.Reference12Ideal.Read.val_main_v2 (F := Ideal) x0 x1 (ix2 R C) : EReal)
    = ∑ q : Fin 1024, (x0 (ix2 R q) : EReal) * x1 (ix2 q C) := by
  pointwise [Cert.Reference12Ideal.Read.val_main_v2, Cert.Reference12Ideal.Read.val_main_v1, Cert.Reference12Ideal.Read.val_main_v0]

theorem frame_reference : Cert.quiescent_Reference12Ideal := fun m g _ =>
  (θ_run Cert.Reference12Ideal.defs _ _).mono
    (fun r h => ⟨fun c => (h c).2, sem_eq_zero_of_no_sems (by rfl) _⟩) (Cert.Reference12Ideal.Value.run (F := Ideal) m g)

theorem alg : Cert.algebraic_Kernel12Ideal_Reference12Ideal := by
  intro m g m' g' _ hagree
  refine ⟨fun c => (dats m 0 c).arrAt 2 Cert.Kernel12Ideal.cfg0.N, ?_, ?_⟩
  · exact (θ_run Cert.Kernel12Ideal.defs _ _).mono (fun r h c => h c) (run_blocks m g)
  · refine (θ_run Cert.Reference12Ideal.defs _ _).mono (fun r h c => ?_) (Cert.Reference12Ideal.Value.run (F := Ideal) m' g')
    obtain ⟨e0, e1⟩ := hagree c
    obtain ⟨hv, hk⟩ := h c
    rw [Cert.Reference12Ideal.Read.val_main_v2_eq, e0, e1] at hv
    clear h
    refine ⟨?_, hk⟩
    funext i
    rw [eq_ix2 i]
    refine (congrFun hv _).trans ?_
    exact (ref_ix _ _ (i 0) (i 1)).trans (fin m c (i 0) (i 1)).symm

end Cert.Prod.K12

end
-- ==== Proof.Prod.K11.lean ====
/-
  The projection's main columns.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K11

open Cert.Kernel11Ideal Cert.Kernel11Ideal.Gen Cert.Kernel11Ideal.Value

variable (m : (ℓ : Loc nD τ sig) → Buf (Elt Ideal) ℓ)

theorem hN : cfg0.N = 64 := N_0

theorem idx0 : ∀ t : Fin cfg0.N, win0_0.index t 0 = t.val / 4 ∧ win0_0.index t 1 = 0 := by decide +kernel
theorem idx1 : ∀ t : Fin cfg0.N, win0_1.index t 0 = 0 ∧ win0_1.index t 1 = t.val % 4 := by decide +kernel
theorem idx2 : ∀ t : Fin cfg0.N, win0_2.index t 0 = t.val / 4 ∧ win0_2.index t 1 = t.val % 4 := by decide +kernel

theorem ib0 (c : Dev nD) (t : Fin cfg0.N) (r : Fin 1024) (d : Fin 1024) (R : Fin 16384) (C : Fin 1024)
    (hR : R.val = 1024 * (t.val / 4) + r.val) (hC : C.val = 1024 * (0) + d.val) :
    iblk m c 0 t (ix2 r d) = V m c main_arg0 (ix2 R C) := by
  unfold iblk
  rw [View.read_apply]
  show V m c main_arg0 _ = _
  congr 1
  funext a
  apply Fin.ext
  match a with
  | ⟨0, _⟩ => show win0_0.index t 0 * 1024 + 1 * r.val = R.val; rw [(idx0 t).1]; omega
  | ⟨1, _⟩ => show win0_0.index t 1 * 1024 + 1 * d.val = C.val; rw [(idx0 t).2]; omega

theorem ib1 (c : Dev nD) (t : Fin cfg0.N) (r : Fin 1024) (d : Fin 2048) (R : Fin 1024) (C : Fin 8192)
    (hR : R.val = 1024 * (0) + r.val) (hC : C.val = 2048 * (t.val % 4) + d.val) :
    iblk m c 1 t (ix2 r d) = V m c main_arg1 (ix2 R C) := by
  unfold iblk
  rw [View.read_apply]
  show V m c main_arg1 _ = _
  congr 1
  funext a
  apply Fin.ext
  match a with
  | ⟨0, _⟩ => show win0_1.index t 0 * 1024 + 1 * r.val = R.val; rw [(idx1 t).1]; omega
  | ⟨1, _⟩ => show win0_1.index t 1 * 2048 + 1 * d.val = C.val; rw [(idx1 t).2]; omega

theorem pay1_ix (x0 x1) (r : Fin 1024) (d : Fin 2048) :
    k0_pay1 (F := Ideal) x0 x1 (ix2 r d) = ∑ q : Fin 1024, (x0 (ix2 r q) : EReal) * x1 (ix2 q d) := by
  pointwise [k0_pay1]

theorem out_ix (x0 x1) (r : Fin 1024) (d : Fin 2048) :
    out0_2 (F := Ideal) x0 x1 (ix2 r d) = ∑ q : Fin 1024, (x0 (ix2 r q) : EReal) * x1 (ix2 q d) := by
  unfold out0_2
  rw [View.canon_unit_zero (S := S1024x2048) hz]
  simp only [View.ld_unit_zero (S := S1024x1024) hz, View.ld_unit_zero (S := S1024x2048) hz]
  exact pay1_ix x0 x1 r d

theorem arr (c : Dev nD) (t : Fin cfg0.N) (r : Fin 1024) (d : Fin 2048) (R : Fin 16384) (C : Fin 8192)
    (hR : R.val = 1024 * (t.val / 4) + r.val) (hC : C.val = 2048 * (t.val % 4) + d.val) :
    (dats m 0 c).arrAt 2 cfg0.N (ix2 R C) = out0_2 (iblk m c 0 t) (iblk m c 1 t) (ix2 r d) := by
  have h := congrFun (blocks2 m c t (flush0_2 t)) (ix2 r d)
  rw [View.read_apply, flushed2] at h
  refine (congrArg _ ?_).trans h
  funext a
  apply Fin.ext
  match a with
  | ⟨0, _⟩ => show R.val = win0_2.index t 0 * 1024 + 1 * r.val; rw [(idx2 t).1]; omega
  | ⟨1, _⟩ => show C.val = win0_2.index t 1 * 2048 + 1 * d.val; rw [(idx2 t).2]; omega

abbrev a0 (c : Dev nD) : Mat 16384 1024 := V m c main_arg0
abbrev a1 (c : Dev nD) : Mat 1024 8192 := V m c main_arg1

theorem fin (c : Dev nD) (R : Fin 16384) (C : Fin 8192) : ((dats m 0 c).arrAt 2 cfg0.N (ix2 R C) : EReal)
    = ∑ q : Fin 1024, a0 m c (ix2 R q) * a1 m c (ix2 q C) := by
  obtain ⟨t, ht⟩ : ∃ t : Fin cfg0.N, t.val = 4 * (R.val / 1024) + C.val / 2048 := ⟨⟨_, by rw [hN]; omega⟩, rfl⟩
  obtain ⟨r, hr⟩ : ∃ r : Fin 1024, r.val = R.val % 1024 := ⟨⟨_, by omega⟩, rfl⟩
  obtain ⟨d, hd⟩ : ∃ d : Fin 2048, d.val = C.val % 2048 := ⟨⟨_, by omega⟩, rfl⟩
  have hR : R.val = 1024 * (t.val / 4) + r.val := by omega
  have hC : C.val = 2048 * (t.val % 4) + d.val := by omega
  refine (arr m c t r d R C hR hC).trans ((out_ix _ _ r d).trans ?_)
  exact Finset.sum_congr rfl fun q _ => congrArg₂ (· * ·) (ib0 m c t r q R q hR (by omega)) (ib1 m c t q d q C (by omega) hC)

theorem ref_ix (x0 x1) (R : Fin 16384) (C : Fin 8192) : (Cert.Reference11Ideal.Read.val_main_v2 (F := Ideal) x0 x1 (ix2 R C) : EReal)
    = ∑ q : Fin 1024, (x0 (ix2 R q) : EReal) * x1 (ix2 q C) := by
  pointwise [Cert.Reference11Ideal.Read.val_main_v2, Cert.Reference11Ideal.Read.val_main_v1, Cert.Reference11Ideal.Read.val_main_v0]

theorem frame_reference : Cert.quiescent_Reference11Ideal := fun m g _ =>
  (θ_run Cert.Reference11Ideal.defs _ _).mono
    (fun r h => ⟨fun c => (h c).2, sem_eq_zero_of_no_sems (by rfl) _⟩) (Cert.Reference11Ideal.Value.run (F := Ideal) m g)

theorem alg : Cert.algebraic_Kernel11Ideal_Reference11Ideal := by
  intro m g m' g' _ hagree
  refine ⟨fun c => (dats m 0 c).arrAt 2 Cert.Kernel11Ideal.cfg0.N, ?_, ?_⟩
  · exact (θ_run Cert.Kernel11Ideal.defs _ _).mono (fun r h c => h c) (run_blocks m g)
  · refine (θ_run Cert.Reference11Ideal.defs _ _).mono (fun r h c => ?_) (Cert.Reference11Ideal.Value.run (F := Ideal) m' g')
    obtain ⟨e0, e1⟩ := hagree c
    obtain ⟨hv, hk⟩ := h c
    rw [Cert.Reference11Ideal.Read.val_main_v2_eq, e0, e1] at hv
    clear h
    refine ⟨?_, hk⟩
    funext i
    rw [eq_ix2 i]
    refine (congrFun hv _).trans ?_
    exact (ref_ix _ _ (i 0) (i 1)).trans (fin m c (i 0) (i 1)).symm

end Cert.Prod.K11

end
-- ==== Proof.Prod.K10.lean ====
/-
  The feed-forward block's activation's gradient.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K10

open Cert.Kernel10Ideal Cert.Kernel10Ideal.Gen Cert.Kernel10Ideal.Value

variable (m : (ℓ : Loc nD τ sig) → Buf (Elt Ideal) ℓ)

theorem hN : cfg0.N = 16 := N_0

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel

theorem ib0 (c : Dev nD) (t : Fin cfg0.N) (r : Fin 1024) (d : Fin 1024) (R : Fin 16384) (C : Fin 1024)
    (hR : R.val = 1024 * (t.val) + r.val) (hC : C.val = 1024 * (0) + d.val) :
    iblk m c 0 t (ix2 r d) = V m c main_arg0 (ix2 R C) := by
  unfold iblk
  rw [View.read_apply]
  show V m c main_arg0 _ = _
  congr 1
  funext a
  apply Fin.ext
  match a with
  | ⟨0, _⟩ => show win0_0.index t 0 * 1024 + 1 * r.val = R.val; rw [(idx0 t).1]; omega
  | ⟨1, _⟩ => show win0_0.index t 1 * 1024 + 1 * d.val = C.val; rw [(idx0 t).2]; omega

theorem ib1 (c : Dev nD) (t : Fin cfg0.N) (r : Fin 2816) (d : Fin 1024) (R : Fin 2816) (C : Fin 1024)
    (hR : R.val = 2816 * (0) + r.val) (hC : C.val = 1024 * (0) + d.val) :
    iblk m c 1 t (ix2 r d) = V m c main_arg1 (ix2 R C) := by
  unfold iblk
  rw [View.read_apply]
  show V m c main_arg1 _ = _
  congr 1
  funext a
  apply Fin.ext
  match a with
  | ⟨0, _⟩ => show win0_1.index t 0 * 2816 + 1 * r.val = R.val; rw [(idx1 t).1]; omega
  | ⟨1, _⟩ => show win0_1.index t 1 * 1024 + 1 * d.val = C.val; rw [(idx1 t).2]; omega

theorem pay1_ix (x0 x1) (r : Fin 1024) (d : Fin 2816) :
    k0_pay1 (F := Ideal) x0 x1 (ix2 r d) = ∑ q : Fin 1024, (x0 (ix2 r q) : EReal) * x1 (ix2 d q) := by
  pointwise [k0_pay1]

theorem out_ix (x0 x1) (r : Fin 1024) (d : Fin 2816) :
    out0_2 (F := Ideal) x0 x1 (ix2 r d) = ∑ q : Fin 1024, (x0 (ix2 r q) : EReal) * x1 (ix2 d q) := by
  unfold out0_2
  rw [View.canon_unit_zero (S := S1024x2816) hz]
  simp only [View.ld_unit_zero (S := S1024x1024) hz, View.ld_unit_zero (S := S1024x2816) hz, View.ld_unit_zero (S := S2816x1024) hz]
  exact pay1_ix x0 x1 r d

theorem arr (c : Dev nD) (t : Fin cfg0.N) (r : Fin 1024) (d : Fin 2816) (R : Fin 16384) (C : Fin 2816)
    (hR : R.val = 1024 * (t.val) + r.val) (hC : C.val = 2816 * (0) + d.val) :
    (dats m 0 c).arrAt 2 cfg0.N (ix2 R C) = out0_2 (iblk m c 0 t) (iblk m c 1 t) (ix2 r d) := by
  have h := congrFun (blocks2 m c t (flush0_2 t)) (ix2 r d)
  rw [View.read_apply, flushed2] at h
  refine (congrArg _ ?_).trans h
  funext a
  apply Fin.ext
  match a with
  | ⟨0, _⟩ => show R.val = win0_2.index t 0 * 1024 + 1 * r.val; rw [(idx2 t).1]; omega
  | ⟨1, _⟩ => show C.val = win0_2.index t 1 * 2816 + 1 * d.val; rw [(idx2 t).2]; omega

abbrev a0 (c : Dev nD) : Mat 16384 1024 := V m c main_arg0
abbrev a1 (c : Dev nD) : Mat 2816 1024 := V m c main_arg1

theorem fin (c : Dev nD) (R : Fin 16384) (C : Fin 2816) : ((dats m 0 c).arrAt 2 cfg0.N (ix2 R C) : EReal)
    = ∑ q : Fin 1024, a0 m c (ix2 R q) * a1 m c (ix2 C q) := by
  obtain ⟨t, ht⟩ : ∃ t : Fin cfg0.N, t.val = 1 * (R.val / 1024) + C.val / 2816 := ⟨⟨_, by rw [hN]; omega⟩, rfl⟩
  obtain ⟨r, hr⟩ : ∃ r : Fin 1024, r.val = R.val % 1024 := ⟨⟨_, by omega⟩, rfl⟩
  obtain ⟨d, hd⟩ : ∃ d : Fin 2816, d.val = C.val % 2816 := ⟨⟨_, by omega⟩, rfl⟩
  have hR : R.val = 1024 * (t.val) + r.val := by omega
  have hC : C.val = 2816 * (0) + d.val := by omega
  refine (arr m c t r d R C hR hC).trans ((out_ix _ _ r d).trans ?_)
  exact Finset.sum_congr rfl fun q _ => congrArg₂ (· * ·) (ib0 m c t r q R q hR (by omega)) (ib1 m c t d q C q hC (by omega))

theorem ref_ix (x0 x1) (R : Fin 16384) (C : Fin 2816) : (Cert.Reference10Ideal.Read.val_main_v4 (F := Ideal) x0 x1 (ix2 R C) : EReal)
    = ∑ q : Fin 1024, (x0 (ix2 R q) : EReal) * x1 (ix2 C q) := by
  pointwise [Cert.Reference10Ideal.Read.val_main_v4, Cert.Reference10Ideal.Read.val_main_v3, Cert.Reference10Ideal.Read.val_main_v1]

theorem frame_reference : Cert.quiescent_Reference10Ideal := fun m g _ =>
  (θ_run Cert.Reference10Ideal.defs _ _).mono
    (fun r h => ⟨fun c => (h c).2, sem_eq_zero_of_no_sems (by rfl) _⟩) (Cert.Reference10Ideal.Value.run (F := Ideal) m g)

theorem alg : Cert.algebraic_Kernel10Ideal_Reference10Ideal := by
  intro m g m' g' _ hagree
  refine ⟨fun c => (dats m 0 c).arrAt 2 Cert.Kernel10Ideal.cfg0.N, ?_, ?_⟩
  · exact (θ_run Cert.Kernel10Ideal.defs _ _).mono (fun r h c => h c) (run_blocks m g)
  · refine (θ_run Cert.Reference10Ideal.defs _ _).mono (fun r h c => ?_) (Cert.Reference10Ideal.Value.run (F := Ideal) m' g')
    obtain ⟨e0, e1⟩ := hagree c
    obtain ⟨hv, hk⟩ := h c
    rw [Cert.Reference10Ideal.Read.val_main_v4_eq, e0, e1] at hv
    clear h
    refine ⟨?_, hk⟩
    funext i
    rw [eq_ix2 i]
    refine (congrFun hv _).trans ?_
    exact (ref_ix _ _ (i 0) (i 1)).trans (fin m c (i 0) (i 1)).symm

end Cert.Prod.K10

end
-- ==== Proof.Prod.K9.lean ====
/-
  The gradient of the attention branch's projection's weight.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K9

open Cert.Kernel9Ideal Cert.Kernel9Ideal.Gen Cert.Kernel9Ideal.Value

variable (m : (ℓ : Loc nD τ sig) → Buf (Elt Ideal) ℓ)

theorem hN : cfg0.N = 8 := N_0

theorem idx0 : ∀ t : Fin cfg0.N, win0_0.index t 0 = t.val % 8 ∧ win0_0.index t 1 = 0 := by decide +kernel
theorem idx1 : ∀ t : Fin cfg0.N, win0_1.index t 0 = t.val % 8 ∧ win0_1.index t 1 = 0 := by decide +kernel

theorem ib0 (c : Dev nD) (t : Fin cfg0.N) (r : Fin 2048) (d : Fin 1024) (R : Fin 16384) (C : Fin 1024)
    (hR : R.val = 2048 * (t.val % 8) + r.val) (hC : C.val = 1024 * (0) + d.val) :
    iblk m c 0 t (ix2 r d) = V m c main_arg0 (ix2 R C) := by
  unfold iblk
  rw [View.read_apply]
  show V m c main_arg0 _ = _
  congr 1
  funext a
  apply Fin.ext
  match a with
  | ⟨0, _⟩ => show win0_0.index t 0 * 2048 + 1 * r.val = R.val; rw [(idx0 t).1]; omega
  | ⟨1, _⟩ => show win0_0.index t 1 * 1024 + 1 * d.val = C.val; rw [(idx0 t).2]; omega

theorem ib1 (c : Dev nD) (t : Fin cfg0.N) (r : Fin 2048) (d : Fin 1024) (R : Fin 16384) (C : Fin 1024)
    (hR : R.val = 2048 * (t.val % 8) + r.val) (hC : C.val = 1024 * (0) + d.val) :
    iblk m c 1 t (ix2 r d) = V m c main_arg1 (ix2 R C) := by
  unfold iblk
  rw [View.read_apply]
  show V m c main_arg1 _ = _
  congr 1
  funext a
  apply Fin.ext
  match a with
  | ⟨0, _⟩ => show win0_1.index t 0 * 2048 + 1 * r.val = R.val; rw [(idx1 t).1]; omega
  | ⟨1, _⟩ => show win0_1.index t 1 * 1024 + 1 * d.val = C.val; rw [(idx1 t).2]; omega

theorem pay1_ix (x0 x1) (r : Fin 1024) (d : Fin 1024) :
    k0_pay1 (F := Ideal) x0 x1 (ix2 r d) = ∑ q : Fin 2048, (x0 (ix2 q r) : EReal) * x1 (ix2 q d) := by
  pointwise [k0_pay1]

theorem pay2_ix (x0 x1) (r : Fin 1024) (d : Fin 1024) :
    k0_pay2 (F := Ideal) x0 x1 (ix2 r d) = ∑ q : Fin 2048, (x0 (ix2 q r) : EReal) * x1 (ix2 q d) := by
  pointwise [k0_pay2, k0_pay1]

theorem pay3_ix (x0 x1 s) (r : Fin 1024) (d : Fin 1024) :
    k0_pay3 (F := Ideal) x0 x1 s (ix2 r d) = (s (ix2 r d) : EReal) + ∑ q : Fin 2048, (x0 (ix2 q r) : EReal) * x1 (ix2 q d) := by
  pointwise [k0_pay3, k0_pay1]

theorem pay4_ix (x0 x1 s) (r : Fin 1024) (d : Fin 1024) :
    k0_pay4 (F := Ideal) x0 x1 s (ix2 r d) = (s (ix2 r d) : EReal) + ∑ q : Fin 2048, (x0 (ix2 q r) : EReal) * x1 (ix2 q d) := by
  pointwise [k0_pay4, k0_pay1]

theorem scA (c : Dev nD) (t : Fin cfg0.N) (h0 : t.val % 8 = 0) : (outsAt0 m c t.val t.isLt).2
    = k0_pay2 (iblk m c 0 t) (iblk m c 1 t) := by
  rw [outsAt0_A m c t h0 (by omega) (by omega)]; dsimp only; unfold sout0_A_0
  refine (View.read_writes_eq_canon _ _ _ fun y => scover0_A_0 ..).trans ?_
  unfold kernelRun0_A; dsimp only; sl_unfold_words
  rw [View.canon_unit_zero (S := S1024x1024) hz]
  simp only [View.readAt_eq_ld, (hs0_0 t).read_unread, (hs0_1 t).read_unread, View.ld_unit_zero (S := S1024x1024) hz, View.ld_unit_zero (S := S2048x1024) hz]

theorem scB (c : Dev nD) (t : Fin cfg0.N) (h0 : 1 ≤ t.val % 8 ∧ t.val % 8 ≤ 6) : (outsAt0 m c t.val t.isLt).2
    = k0_pay3 (iblk m c 0 t) (iblk m c 1 t) (outsAt0 m c (t.val - 1) (Nat.lt_of_le_of_lt (Nat.sub_le _ _) t.isLt)).2 := by
  rw [outsAt0_B m c t (by omega) h0 (by omega)]; dsimp only; unfold sout0_B_0
  refine (View.read_writes_eq_canon _ _ _ fun y => scover0_B_0 ..).trans ?_
  unfold kernelRun0_B; dsimp only; sl_unfold_words
  rw [View.canon_unit_zero (S := S1024x1024) hz]
  simp only [View.readAt_eq_ld, (hs0_0 t).read_unread, (hs0_1 t).read_unread, (Memref.isWhole_whole _).read_unread, View.ld_unit_zero (S := S1024x1024) hz, View.ld_unit_zero (S := S2048x1024) hz]

theorem outC (c : Dev nD) (t : Fin cfg0.N) (h0 : t.val % 8 = 7) : (outsAt0 m c t.val t.isLt).1
    = k0_pay4 (iblk m c 0 t) (iblk m c 1 t) (outsAt0 m c (t.val - 1) (Nat.lt_of_le_of_lt (Nat.sub_le _ _) t.isLt)).2 := by
  rw [outsAt0_C m c t (by omega) (by omega) h0]; dsimp only; unfold out0_C_2
  refine (View.read_writes_eq_canon _ _ _ fun y => cover0_C_2 ..).trans ?_
  unfold kernelRun0_C; dsimp only; sl_unfold_words
  rw [View.canon_unit_zero (S := S1024x1024) hz]
  simp only [View.readAt_eq_ld, (hs0_0 t).read_unread, (hs0_1 t).read_unread, (Memref.isWhole_whole _).read_unread, View.ld_unit_zero (S := S1024x1024) hz, View.ld_unit_zero (S := S2048x1024) hz]

abbrev a0 (c : Dev nD) : Mat 16384 1024 := V m c main_arg0
abbrev a1 (c : Dev nD) : Mat 16384 1024 := V m c main_arg1

abbrev b0 (c : Dev nD) (t : Fin cfg0.N) : Mat 2048 1024 := iblk m c 0 t
abbrev b1 (c : Dev nD) (t : Fin cfg0.N) : Mat 2048 1024 := iblk m c 1 t

/-- A term of the product at row `R`, column `C`. -/
abbrev trm (c : Dev nD) (R : Fin 1024) (C : Fin 1024) (q : Fin 16384) : EReal :=
  a0 m c (ix2 q R) * a1 m c (ix2 q C)

theorem blk_sum (c : Dev nD) (t : Fin cfg0.N) (r : Fin 1024) (d : Fin 1024) (R : Fin 1024) (C : Fin 1024)
    (hR : R.val = 1024 * (0) + r.val) (hC : C.val = 1024 * (0) + d.val) :
    ∑ q : Fin 2048, b0 m c t (ix2 q r) * b1 m c t (ix2 q d)
      = ∑ q : Fin 2048, term 16384 (trm m c R C) (2048 * (t.val % 8) + q.val) := by
  refine Finset.sum_congr rfl fun q _ => ?_
  have hq : 2048 * (t.val % 8) + q.val < 16384 := by omega
  rw [term_of_lt _ _ hq]
  exact congrArg₂ (· * ·) (ib0 m c t q r ⟨2048 * (t.val % 8) + q.val, hq⟩ R rfl hR) (ib1 m c t q d ⟨2048 * (t.val % 8) + q.val, hq⟩ C rfl hC)

/-- The scratch after a point of a run, the last excepted. -/
theorem sc_sum (c : Dev nD) (r : Fin 1024) (d : Fin 1024) (R : Fin 1024) (C : Fin 1024) :
    ∀ (k : ℕ) (t : Fin cfg0.N) (_ : t.val % 8 = k) (_ : k ≤ 6) (_ : R.val = 1024 * (0) + r.val) (_ : C.val = 1024 * (0) + d.val),
      ((outsAt0 m c t.val t.isLt).2 (ix2 r d) : EReal) = ∑ q ∈ Finset.range (2048 * k + 2048), term 16384 (trm m c R C) q
  | 0, t, hk, _, hR, hC => by
    rw [scA m c t hk]
    refine (pay2_ix _ _ r d).trans ((blk_sum m c t r d R C hR hC).trans ?_)
    rw [sum_first, hk]
  | k + 1, t, hk, hk2, hR, hC => by
    rw [scB m c t (by omega)]
    refine (pay3_ix _ _ _ r d).trans ?_
    have ih := sc_sum c r d R C k ⟨t.val - 1, by omega⟩ (by show (t.val - 1) % 8 = k; omega) (by omega)
      (by (try dsimp only); omega) (by (try dsimp only); omega)
    rw [sum_step, ← hk]
    exact congrArg₂ (· + ·) ih (blk_sum m c t r d R C hR hC)

theorem fin (c : Dev nD) (R : Fin 1024) (C : Fin 1024) : (G2 m c (ix2 R C) : EReal)
    = ∑ q : Fin 16384, a0 m c (ix2 q R) * a1 m c (ix2 q C) := by
  have hb : 8 * (1 * (R.val / 1024) + C.val / 1024) + 7 < cfg0.N := by rw [hN]; omega
  have hp : pt2Of (ix2 R C) = 8 * (1 * (R.val / 1024) + C.val / 1024) + 7 := by
    show 8 * (1 * (R.val / 1024 - 0) + 1 * (C.val / 1024 - 0)) + 7 = _; omega
  have hl : loc2Of (ix2 R C) = ix2 (⟨R.val % 1024, by omega⟩ : Fin 1024) (⟨C.val % 1024, by omega⟩ : Fin 1024) := by
    funext a
    match a with
    | ⟨0, _⟩ => rfl
    | ⟨1, _⟩ => rfl
  unfold G2
  rw [dif_pos (by rw [hp]; exact hb), fold0_congr m c _ _ _ (by omega) hp, ← outsAt0_sweep m c _ hb, hl]
  obtain ⟨t, ht⟩ : ∃ t : Fin cfg0.N, t.val = 8 * (1 * (R.val / 1024) + C.val / 1024) + 7 := ⟨⟨_, hb⟩, rfl⟩
  have hR : R.val = 1024 * (0) + R.val % 1024 := by omega
  have hC : C.val = 1024 * (0) + C.val % 1024 := by omega
  refine (congrArg (fun n : {n // n < cfg0.N} => (outsAt0 m c n.1 n.2).1 _) (Subtype.ext ht.symm : (⟨_, hb⟩ : {n // n < cfg0.N}) = ⟨t.val, t.isLt⟩)).trans ?_
  show ((outsAt0 m c t.val t.isLt).1 _ : EReal) = _
  rw [outC m c t (by omega)]
  refine (pay4_ix _ _ _ _ _).trans ?_
  refine (congrArg₂ (· + ·) (sc_sum m c _ _ R C 6 ⟨t.val - 1, by omega⟩ (by show (t.val - 1) % 8 = 6; omega) (by omega)
    (by (try dsimp only); omega) (by (try dsimp only); omega)) (blk_sum m c t _ _ R C hR hC)).trans ?_
  rw [show t.val % 8 = 6 + 1 by omega, ← sum_step]
  exact sum_term _ (by omega)

theorem ref_ix (x0 x1) (R : Fin 1024) (C : Fin 1024) : (Cert.Reference9Ideal.Read.val_main_v6 (F := Ideal) x0 x1 (ix2 R C) : EReal)
    = ∑ q : Fin 16384, (x0 (ix2 q R) : EReal) * x1 (ix2 q C) := by
  pointwise [Cert.Reference9Ideal.Read.val_main_v6, Cert.Reference9Ideal.Read.val_main_v5, Cert.Reference9Ideal.Read.val_main_v4]
  exact Finset.sum_congr rfl fun q _ => mul_comm _ _

theorem frame_reference : Cert.quiescent_Reference9Ideal := fun m g _ =>
  (θ_run Cert.Reference9Ideal.defs _ _).mono
    (fun r h => ⟨fun c => (h c).2, sem_eq_zero_of_no_sems (by rfl) _⟩) (Cert.Reference9Ideal.Value.run (F := Ideal) m g)

theorem alg : Cert.algebraic_Kernel9Ideal_Reference9Ideal := by
  intro m g m' g' _ hagree
  refine ⟨fun c => G2 m c, ?_, ?_⟩
  · exact (θ_run Cert.Kernel9Ideal.defs _ _).mono (fun r h c => h c) (run m g)
  · refine (θ_run Cert.Reference9Ideal.defs _ _).mono (fun r h c => ?_) (Cert.Reference9Ideal.Value.run (F := Ideal) m' g')
    obtain ⟨e0, e1⟩ := hagree c
    obtain ⟨hv, hk⟩ := h c
    rw [Cert.Reference9Ideal.Read.val_main_v6_eq, e0, e1] at hv
    clear h
    refine ⟨?_, hk⟩
    funext i
    rw [eq_ix2 i]
    refine (congrFun hv _).trans ?_
    exact (ref_ix _ _ (i 0) (i 1)).trans (fin m c (i 0) (i 1)).symm

end Cert.Prod.K9

end
-- ==== Proof.Prod.K8.lean ====
/-
  The gradient of the state-space branch's projection's weight.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K8

open Cert.Kernel8Ideal Cert.Kernel8Ideal.Gen Cert.Kernel8Ideal.Value

variable (m : (ℓ : Loc nD τ sig) → Buf (Elt Ideal) ℓ)

theorem hN : cfg0.N = 16 := N_0

theorem idx0 : ∀ t : Fin cfg0.N, win0_0.index t 0 = t.val % 8 ∧ win0_0.index t 1 = t.val / 8 := by decide +kernel
theorem idx1 : ∀ t : Fin cfg0.N, win0_1.index t 0 = t.val % 8 ∧ win0_1.index t 1 = 0 := by decide +kernel

theorem ib0 (c : Dev nD) (t : Fin cfg0.N) (r : Fin 2048) (d : Fin 1024) (R : Fin 16384) (C : Fin 2048)
    (hR : R.val = 2048 * (t.val % 8) + r.val) (hC : C.val = 1024 * (t.val / 8) + d.val) :
    iblk m c 0 t (ix2 r d) = V m c main_arg0 (ix2 R C) := by
  unfold iblk
  rw [View.read_apply]
  show V m c main_arg0 _ = _
  congr 1
  funext a
  apply Fin.ext
  match a with
  | ⟨0, _⟩ => show win0_0.index t 0 * 2048 + 1 * r.val = R.val; rw [(idx0 t).1]; omega
  | ⟨1, _⟩ => show win0_0.index t 1 * 1024 + 1 * d.val = C.val; rw [(idx0 t).2]; omega

theorem ib1 (c : Dev nD) (t : Fin cfg0.N) (r : Fin 2048) (d : Fin 1024) (R : Fin 16384) (C : Fin 1024)
    (hR : R.val = 2048 * (t.val % 8) + r.val) (hC : C.val = 1024 * (0) + d.val) :
    iblk m c 1 t (ix2 r d) = V m c main_arg1 (ix2 R C) := by
  unfold iblk
  rw [View.read_apply]
  show V m c main_arg1 _ = _
  congr 1
  funext a
  apply Fin.ext
  match a with
  | ⟨0, _⟩ => show win0_1.index t 0 * 2048 + 1 * r.val = R.val; rw [(idx1 t).1]; omega
  | ⟨1, _⟩ => show win0_1.index t 1 * 1024 + 1 * d.val = C.val; rw [(idx1 t).2]; omega

theorem pay1_ix (x0 x1) (r : Fin 1024) (d : Fin 1024) :
    k0_pay1 (F := Ideal) x0 x1 (ix2 r d) = ∑ q : Fin 2048, (x0 (ix2 q r) : EReal) * x1 (ix2 q d) := by
  pointwise [k0_pay1]

theorem pay2_ix (x0 x1) (r : Fin 1024) (d : Fin 1024) :
    k0_pay2 (F := Ideal) x0 x1 (ix2 r d) = ∑ q : Fin 2048, (x0 (ix2 q r) : EReal) * x1 (ix2 q d) := by
  pointwise [k0_pay2, k0_pay1]

theorem pay3_ix (x0 x1 s) (r : Fin 1024) (d : Fin 1024) :
    k0_pay3 (F := Ideal) x0 x1 s (ix2 r d) = (s (ix2 r d) : EReal) + ∑ q : Fin 2048, (x0 (ix2 q r) : EReal) * x1 (ix2 q d) := by
  pointwise [k0_pay3, k0_pay1]

theorem pay4_ix (x0 x1 s) (r : Fin 1024) (d : Fin 1024) :
    k0_pay4 (F := Ideal) x0 x1 s (ix2 r d) = (s (ix2 r d) : EReal) + ∑ q : Fin 2048, (x0 (ix2 q r) : EReal) * x1 (ix2 q d) := by
  pointwise [k0_pay4, k0_pay1]

theorem scA (c : Dev nD) (t : Fin cfg0.N) (h0 : t.val % 8 = 0) : (outsAt0 m c t.val t.isLt).2
    = k0_pay2 (iblk m c 0 t) (iblk m c 1 t) := by
  rw [outsAt0_A m c t h0 (by omega) (by omega)]; dsimp only; unfold sout0_A_0
  refine (View.read_writes_eq_canon _ _ _ fun y => scover0_A_0 ..).trans ?_
  unfold kernelRun0_A; dsimp only; sl_unfold_words
  rw [View.canon_unit_zero (S := S1024x1024) hz]
  simp only [View.readAt_eq_ld, (hs0_0 t).read_unread, (hs0_1 t).read_unread, View.ld_unit_zero (S := S1024x1024) hz, View.ld_unit_zero (S := S2048x1024) hz]

theorem scB (c : Dev nD) (t : Fin cfg0.N) (h0 : 1 ≤ t.val % 8 ∧ t.val % 8 ≤ 6) : (outsAt0 m c t.val t.isLt).2
    = k0_pay3 (iblk m c 0 t) (iblk m c 1 t) (outsAt0 m c (t.val - 1) (Nat.lt_of_le_of_lt (Nat.sub_le _ _) t.isLt)).2 := by
  rw [outsAt0_B m c t (by omega) h0 (by omega)]; dsimp only; unfold sout0_B_0
  refine (View.read_writes_eq_canon _ _ _ fun y => scover0_B_0 ..).trans ?_
  unfold kernelRun0_B; dsimp only; sl_unfold_words
  rw [View.canon_unit_zero (S := S1024x1024) hz]
  simp only [View.readAt_eq_ld, (hs0_0 t).read_unread, (hs0_1 t).read_unread, (Memref.isWhole_whole _).read_unread, View.ld_unit_zero (S := S1024x1024) hz, View.ld_unit_zero (S := S2048x1024) hz]

theorem outC (c : Dev nD) (t : Fin cfg0.N) (h0 : t.val % 8 = 7) : (outsAt0 m c t.val t.isLt).1
    = k0_pay4 (iblk m c 0 t) (iblk m c 1 t) (outsAt0 m c (t.val - 1) (Nat.lt_of_le_of_lt (Nat.sub_le _ _) t.isLt)).2 := by
  rw [outsAt0_C m c t (by omega) (by omega) h0]; dsimp only; unfold out0_C_2
  refine (View.read_writes_eq_canon _ _ _ fun y => cover0_C_2 ..).trans ?_
  unfold kernelRun0_C; dsimp only; sl_unfold_words
  rw [View.canon_unit_zero (S := S1024x1024) hz]
  simp only [View.readAt_eq_ld, (hs0_0 t).read_unread, (hs0_1 t).read_unread, (Memref.isWhole_whole _).read_unread, View.ld_unit_zero (S := S1024x1024) hz, View.ld_unit_zero (S := S2048x1024) hz]

abbrev a0 (c : Dev nD) : Mat 16384 2048 := V m c main_arg0
abbrev a1 (c : Dev nD) : Mat 16384 1024 := V m c main_arg1

abbrev b0 (c : Dev nD) (t : Fin cfg0.N) : Mat 2048 1024 := iblk m c 0 t
abbrev b1 (c : Dev nD) (t : Fin cfg0.N) : Mat 2048 1024 := iblk m c 1 t

/-- A term of the product at row `R`, column `C`. -/
abbrev trm (c : Dev nD) (R : Fin 2048) (C : Fin 1024) (q : Fin 16384) : EReal :=
  a0 m c (ix2 q R) * a1 m c (ix2 q C)

theorem blk_sum (c : Dev nD) (t : Fin cfg0.N) (r : Fin 1024) (d : Fin 1024) (R : Fin 2048) (C : Fin 1024)
    (hR : R.val = 1024 * (t.val / 8) + r.val) (hC : C.val = 1024 * (0) + d.val) :
    ∑ q : Fin 2048, b0 m c t (ix2 q r) * b1 m c t (ix2 q d)
      = ∑ q : Fin 2048, term 16384 (trm m c R C) (2048 * (t.val % 8) + q.val) := by
  refine Finset.sum_congr rfl fun q _ => ?_
  have hq : 2048 * (t.val % 8) + q.val < 16384 := by omega
  rw [term_of_lt _ _ hq]
  exact congrArg₂ (· * ·) (ib0 m c t q r ⟨2048 * (t.val % 8) + q.val, hq⟩ R rfl hR) (ib1 m c t q d ⟨2048 * (t.val % 8) + q.val, hq⟩ C rfl hC)

/-- The scratch after a point of a run, the last excepted. -/
theorem sc_sum (c : Dev nD) (r : Fin 1024) (d : Fin 1024) (R : Fin 2048) (C : Fin 1024) :
    ∀ (k : ℕ) (t : Fin cfg0.N) (_ : t.val % 8 = k) (_ : k ≤ 6) (_ : R.val = 1024 * (t.val / 8) + r.val) (_ : C.val = 1024 * (0) + d.val),
      ((outsAt0 m c t.val t.isLt).2 (ix2 r d) : EReal) = ∑ q ∈ Finset.range (2048 * k + 2048), term 16384 (trm m c R C) q
  | 0, t, hk, _, hR, hC => by
    rw [scA m c t hk]
    refine (pay2_ix _ _ r d).trans ((blk_sum m c t r d R C hR hC).trans ?_)
    rw [sum_first, hk]
  | k + 1, t, hk, hk2, hR, hC => by
    rw [scB m c t (by omega)]
    refine (pay3_ix _ _ _ r d).trans ?_
    have ih := sc_sum c r d R C k ⟨t.val - 1, by omega⟩ (by show (t.val - 1) % 8 = k; omega) (by omega)
      (by (try dsimp only); omega) (by (try dsimp only); omega)
    rw [sum_step, ← hk]
    exact congrArg₂ (· + ·) ih (blk_sum m c t r d R C hR hC)

theorem fin (c : Dev nD) (R : Fin 2048) (C : Fin 1024) : (G2 m c (ix2 R C) : EReal)
    = ∑ q : Fin 16384, a0 m c (ix2 q R) * a1 m c (ix2 q C) := by
  have hb : 8 * (1 * (R.val / 1024) + C.val / 1024) + 7 < cfg0.N := by rw [hN]; omega
  have hp : pt2Of (ix2 R C) = 8 * (1 * (R.val / 1024) + C.val / 1024) + 7 := by
    show 8 * (1 * (R.val / 1024 - 0) + 1 * (C.val / 1024 - 0)) + 7 = _; omega
  have hl : loc2Of (ix2 R C) = ix2 (⟨R.val % 1024, by omega⟩ : Fin 1024) (⟨C.val % 1024, by omega⟩ : Fin 1024) := by
    funext a
    match a with
    | ⟨0, _⟩ => rfl
    | ⟨1, _⟩ => rfl
  unfold G2
  rw [dif_pos (by rw [hp]; exact hb), fold0_congr m c _ _ _ (by omega) hp, ← outsAt0_sweep m c _ hb, hl]
  obtain ⟨t, ht⟩ : ∃ t : Fin cfg0.N, t.val = 8 * (1 * (R.val / 1024) + C.val / 1024) + 7 := ⟨⟨_, hb⟩, rfl⟩
  have hR : R.val = 1024 * (t.val / 8) + R.val % 1024 := by omega
  have hC : C.val = 1024 * (0) + C.val % 1024 := by omega
  refine (congrArg (fun n : {n // n < cfg0.N} => (outsAt0 m c n.1 n.2).1 _) (Subtype.ext ht.symm : (⟨_, hb⟩ : {n // n < cfg0.N}) = ⟨t.val, t.isLt⟩)).trans ?_
  show ((outsAt0 m c t.val t.isLt).1 _ : EReal) = _
  rw [outC m c t (by omega)]
  refine (pay4_ix _ _ _ _ _).trans ?_
  refine (congrArg₂ (· + ·) (sc_sum m c _ _ R C 6 ⟨t.val - 1, by omega⟩ (by show (t.val - 1) % 8 = 6; omega) (by omega)
    (by (try dsimp only); omega) (by (try dsimp only); omega)) (blk_sum m c t _ _ R C hR hC)).trans ?_
  rw [show t.val % 8 = 6 + 1 by omega, ← sum_step]
  exact sum_term _ (by omega)

theorem ref_ix (x0 x1) (R : Fin 2048) (C : Fin 1024) : (Cert.Reference8Ideal.Read.val_main_v6 (F := Ideal) x0 x1 (ix2 R C) : EReal)
    = ∑ q : Fin 16384, (x0 (ix2 q R) : EReal) * x1 (ix2 q C) := by
  pointwise [Cert.Reference8Ideal.Read.val_main_v6, Cert.Reference8Ideal.Read.val_main_v5, Cert.Reference8Ideal.Read.val_main_v4]
  exact Finset.sum_congr rfl fun q _ => mul_comm _ _

theorem frame_reference : Cert.quiescent_Reference8Ideal := fun m g _ =>
  (θ_run Cert.Reference8Ideal.defs _ _).mono
    (fun r h => ⟨fun c => (h c).2, sem_eq_zero_of_no_sems (by rfl) _⟩) (Cert.Reference8Ideal.Value.run (F := Ideal) m g)

theorem alg : Cert.algebraic_Kernel8Ideal_Reference8Ideal := by
  intro m g m' g' _ hagree
  refine ⟨fun c => G2 m c, ?_, ?_⟩
  · exact (θ_run Cert.Kernel8Ideal.defs _ _).mono (fun r h c => h c) (run m g)
  · refine (θ_run Cert.Reference8Ideal.defs _ _).mono (fun r h c => ?_) (Cert.Reference8Ideal.Value.run (F := Ideal) m' g')
    obtain ⟨e0, e1⟩ := hagree c
    obtain ⟨hv, hk⟩ := h c
    rw [Cert.Reference8Ideal.Read.val_main_v6_eq, e0, e1] at hv
    clear h
    refine ⟨?_, hk⟩
    funext i
    rw [eq_ix2 i]
    refine (congrFun hv _).trans ?_
    exact (ref_ix _ _ (i 0) (i 1)).trans (fin m c (i 0) (i 1)).symm

end Cert.Prod.K8

end
-- ==== Proof.Prod.K7.lean ====
/-
  The gradient of the feed-forward down projection's weight.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K7

open Cert.Kernel7Ideal Cert.Kernel7Ideal.Gen Cert.Kernel7Ideal.Value

variable (m : (ℓ : Loc nD τ sig) → Buf (Elt Ideal) ℓ)

theorem hN : cfg0.N = 16 := N_0

theorem idx0 : ∀ t : Fin cfg0.N, win0_0.index t 0 = t.val % 8 ∧ win0_0.index t 1 = t.val / 8 := by decide +kernel
theorem idx1 : ∀ t : Fin cfg0.N, win0_1.index t 0 = t.val % 8 ∧ win0_1.index t 1 = 0 := by decide +kernel

theorem ib0 (c : Dev nD) (t : Fin cfg0.N) (r : Fin 2048) (d : Fin 1408) (R : Fin 16384) (C : Fin 2816)
    (hR : R.val = 2048 * (t.val % 8) + r.val) (hC : C.val = 1408 * (t.val / 8) + d.val) :
    iblk m c 0 t (ix2 r d) = V m c main_arg0 (ix2 R C) := by
  unfold iblk
  rw [View.read_apply]
  show V m c main_arg0 _ = _
  congr 1
  funext a
  apply Fin.ext
  match a with
  | ⟨0, _⟩ => show win0_0.index t 0 * 2048 + 1 * r.val = R.val; rw [(idx0 t).1]; omega
  | ⟨1, _⟩ => show win0_0.index t 1 * 1408 + 1 * d.val = C.val; rw [(idx0 t).2]; omega

theorem ib1 (c : Dev nD) (t : Fin cfg0.N) (r : Fin 2048) (d : Fin 1024) (R : Fin 16384) (C : Fin 1024)
    (hR : R.val = 2048 * (t.val % 8) + r.val) (hC : C.val = 1024 * (0) + d.val) :
    iblk m c 1 t (ix2 r d) = V m c main_arg1 (ix2 R C) := by
  unfold iblk
  rw [View.read_apply]
  show V m c main_arg1 _ = _
  congr 1
  funext a
  apply Fin.ext
  match a with
  | ⟨0, _⟩ => show win0_1.index t 0 * 2048 + 1 * r.val = R.val; rw [(idx1 t).1]; omega
  | ⟨1, _⟩ => show win0_1.index t 1 * 1024 + 1 * d.val = C.val; rw [(idx1 t).2]; omega

theorem pay1_ix (x0 x1) (r : Fin 1408) (d : Fin 1024) :
    k0_pay1 (F := Ideal) x0 x1 (ix2 r d) = ∑ q : Fin 2048, (x0 (ix2 q r) : EReal) * x1 (ix2 q d) := by
  pointwise [k0_pay1]

theorem pay2_ix (x0 x1) (r : Fin 1408) (d : Fin 1024) :
    k0_pay2 (F := Ideal) x0 x1 (ix2 r d) = ∑ q : Fin 2048, (x0 (ix2 q r) : EReal) * x1 (ix2 q d) := by
  pointwise [k0_pay2, k0_pay1]

theorem pay3_ix (x0 x1 s) (r : Fin 1408) (d : Fin 1024) :
    k0_pay3 (F := Ideal) x0 x1 s (ix2 r d) = (s (ix2 r d) : EReal) + ∑ q : Fin 2048, (x0 (ix2 q r) : EReal) * x1 (ix2 q d) := by
  pointwise [k0_pay3, k0_pay1]

theorem pay4_ix (x0 x1 s) (r : Fin 1408) (d : Fin 1024) :
    k0_pay4 (F := Ideal) x0 x1 s (ix2 r d) = (s (ix2 r d) : EReal) + ∑ q : Fin 2048, (x0 (ix2 q r) : EReal) * x1 (ix2 q d) := by
  pointwise [k0_pay4, k0_pay1]

theorem scA (c : Dev nD) (t : Fin cfg0.N) (h0 : t.val % 8 = 0) : (outsAt0 m c t.val t.isLt).2
    = k0_pay2 (iblk m c 0 t) (iblk m c 1 t) := by
  rw [outsAt0_A m c t h0 (by omega) (by omega)]; dsimp only; unfold sout0_A_0
  refine (View.read_writes_eq_canon _ _ _ fun y => scover0_A_0 ..).trans ?_
  unfold kernelRun0_A; dsimp only; sl_unfold_words
  rw [View.canon_unit_zero (S := S1408x1024) hz]
  simp only [View.readAt_eq_ld, (hs0_0 t).read_unread, (hs0_1 t).read_unread, View.ld_unit_zero (S := S1408x1024) hz, View.ld_unit_zero (S := S2048x1024) hz, View.ld_unit_zero (S := S2048x1408) hz]

theorem scB (c : Dev nD) (t : Fin cfg0.N) (h0 : 1 ≤ t.val % 8 ∧ t.val % 8 ≤ 6) : (outsAt0 m c t.val t.isLt).2
    = k0_pay3 (iblk m c 0 t) (iblk m c 1 t) (outsAt0 m c (t.val - 1) (Nat.lt_of_le_of_lt (Nat.sub_le _ _) t.isLt)).2 := by
  rw [outsAt0_B m c t (by omega) h0 (by omega)]; dsimp only; unfold sout0_B_0
  refine (View.read_writes_eq_canon _ _ _ fun y => scover0_B_0 ..).trans ?_
  unfold kernelRun0_B; dsimp only; sl_unfold_words
  rw [View.canon_unit_zero (S := S1408x1024) hz]
  simp only [View.readAt_eq_ld, (hs0_0 t).read_unread, (hs0_1 t).read_unread, (Memref.isWhole_whole _).read_unread, View.ld_unit_zero (S := S1408x1024) hz, View.ld_unit_zero (S := S2048x1024) hz, View.ld_unit_zero (S := S2048x1408) hz]

theorem outC (c : Dev nD) (t : Fin cfg0.N) (h0 : t.val % 8 = 7) : (outsAt0 m c t.val t.isLt).1
    = k0_pay4 (iblk m c 0 t) (iblk m c 1 t) (outsAt0 m c (t.val - 1) (Nat.lt_of_le_of_lt (Nat.sub_le _ _) t.isLt)).2 := by
  rw [outsAt0_C m c t (by omega) (by omega) h0]; dsimp only; unfold out0_C_2
  refine (View.read_writes_eq_canon _ _ _ fun y => cover0_C_2 ..).trans ?_
  unfold kernelRun0_C; dsimp only; sl_unfold_words
  rw [View.canon_unit_zero (S := S1408x1024) hz]
  simp only [View.readAt_eq_ld, (hs0_0 t).read_unread, (hs0_1 t).read_unread, (Memref.isWhole_whole _).read_unread, View.ld_unit_zero (S := S1408x1024) hz, View.ld_unit_zero (S := S2048x1024) hz, View.ld_unit_zero (S := S2048x1408) hz]

abbrev a0 (c : Dev nD) : Mat 16384 2816 := V m c main_arg0
abbrev a1 (c : Dev nD) : Mat 16384 1024 := V m c main_arg1

abbrev b0 (c : Dev nD) (t : Fin cfg0.N) : Mat 2048 1408 := iblk m c 0 t
abbrev b1 (c : Dev nD) (t : Fin cfg0.N) : Mat 2048 1024 := iblk m c 1 t

/-- A term of the product at row `R`, column `C`. -/
abbrev trm (c : Dev nD) (R : Fin 2816) (C : Fin 1024) (q : Fin 16384) : EReal :=
  a0 m c (ix2 q R) * a1 m c (ix2 q C)

theorem blk_sum (c : Dev nD) (t : Fin cfg0.N) (r : Fin 1408) (d : Fin 1024) (R : Fin 2816) (C : Fin 1024)
    (hR : R.val = 1408 * (t.val / 8) + r.val) (hC : C.val = 1024 * (0) + d.val) :
    ∑ q : Fin 2048, b0 m c t (ix2 q r) * b1 m c t (ix2 q d)
      = ∑ q : Fin 2048, term 16384 (trm m c R C) (2048 * (t.val % 8) + q.val) := by
  refine Finset.sum_congr rfl fun q _ => ?_
  have hq : 2048 * (t.val % 8) + q.val < 16384 := by omega
  rw [term_of_lt _ _ hq]
  exact congrArg₂ (· * ·) (ib0 m c t q r ⟨2048 * (t.val % 8) + q.val, hq⟩ R rfl hR) (ib1 m c t q d ⟨2048 * (t.val % 8) + q.val, hq⟩ C rfl hC)

/-- The scratch after a point of a run, the last excepted. -/
theorem sc_sum (c : Dev nD) (r : Fin 1408) (d : Fin 1024) (R : Fin 2816) (C : Fin 1024) :
    ∀ (k : ℕ) (t : Fin cfg0.N) (_ : t.val % 8 = k) (_ : k ≤ 6) (_ : R.val = 1408 * (t.val / 8) + r.val) (_ : C.val = 1024 * (0) + d.val),
      ((outsAt0 m c t.val t.isLt).2 (ix2 r d) : EReal) = ∑ q ∈ Finset.range (2048 * k + 2048), term 16384 (trm m c R C) q
  | 0, t, hk, _, hR, hC => by
    rw [scA m c t hk]
    refine (pay2_ix _ _ r d).trans ((blk_sum m c t r d R C hR hC).trans ?_)
    rw [sum_first, hk]
  | k + 1, t, hk, hk2, hR, hC => by
    rw [scB m c t (by omega)]
    refine (pay3_ix _ _ _ r d).trans ?_
    have ih := sc_sum c r d R C k ⟨t.val - 1, by omega⟩ (by show (t.val - 1) % 8 = k; omega) (by omega)
      (by (try dsimp only); omega) (by (try dsimp only); omega)
    rw [sum_step, ← hk]
    exact congrArg₂ (· + ·) ih (blk_sum m c t r d R C hR hC)

theorem fin (c : Dev nD) (R : Fin 2816) (C : Fin 1024) : (G2 m c (ix2 R C) : EReal)
    = ∑ q : Fin 16384, a0 m c (ix2 q R) * a1 m c (ix2 q C) := by
  have hb : 8 * (1 * (R.val / 1408) + C.val / 1024) + 7 < cfg0.N := by rw [hN]; omega
  have hp : pt2Of (ix2 R C) = 8 * (1 * (R.val / 1408) + C.val / 1024) + 7 := by
    show 8 * (1 * (R.val / 1408 - 0) + 1 * (C.val / 1024 - 0)) + 7 = _; omega
  have hl : loc2Of (ix2 R C) = ix2 (⟨R.val % 1408, by omega⟩ : Fin 1408) (⟨C.val % 1024, by omega⟩ : Fin 1024) := by
    funext a
    match a with
    | ⟨0, _⟩ => rfl
    | ⟨1, _⟩ => rfl
  unfold G2
  rw [dif_pos (by rw [hp]; exact hb), fold0_congr m c _ _ _ (by omega) hp, ← outsAt0_sweep m c _ hb, hl]
  obtain ⟨t, ht⟩ : ∃ t : Fin cfg0.N, t.val = 8 * (1 * (R.val / 1408) + C.val / 1024) + 7 := ⟨⟨_, hb⟩, rfl⟩
  have hR : R.val = 1408 * (t.val / 8) + R.val % 1408 := by omega
  have hC : C.val = 1024 * (0) + C.val % 1024 := by omega
  refine (congrArg (fun n : {n // n < cfg0.N} => (outsAt0 m c n.1 n.2).1 _) (Subtype.ext ht.symm : (⟨_, hb⟩ : {n // n < cfg0.N}) = ⟨t.val, t.isLt⟩)).trans ?_
  show ((outsAt0 m c t.val t.isLt).1 _ : EReal) = _
  rw [outC m c t (by omega)]
  refine (pay4_ix _ _ _ _ _).trans ?_
  refine (congrArg₂ (· + ·) (sc_sum m c _ _ R C 6 ⟨t.val - 1, by omega⟩ (by show (t.val - 1) % 8 = 6; omega) (by omega)
    (by (try dsimp only); omega) (by (try dsimp only); omega)) (blk_sum m c t _ _ R C hR hC)).trans ?_
  rw [show t.val % 8 = 6 + 1 by omega, ← sum_step]
  exact sum_term _ (by omega)

theorem ref_ix (x0 x1) (R : Fin 2816) (C : Fin 1024) : (Cert.Reference7Ideal.Read.val_main_v6 (F := Ideal) x0 x1 (ix2 R C) : EReal)
    = ∑ q : Fin 16384, (x0 (ix2 q R) : EReal) * x1 (ix2 q C) := by
  pointwise [Cert.Reference7Ideal.Read.val_main_v6, Cert.Reference7Ideal.Read.val_main_v5, Cert.Reference7Ideal.Read.val_main_v4]
  exact Finset.sum_congr rfl fun q _ => mul_comm _ _

theorem frame_reference : Cert.quiescent_Reference7Ideal := fun m g _ =>
  (θ_run Cert.Reference7Ideal.defs _ _).mono
    (fun r h => ⟨fun c => (h c).2, sem_eq_zero_of_no_sems (by rfl) _⟩) (Cert.Reference7Ideal.Value.run (F := Ideal) m g)

theorem alg : Cert.algebraic_Kernel7Ideal_Reference7Ideal := by
  intro m g m' g' _ hagree
  refine ⟨fun c => G2 m c, ?_, ?_⟩
  · exact (θ_run Cert.Kernel7Ideal.defs _ _).mono (fun r h c => h c) (run m g)
  · refine (θ_run Cert.Reference7Ideal.defs _ _).mono (fun r h c => ?_) (Cert.Reference7Ideal.Value.run (F := Ideal) m' g')
    obtain ⟨e0, e1⟩ := hagree c
    obtain ⟨hv, hk⟩ := h c
    rw [Cert.Reference7Ideal.Read.val_main_v6_eq, e0, e1] at hv
    clear h
    refine ⟨?_, hk⟩
    funext i
    rw [eq_ix2 i]
    refine (congrFun hv _).trans ?_
    exact (ref_ix _ _ (i 0) (i 1)).trans (fin m c (i 0) (i 1)).symm

end Cert.Prod.K7

end
-- ==== Proof.Prod.K6.lean ====
/-
  The gradient of the feed-forward up projection's weight.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K6

open Cert.Kernel6Ideal Cert.Kernel6Ideal.Gen Cert.Kernel6Ideal.Value

variable (m : (ℓ : Loc nD τ sig) → Buf (Elt Ideal) ℓ)

theorem hN : cfg0.N = 32 := N_0

theorem idx0 : ∀ t : Fin cfg0.N, win0_0.index t 0 = t.val % 8 ∧ win0_0.index t 1 = 0 := by decide +kernel
theorem idx1 : ∀ t : Fin cfg0.N, win0_1.index t 0 = t.val / 8 / 2 ∧ win0_1.index t 1 = t.val % 8 ∧ win0_1.index t 2 = t.val / 8 % 2 := by decide +kernel

theorem ib0 (c : Dev nD) (t : Fin cfg0.N) (r : Fin 2048) (d : Fin 1024) (R : Fin 16384) (C : Fin 1024)
    (hR : R.val = 2048 * (t.val % 8) + r.val) (hC : C.val = 1024 * (0) + d.val) :
    iblk m c 0 t (ix2 r d) = V m c main_arg0 (ix2 R C) := by
  unfold iblk
  rw [View.read_apply]
  show V m c main_arg0 _ = _
  congr 1
  funext a
  apply Fin.ext
  match a with
  | ⟨0, _⟩ => show win0_0.index t 0 * 2048 + 1 * r.val = R.val; rw [(idx0 t).1]; omega
  | ⟨1, _⟩ => show win0_0.index t 1 * 1024 + 1 * d.val = C.val; rw [(idx0 t).2]; omega

/-- The two halves' columns, beside one another. -/
def cat (x : S2x16384x2816.Idx → EReal) : Mat 16384 5632 := fun i =>
  if h : (i 1).val < 2816 then x (ix3 0 (i 0) ⟨(i 1).val, h⟩) else x (ix3 1 (i 0) ⟨(i 1).val - 2816, by have : (i 1).val < 5632 := (i 1).isLt; omega⟩)

theorem ib1 (c : Dev nD) (t : Fin cfg0.N) (r : Fin 2048) (d : Fin 1408) (R : Fin 16384) (C : Fin 5632)
    (hR : R.val = 2048 * (t.val % 8) + r.val) (hC : C.val = 1408 * (t.val / 8) + d.val) :
    iblk m c 1 t (ix3 0 r d) = cat (V m c main_arg1) (ix2 R C) := by
  unfold iblk
  rw [View.read_apply]
  have ht : t.val < 32 := hN ▸ t.isLt
  unfold cat
  split
  · rename_i h
    have h' : C.val < 2816 := h
    show V m c main_arg1 _ = _
    congr 1
    funext a
    apply Fin.ext
    match a with
    | ⟨0, _⟩ => show win0_1.index t 0 * 1 + 1 * 0 = 0; rw [(idx1 t).1]; omega
    | ⟨1, _⟩ => show win0_1.index t 1 * 2048 + 1 * r.val = R.val; rw [(idx1 t).2.1]; omega
    | ⟨2, _⟩ => show win0_1.index t 2 * 1408 + 1 * d.val = C.val; rw [(idx1 t).2.2]; omega
  · rename_i h
    have h' : ¬ C.val < 2816 := h
    show V m c main_arg1 _ = _
    congr 1
    funext a
    apply Fin.ext
    match a with
    | ⟨0, _⟩ => show win0_1.index t 0 * 1 + 1 * 0 = 1; rw [(idx1 t).1]; omega
    | ⟨1, _⟩ => show win0_1.index t 1 * 2048 + 1 * r.val = R.val; rw [(idx1 t).2.1]; omega
    | ⟨2, _⟩ => show win0_1.index t 2 * 1408 + 1 * d.val = C.val - 2816; rw [(idx1 t).2.2]; omega

theorem pay1_ix (x0 x1) (r : Fin 1024) (d : Fin 1408) :
    k0_pay1 (F := Ideal) x0 x1 (ix2 r d) = ∑ q : Fin 2048, (x0 (ix2 q r) : EReal) * x1 (ix3 0 q d) := by
  pointwise [k0_pay1]

theorem pay2_ix (x0 x1) (r : Fin 1024) (d : Fin 1408) :
    k0_pay2 (F := Ideal) x0 x1 (ix2 r d) = ∑ q : Fin 2048, (x0 (ix2 q r) : EReal) * x1 (ix3 0 q d) := by
  pointwise [k0_pay2, k0_pay1]

theorem pay3_ix (x0 x1 s) (r : Fin 1024) (d : Fin 1408) :
    k0_pay3 (F := Ideal) x0 x1 s (ix2 r d) = (s (ix2 r d) : EReal) + ∑ q : Fin 2048, (x0 (ix2 q r) : EReal) * x1 (ix3 0 q d) := by
  pointwise [k0_pay3, k0_pay1]

theorem pay4_ix (x0 x1 s) (r : Fin 1024) (d : Fin 1408) :
    k0_pay4 (F := Ideal) x0 x1 s (ix2 r d) = (s (ix2 r d) : EReal) + ∑ q : Fin 2048, (x0 (ix2 q r) : EReal) * x1 (ix3 0 q d) := by
  pointwise [k0_pay4, k0_pay1]

theorem scA (c : Dev nD) (t : Fin cfg0.N) (h0 : t.val % 8 = 0) : (outsAt0 m c t.val t.isLt).2
    = k0_pay2 (iblk m c 0 t) (iblk m c 1 t) := by
  rw [outsAt0_A m c t h0 (by omega) (by omega)]; dsimp only; unfold sout0_A_0
  refine (View.read_writes_eq_canon _ _ _ fun y => scover0_A_0 ..).trans ?_
  unfold kernelRun0_A; dsimp only; sl_unfold_words
  rw [View.canon_unit_zero (S := S1024x1408) hz]
  simp only [View.readAt_eq_ld, (hs0_0 t).read_unread, (hs0_1 t).read_unread, View.ld_unit_zero (S := S1024x1408) hz, View.ld_unit_zero (S := S2048x1024) hz, View.ld_unit_zero (S := S1x2048x1408) hz3]

theorem scB (c : Dev nD) (t : Fin cfg0.N) (h0 : 1 ≤ t.val % 8 ∧ t.val % 8 ≤ 6) : (outsAt0 m c t.val t.isLt).2
    = k0_pay3 (iblk m c 0 t) (iblk m c 1 t) (outsAt0 m c (t.val - 1) (Nat.lt_of_le_of_lt (Nat.sub_le _ _) t.isLt)).2 := by
  rw [outsAt0_B m c t (by omega) h0 (by omega)]; dsimp only; unfold sout0_B_0
  refine (View.read_writes_eq_canon _ _ _ fun y => scover0_B_0 ..).trans ?_
  unfold kernelRun0_B; dsimp only; sl_unfold_words
  rw [View.canon_unit_zero (S := S1024x1408) hz]
  simp only [View.readAt_eq_ld, (hs0_0 t).read_unread, (hs0_1 t).read_unread, (Memref.isWhole_whole _).read_unread, View.ld_unit_zero (S := S1024x1408) hz, View.ld_unit_zero (S := S2048x1024) hz, View.ld_unit_zero (S := S1x2048x1408) hz3]

theorem outC (c : Dev nD) (t : Fin cfg0.N) (h0 : t.val % 8 = 7) : (outsAt0 m c t.val t.isLt).1
    = k0_pay4 (iblk m c 0 t) (iblk m c 1 t) (outsAt0 m c (t.val - 1) (Nat.lt_of_le_of_lt (Nat.sub_le _ _) t.isLt)).2 := by
  rw [outsAt0_C m c t (by omega) (by omega) h0]; dsimp only; unfold out0_C_2
  refine (View.read_writes_eq_canon _ _ _ fun y => cover0_C_2 ..).trans ?_
  unfold kernelRun0_C; dsimp only; sl_unfold_words
  rw [View.canon_unit_zero (S := S1024x1408) hz]
  simp only [View.readAt_eq_ld, (hs0_0 t).read_unread, (hs0_1 t).read_unread, (Memref.isWhole_whole _).read_unread, View.ld_unit_zero (S := S1024x1408) hz, View.ld_unit_zero (S := S2048x1024) hz, View.ld_unit_zero (S := S1x2048x1408) hz3]

abbrev a0 (c : Dev nD) : Mat 16384 1024 := V m c main_arg0
abbrev a1 (c : Dev nD) : Mat 16384 5632 := cat (V m c main_arg1)

abbrev b0 (c : Dev nD) (t : Fin cfg0.N) : Mat 2048 1024 := iblk m c 0 t
abbrev b1 (c : Dev nD) (t : Fin cfg0.N) : S1x2048x1408.Idx → EReal := iblk m c 1 t

/-- A term of the product at row `R`, column `C`. -/
abbrev trm (c : Dev nD) (R : Fin 1024) (C : Fin 5632) (q : Fin 16384) : EReal :=
  a0 m c (ix2 q R) * a1 m c (ix2 q C)

theorem blk_sum (c : Dev nD) (t : Fin cfg0.N) (r : Fin 1024) (d : Fin 1408) (R : Fin 1024) (C : Fin 5632)
    (hR : R.val = 1024 * (0) + r.val) (hC : C.val = 1408 * (t.val / 8) + d.val) :
    ∑ q : Fin 2048, b0 m c t (ix2 q r) * b1 m c t (ix3 0 q d)
      = ∑ q : Fin 2048, term 16384 (trm m c R C) (2048 * (t.val % 8) + q.val) := by
  refine Finset.sum_congr rfl fun q _ => ?_
  have hq : 2048 * (t.val % 8) + q.val < 16384 := by omega
  rw [term_of_lt _ _ hq]
  exact congrArg₂ (· * ·) (ib0 m c t q r ⟨2048 * (t.val % 8) + q.val, hq⟩ R rfl hR) (ib1 m c t q d ⟨2048 * (t.val % 8) + q.val, hq⟩ C rfl hC)

/-- The scratch after a point of a run, the last excepted. -/
theorem sc_sum (c : Dev nD) (r : Fin 1024) (d : Fin 1408) (R : Fin 1024) (C : Fin 5632) :
    ∀ (k : ℕ) (t : Fin cfg0.N) (_ : t.val % 8 = k) (_ : k ≤ 6) (_ : R.val = 1024 * (0) + r.val) (_ : C.val = 1408 * (t.val / 8) + d.val),
      ((outsAt0 m c t.val t.isLt).2 (ix2 r d) : EReal) = ∑ q ∈ Finset.range (2048 * k + 2048), term 16384 (trm m c R C) q
  | 0, t, hk, _, hR, hC => by
    rw [scA m c t hk]
    refine (pay2_ix _ _ r d).trans ((blk_sum m c t r d R C hR hC).trans ?_)
    rw [sum_first, hk]
  | k + 1, t, hk, hk2, hR, hC => by
    rw [scB m c t (by omega)]
    refine (pay3_ix _ _ _ r d).trans ?_
    have ih := sc_sum c r d R C k ⟨t.val - 1, by omega⟩ (by show (t.val - 1) % 8 = k; omega) (by omega)
      (by (try dsimp only); omega) (by (try dsimp only); omega)
    rw [sum_step, ← hk]
    exact congrArg₂ (· + ·) ih (blk_sum m c t r d R C hR hC)

theorem fin (c : Dev nD) (R : Fin 1024) (C : Fin 5632) : (G2 m c (ix2 R C) : EReal)
    = ∑ q : Fin 16384, a0 m c (ix2 q R) * a1 m c (ix2 q C) := by
  have hb : 8 * (4 * (R.val / 1024) + C.val / 1408) + 7 < cfg0.N := by rw [hN]; omega
  have hp : pt2Of (ix2 R C) = 8 * (4 * (R.val / 1024) + C.val / 1408) + 7 := by
    show 8 * (4 * (R.val / 1024 - 0) + 1 * (C.val / 1408 - 0)) + 7 = _; omega
  have hl : loc2Of (ix2 R C) = ix2 (⟨R.val % 1024, by omega⟩ : Fin 1024) (⟨C.val % 1408, by omega⟩ : Fin 1408) := by
    funext a
    match a with
    | ⟨0, _⟩ => rfl
    | ⟨1, _⟩ => rfl
  unfold G2
  rw [dif_pos (by rw [hp]; exact hb), fold0_congr m c _ _ _ (by omega) hp, ← outsAt0_sweep m c _ hb, hl]
  obtain ⟨t, ht⟩ : ∃ t : Fin cfg0.N, t.val = 8 * (4 * (R.val / 1024) + C.val / 1408) + 7 := ⟨⟨_, hb⟩, rfl⟩
  have hR : R.val = 1024 * (0) + R.val % 1024 := by omega
  have hC : C.val = 1408 * (t.val / 8) + C.val % 1408 := by omega
  refine (congrArg (fun n : {n // n < cfg0.N} => (outsAt0 m c n.1 n.2).1 _) (Subtype.ext ht.symm : (⟨_, hb⟩ : {n // n < cfg0.N}) = ⟨t.val, t.isLt⟩)).trans ?_
  show ((outsAt0 m c t.val t.isLt).1 _ : EReal) = _
  rw [outC m c t (by omega)]
  refine (pay4_ix _ _ _ _ _).trans ?_
  refine (congrArg₂ (· + ·) (sc_sum m c _ _ R C 6 ⟨t.val - 1, by omega⟩ (by show (t.val - 1) % 8 = 6; omega) (by omega)
    (by (try dsimp only); omega) (by (try dsimp only); omega)) (blk_sum m c t _ _ R C hR hC)).trans ?_
  rw [show t.val % 8 = 6 + 1 by omega, ← sum_step]
  exact sum_term _ (by omega)

theorem ref_ix (x0 x1) (R : Fin 1024) (C : Fin 5632) : (Cert.Reference6Ideal.Read.val_main_v11 (F := Ideal) x0 x1 (ix2 R C) : EReal)
    = ∑ q : Fin 16384, (x0 (ix2 q R) : EReal) * cat x1 (ix2 q C) := by
  pointwise [Cert.Reference6Ideal.Read.val_main_v11, Cert.Reference6Ideal.Read.val_main_v10, Cert.Reference6Ideal.Read.val_main_v9, Cert.Reference6Ideal.Read.val_main_v8, Cert.Reference6Ideal.Read.val_main_v6, Cert.Reference6Ideal.Read.val_main_v4, Cert.Reference6Ideal.Read.val_main_v3, Cert.Reference6Ideal.Read.val_main_v2, Cert.Reference6Ideal.Read.val_main_v1, Cert.Reference6Ideal.Read.val_main_v0]
  exact Finset.sum_congr rfl fun q _ => mul_comm _ _

theorem frame_reference : Cert.quiescent_Reference6Ideal := fun m g _ =>
  (θ_run Cert.Reference6Ideal.defs _ _).mono
    (fun r h => ⟨fun c => (h c).2, sem_eq_zero_of_no_sems (by rfl) _⟩) (Cert.Reference6Ideal.Value.run (F := Ideal) m g)

theorem alg : Cert.algebraic_Kernel6Ideal_Reference6Ideal := by
  intro m g m' g' _ hagree
  refine ⟨fun c => G2 m c, ?_, ?_⟩
  · exact (θ_run Cert.Kernel6Ideal.defs _ _).mono (fun r h c => h c) (run m g)
  · refine (θ_run Cert.Reference6Ideal.defs _ _).mono (fun r h c => ?_) (Cert.Reference6Ideal.Value.run (F := Ideal) m' g')
    obtain ⟨e0, e1⟩ := hagree c
    obtain ⟨hv, hk⟩ := h c
    rw [Cert.Reference6Ideal.Read.val_main_v11_eq, e0, e1] at hv
    clear h
    refine ⟨?_, hk⟩
    funext i
    rw [eq_ix2 i]
    refine (congrFun hv _).trans ?_
    exact (ref_ix _ _ (i 0) (i 1)).trans (fin m c (i 0) (i 1)).symm

end Cert.Prod.K6

end
-- ==== Proof.Prod.K5.lean ====
/-
  The gradient of the projection's last columns' weight.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K5

open Cert.Kernel5Ideal Cert.Kernel5Ideal.Gen Cert.Kernel5Ideal.Value

variable (m : (ℓ : Loc nD τ sig) → Buf (Elt Ideal) ℓ)

theorem hN : cfg0.N = 8 := N_0

theorem idx0 : ∀ t : Fin cfg0.N, win0_0.index t 0 = t.val % 8 ∧ win0_0.index t 1 = 0 := by decide +kernel
theorem idx1 : ∀ t : Fin cfg0.N, win0_1.index t 0 = t.val % 8 ∧ win0_1.index t 1 = 0 := by decide +kernel

theorem ib0 (c : Dev nD) (t : Fin cfg0.N) (r : Fin 2048) (d : Fin 1024) (R : Fin 16384) (C : Fin 1024)
    (hR : R.val = 2048 * (t.val % 8) + r.val) (hC : C.val = 1024 * (0) + d.val) :
    iblk m c 0 t (ix2 r d) = V m c main_arg0 (ix2 R C) := by
  unfold iblk
  rw [View.read_apply]
  show V m c main_arg0 _ = _
  congr 1
  funext a
  apply Fin.ext
  match a with
  | ⟨0, _⟩ => show win0_0.index t 0 * 2048 + 1 * r.val = R.val; rw [(idx0 t).1]; omega
  | ⟨1, _⟩ => show win0_0.index t 1 * 1024 + 1 * d.val = C.val; rw [(idx0 t).2]; omega

theorem ib1 (c : Dev nD) (t : Fin cfg0.N) (r : Fin 2048) (d : Fin 384) (R : Fin 16384) (C : Fin 384)
    (hR : R.val = 2048 * (t.val % 8) + r.val) (hC : C.val = 384 * (0) + d.val) :
    iblk m c 1 t (ix2 r d) = V m c main_arg1 (ix2 R C) := by
  unfold iblk
  rw [View.read_apply]
  show V m c main_arg1 _ = _
  congr 1
  funext a
  apply Fin.ext
  match a with
  | ⟨0, _⟩ => show win0_1.index t 0 * 2048 + 1 * r.val = R.val; rw [(idx1 t).1]; omega
  | ⟨1, _⟩ => show win0_1.index t 1 * 384 + 1 * d.val = C.val; rw [(idx1 t).2]; omega

theorem pay1_ix (x0 x1) (r : Fin 1024) (d : Fin 384) :
    k0_pay1 (F := Ideal) x0 x1 (ix2 r d) = ∑ q : Fin 2048, (x0 (ix2 q r) : EReal) * x1 (ix2 q d) := by
  pointwise [k0_pay1]

theorem pay2_ix (x0 x1) (r : Fin 1024) (d : Fin 384) :
    k0_pay2 (F := Ideal) x0 x1 (ix2 r d) = ∑ q : Fin 2048, (x0 (ix2 q r) : EReal) * x1 (ix2 q d) := by
  pointwise [k0_pay2, k0_pay1]

theorem pay3_ix (x0 x1 s) (r : Fin 1024) (d : Fin 384) :
    k0_pay3 (F := Ideal) x0 x1 s (ix2 r d) = (s (ix2 r d) : EReal) + ∑ q : Fin 2048, (x0 (ix2 q r) : EReal) * x1 (ix2 q d) := by
  pointwise [k0_pay3, k0_pay1]

theorem pay4_ix (x0 x1 s) (r : Fin 1024) (d : Fin 384) :
    k0_pay4 (F := Ideal) x0 x1 s (ix2 r d) = (s (ix2 r d) : EReal) + ∑ q : Fin 2048, (x0 (ix2 q r) : EReal) * x1 (ix2 q d) := by
  pointwise [k0_pay4, k0_pay1]

theorem scA (c : Dev nD) (t : Fin cfg0.N) (h0 : t.val % 8 = 0) : (outsAt0 m c t.val t.isLt).2
    = k0_pay2 (iblk m c 0 t) (iblk m c 1 t) := by
  rw [outsAt0_A m c t h0 (by omega) (by omega)]; dsimp only; unfold sout0_A_0
  refine (View.read_writes_eq_canon _ _ _ fun y => scover0_A_0 ..).trans ?_
  unfold kernelRun0_A; dsimp only; sl_unfold_words
  rw [View.canon_unit_zero (S := S1024x384) hz]
  simp only [View.readAt_eq_ld, (hs0_0 t).read_unread, (hs0_1 t).read_unread, View.ld_unit_zero (S := S1024x384) hz, View.ld_unit_zero (S := S2048x1024) hz, View.ld_unit_zero (S := S2048x384) hz]

theorem scB (c : Dev nD) (t : Fin cfg0.N) (h0 : 1 ≤ t.val % 8 ∧ t.val % 8 ≤ 6) : (outsAt0 m c t.val t.isLt).2
    = k0_pay3 (iblk m c 0 t) (iblk m c 1 t) (outsAt0 m c (t.val - 1) (Nat.lt_of_le_of_lt (Nat.sub_le _ _) t.isLt)).2 := by
  rw [outsAt0_B m c t (by omega) h0 (by omega)]; dsimp only; unfold sout0_B_0
  refine (View.read_writes_eq_canon _ _ _ fun y => scover0_B_0 ..).trans ?_
  unfold kernelRun0_B; dsimp only; sl_unfold_words
  rw [View.canon_unit_zero (S := S1024x384) hz]
  simp only [View.readAt_eq_ld, (hs0_0 t).read_unread, (hs0_1 t).read_unread, (Memref.isWhole_whole _).read_unread, View.ld_unit_zero (S := S1024x384) hz, View.ld_unit_zero (S := S2048x1024) hz, View.ld_unit_zero (S := S2048x384) hz]

theorem outC (c : Dev nD) (t : Fin cfg0.N) (h0 : t.val % 8 = 7) : (outsAt0 m c t.val t.isLt).1
    = k0_pay4 (iblk m c 0 t) (iblk m c 1 t) (outsAt0 m c (t.val - 1) (Nat.lt_of_le_of_lt (Nat.sub_le _ _) t.isLt)).2 := by
  rw [outsAt0_C m c t (by omega) (by omega) h0]; dsimp only; unfold out0_C_2
  refine (View.read_writes_eq_canon _ _ _ fun y => cover0_C_2 ..).trans ?_
  unfold kernelRun0_C; dsimp only; sl_unfold_words
  rw [View.canon_unit_zero (S := S1024x384) hz]
  simp only [View.readAt_eq_ld, (hs0_0 t).read_unread, (hs0_1 t).read_unread, (Memref.isWhole_whole _).read_unread, View.ld_unit_zero (S := S1024x384) hz, View.ld_unit_zero (S := S2048x1024) hz, View.ld_unit_zero (S := S2048x384) hz]

abbrev a0 (c : Dev nD) : Mat 16384 1024 := V m c main_arg0
abbrev a1 (c : Dev nD) : Mat 16384 384 := V m c main_arg1

abbrev b0 (c : Dev nD) (t : Fin cfg0.N) : Mat 2048 1024 := iblk m c 0 t
abbrev b1 (c : Dev nD) (t : Fin cfg0.N) : Mat 2048 384 := iblk m c 1 t

/-- A term of the product at row `R`, column `C`. -/
abbrev trm (c : Dev nD) (R : Fin 1024) (C : Fin 384) (q : Fin 16384) : EReal :=
  a0 m c (ix2 q R) * a1 m c (ix2 q C)

theorem blk_sum (c : Dev nD) (t : Fin cfg0.N) (r : Fin 1024) (d : Fin 384) (R : Fin 1024) (C : Fin 384)
    (hR : R.val = 1024 * (0) + r.val) (hC : C.val = 384 * (0) + d.val) :
    ∑ q : Fin 2048, b0 m c t (ix2 q r) * b1 m c t (ix2 q d)
      = ∑ q : Fin 2048, term 16384 (trm m c R C) (2048 * (t.val % 8) + q.val) := by
  refine Finset.sum_congr rfl fun q _ => ?_
  have hq : 2048 * (t.val % 8) + q.val < 16384 := by omega
  rw [term_of_lt _ _ hq]
  exact congrArg₂ (· * ·) (ib0 m c t q r ⟨2048 * (t.val % 8) + q.val, hq⟩ R rfl hR) (ib1 m c t q d ⟨2048 * (t.val % 8) + q.val, hq⟩ C rfl hC)

/-- The scratch after a point of a run, the last excepted. -/
theorem sc_sum (c : Dev nD) (r : Fin 1024) (d : Fin 384) (R : Fin 1024) (C : Fin 384) :
    ∀ (k : ℕ) (t : Fin cfg0.N) (_ : t.val % 8 = k) (_ : k ≤ 6) (_ : R.val = 1024 * (0) + r.val) (_ : C.val = 384 * (0) + d.val),
      ((outsAt0 m c t.val t.isLt).2 (ix2 r d) : EReal) = ∑ q ∈ Finset.range (2048 * k + 2048), term 16384 (trm m c R C) q
  | 0, t, hk, _, hR, hC => by
    rw [scA m c t hk]
    refine (pay2_ix _ _ r d).trans ((blk_sum m c t r d R C hR hC).trans ?_)
    rw [sum_first, hk]
  | k + 1, t, hk, hk2, hR, hC => by
    rw [scB m c t (by omega)]
    refine (pay3_ix _ _ _ r d).trans ?_
    have ih := sc_sum c r d R C k ⟨t.val - 1, by omega⟩ (by show (t.val - 1) % 8 = k; omega) (by omega)
      (by (try dsimp only); omega) (by (try dsimp only); omega)
    rw [sum_step, ← hk]
    exact congrArg₂ (· + ·) ih (blk_sum m c t r d R C hR hC)

theorem fin (c : Dev nD) (R : Fin 1024) (C : Fin 384) : (G2 m c (ix2 R C) : EReal)
    = ∑ q : Fin 16384, a0 m c (ix2 q R) * a1 m c (ix2 q C) := by
  have hb : 8 * (1 * (R.val / 1024) + C.val / 384) + 7 < cfg0.N := by rw [hN]; omega
  have hp : pt2Of (ix2 R C) = 8 * (1 * (R.val / 1024) + C.val / 384) + 7 := by
    show 8 * (1 * (R.val / 1024 - 0) + 1 * (C.val / 384 - 0)) + 7 = _; omega
  have hl : loc2Of (ix2 R C) = ix2 (⟨R.val % 1024, by omega⟩ : Fin 1024) (⟨C.val % 384, by omega⟩ : Fin 384) := by
    funext a
    match a with
    | ⟨0, _⟩ => rfl
    | ⟨1, _⟩ => rfl
  unfold G2
  rw [dif_pos (by rw [hp]; exact hb), fold0_congr m c _ _ _ (by omega) hp, ← outsAt0_sweep m c _ hb, hl]
  obtain ⟨t, ht⟩ : ∃ t : Fin cfg0.N, t.val = 8 * (1 * (R.val / 1024) + C.val / 384) + 7 := ⟨⟨_, hb⟩, rfl⟩
  have hR : R.val = 1024 * (0) + R.val % 1024 := by omega
  have hC : C.val = 384 * (0) + C.val % 384 := by omega
  refine (congrArg (fun n : {n // n < cfg0.N} => (outsAt0 m c n.1 n.2).1 _) (Subtype.ext ht.symm : (⟨_, hb⟩ : {n // n < cfg0.N}) = ⟨t.val, t.isLt⟩)).trans ?_
  show ((outsAt0 m c t.val t.isLt).1 _ : EReal) = _
  rw [outC m c t (by omega)]
  refine (pay4_ix _ _ _ _ _).trans ?_
  refine (congrArg₂ (· + ·) (sc_sum m c _ _ R C 6 ⟨t.val - 1, by omega⟩ (by show (t.val - 1) % 8 = 6; omega) (by omega)
    (by (try dsimp only); omega) (by (try dsimp only); omega)) (blk_sum m c t _ _ R C hR hC)).trans ?_
  rw [show t.val % 8 = 6 + 1 by omega, ← sum_step]
  exact sum_term _ (by omega)

theorem ref_ix (x0 x1) (R : Fin 1024) (C : Fin 384) : (Cert.Reference5Ideal.Read.val_main_v6 (F := Ideal) x0 x1 (ix2 R C) : EReal)
    = ∑ q : Fin 16384, (x0 (ix2 q R) : EReal) * x1 (ix2 q C) := by
  pointwise [Cert.Reference5Ideal.Read.val_main_v6, Cert.Reference5Ideal.Read.val_main_v5, Cert.Reference5Ideal.Read.val_main_v4]
  exact Finset.sum_congr rfl fun q _ => mul_comm _ _

theorem frame_reference : Cert.quiescent_Reference5Ideal := fun m g _ =>
  (θ_run Cert.Reference5Ideal.defs _ _).mono
    (fun r h => ⟨fun c => (h c).2, sem_eq_zero_of_no_sems (by rfl) _⟩) (Cert.Reference5Ideal.Value.run (F := Ideal) m g)

theorem alg : Cert.algebraic_Kernel5Ideal_Reference5Ideal := by
  intro m g m' g' _ hagree
  refine ⟨fun c => G2 m c, ?_, ?_⟩
  · exact (θ_run Cert.Kernel5Ideal.defs _ _).mono (fun r h c => h c) (run m g)
  · refine (θ_run Cert.Reference5Ideal.defs _ _).mono (fun r h c => ?_) (Cert.Reference5Ideal.Value.run (F := Ideal) m' g')
    obtain ⟨e0, e1⟩ := hagree c
    obtain ⟨hv, hk⟩ := h c
    rw [Cert.Reference5Ideal.Read.val_main_v6_eq, e0, e1] at hv
    clear h
    refine ⟨?_, hk⟩
    funext i
    rw [eq_ix2 i]
    refine (congrFun hv _).trans ?_
    exact (ref_ix _ _ (i 0) (i 1)).trans (fin m c (i 0) (i 1)).symm

end Cert.Prod.K5

end
-- ==== Proof.Prod.K4.lean ====
/-
  The gradient of the projection's main columns' weight.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K4

open Cert.Kernel4Ideal Cert.Kernel4Ideal.Gen Cert.Kernel4Ideal.Value

variable (m : (ℓ : Loc nD τ sig) → Buf (Elt Ideal) ℓ)

theorem hN : cfg0.N = 32 := N_0

theorem idx0 : ∀ t : Fin cfg0.N, win0_0.index t 0 = t.val % 8 ∧ win0_0.index t 1 = 0 := by decide +kernel
theorem idx1 : ∀ t : Fin cfg0.N, win0_1.index t 0 = t.val % 8 ∧ win0_1.index t 1 = t.val / 8 := by decide +kernel

theorem ib0 (c : Dev nD) (t : Fin cfg0.N) (r : Fin 2048) (d : Fin 1024) (R : Fin 16384) (C : Fin 1024)
    (hR : R.val = 2048 * (t.val % 8) + r.val) (hC : C.val = 1024 * (0) + d.val) :
    iblk m c 0 t (ix2 r d) = V m c main_arg0 (ix2 R C) := by
  unfold iblk
  rw [View.read_apply]
  show V m c main_arg0 _ = _
  congr 1
  funext a
  apply Fin.ext
  match a with
  | ⟨0, _⟩ => show win0_0.index t 0 * 2048 + 1 * r.val = R.val; rw [(idx0 t).1]; omega
  | ⟨1, _⟩ => show win0_0.index t 1 * 1024 + 1 * d.val = C.val; rw [(idx0 t).2]; omega

theorem ib1 (c : Dev nD) (t : Fin cfg0.N) (r : Fin 2048) (d : Fin 2048) (R : Fin 16384) (C : Fin 8192)
    (hR : R.val = 2048 * (t.val % 8) + r.val) (hC : C.val = 2048 * (t.val / 8) + d.val) :
    iblk m c 1 t (ix2 r d) = V m c main_arg1 (ix2 R C) := by
  unfold iblk
  rw [View.read_apply]
  show V m c main_arg1 _ = _
  congr 1
  funext a
  apply Fin.ext
  match a with
  | ⟨0, _⟩ => show win0_1.index t 0 * 2048 + 1 * r.val = R.val; rw [(idx1 t).1]; omega
  | ⟨1, _⟩ => show win0_1.index t 1 * 2048 + 1 * d.val = C.val; rw [(idx1 t).2]; omega

theorem pay1_ix (x0 x1) (r : Fin 1024) (d : Fin 2048) :
    k0_pay1 (F := Ideal) x0 x1 (ix2 r d) = ∑ q : Fin 2048, (x0 (ix2 q r) : EReal) * x1 (ix2 q d) := by
  pointwise [k0_pay1]

theorem pay2_ix (x0 x1) (r : Fin 1024) (d : Fin 2048) :
    k0_pay2 (F := Ideal) x0 x1 (ix2 r d) = ∑ q : Fin 2048, (x0 (ix2 q r) : EReal) * x1 (ix2 q d) := by
  pointwise [k0_pay2, k0_pay1]

theorem pay3_ix (x0 x1 s) (r : Fin 1024) (d : Fin 2048) :
    k0_pay3 (F := Ideal) x0 x1 s (ix2 r d) = (s (ix2 r d) : EReal) + ∑ q : Fin 2048, (x0 (ix2 q r) : EReal) * x1 (ix2 q d) := by
  pointwise [k0_pay3, k0_pay1]

theorem pay4_ix (x0 x1 s) (r : Fin 1024) (d : Fin 2048) :
    k0_pay4 (F := Ideal) x0 x1 s (ix2 r d) = (s (ix2 r d) : EReal) + ∑ q : Fin 2048, (x0 (ix2 q r) : EReal) * x1 (ix2 q d) := by
  pointwise [k0_pay4, k0_pay1]

theorem scA (c : Dev nD) (t : Fin cfg0.N) (h0 : t.val % 8 = 0) : (outsAt0 m c t.val t.isLt).2
    = k0_pay2 (iblk m c 0 t) (iblk m c 1 t) := by
  rw [outsAt0_A m c t h0 (by omega) (by omega)]; dsimp only; unfold sout0_A_0
  refine (View.read_writes_eq_canon _ _ _ fun y => scover0_A_0 ..).trans ?_
  unfold kernelRun0_A; dsimp only; sl_unfold_words
  rw [View.canon_unit_zero (S := S1024x2048) hz]
  simp only [View.readAt_eq_ld, (hs0_0 t).read_unread, (hs0_1 t).read_unread, View.ld_unit_zero (S := S1024x2048) hz, View.ld_unit_zero (S := S2048x1024) hz, View.ld_unit_zero (S := S2048x2048) hz]

theorem scB (c : Dev nD) (t : Fin cfg0.N) (h0 : 1 ≤ t.val % 8 ∧ t.val % 8 ≤ 6) : (outsAt0 m c t.val t.isLt).2
    = k0_pay3 (iblk m c 0 t) (iblk m c 1 t) (outsAt0 m c (t.val - 1) (Nat.lt_of_le_of_lt (Nat.sub_le _ _) t.isLt)).2 := by
  rw [outsAt0_B m c t (by omega) h0 (by omega)]; dsimp only; unfold sout0_B_0
  refine (View.read_writes_eq_canon _ _ _ fun y => scover0_B_0 ..).trans ?_
  unfold kernelRun0_B; dsimp only; sl_unfold_words
  rw [View.canon_unit_zero (S := S1024x2048) hz]
  simp only [View.readAt_eq_ld, (hs0_0 t).read_unread, (hs0_1 t).read_unread, (Memref.isWhole_whole _).read_unread, View.ld_unit_zero (S := S1024x2048) hz, View.ld_unit_zero (S := S2048x1024) hz, View.ld_unit_zero (S := S2048x2048) hz]

theorem outC (c : Dev nD) (t : Fin cfg0.N) (h0 : t.val % 8 = 7) : (outsAt0 m c t.val t.isLt).1
    = k0_pay4 (iblk m c 0 t) (iblk m c 1 t) (outsAt0 m c (t.val - 1) (Nat.lt_of_le_of_lt (Nat.sub_le _ _) t.isLt)).2 := by
  rw [outsAt0_C m c t (by omega) (by omega) h0]; dsimp only; unfold out0_C_2
  refine (View.read_writes_eq_canon _ _ _ fun y => cover0_C_2 ..).trans ?_
  unfold kernelRun0_C; dsimp only; sl_unfold_words
  rw [View.canon_unit_zero (S := S1024x2048) hz]
  simp only [View.readAt_eq_ld, (hs0_0 t).read_unread, (hs0_1 t).read_unread, (Memref.isWhole_whole _).read_unread, View.ld_unit_zero (S := S1024x2048) hz, View.ld_unit_zero (S := S2048x1024) hz, View.ld_unit_zero (S := S2048x2048) hz]

abbrev a0 (c : Dev nD) : Mat 16384 1024 := V m c main_arg0
abbrev a1 (c : Dev nD) : Mat 16384 8192 := V m c main_arg1

abbrev b0 (c : Dev nD) (t : Fin cfg0.N) : Mat 2048 1024 := iblk m c 0 t
abbrev b1 (c : Dev nD) (t : Fin cfg0.N) : Mat 2048 2048 := iblk m c 1 t

/-- A term of the product at row `R`, column `C`. -/
abbrev trm (c : Dev nD) (R : Fin 1024) (C : Fin 8192) (q : Fin 16384) : EReal :=
  a0 m c (ix2 q R) * a1 m c (ix2 q C)

theorem blk_sum (c : Dev nD) (t : Fin cfg0.N) (r : Fin 1024) (d : Fin 2048) (R : Fin 1024) (C : Fin 8192)
    (hR : R.val = 1024 * (0) + r.val) (hC : C.val = 2048 * (t.val / 8) + d.val) :
    ∑ q : Fin 2048, b0 m c t (ix2 q r) * b1 m c t (ix2 q d)
      = ∑ q : Fin 2048, term 16384 (trm m c R C) (2048 * (t.val % 8) + q.val) := by
  refine Finset.sum_congr rfl fun q _ => ?_
  have hq : 2048 * (t.val % 8) + q.val < 16384 := by omega
  rw [term_of_lt _ _ hq]
  exact congrArg₂ (· * ·) (ib0 m c t q r ⟨2048 * (t.val % 8) + q.val, hq⟩ R rfl hR) (ib1 m c t q d ⟨2048 * (t.val % 8) + q.val, hq⟩ C rfl hC)

/-- The scratch after a point of a run, the last excepted. -/
theorem sc_sum (c : Dev nD) (r : Fin 1024) (d : Fin 2048) (R : Fin 1024) (C : Fin 8192) :
    ∀ (k : ℕ) (t : Fin cfg0.N) (_ : t.val % 8 = k) (_ : k ≤ 6) (_ : R.val = 1024 * (0) + r.val) (_ : C.val = 2048 * (t.val / 8) + d.val),
      ((outsAt0 m c t.val t.isLt).2 (ix2 r d) : EReal) = ∑ q ∈ Finset.range (2048 * k + 2048), term 16384 (trm m c R C) q
  | 0, t, hk, _, hR, hC => by
    rw [scA m c t hk]
    refine (pay2_ix _ _ r d).trans ((blk_sum m c t r d R C hR hC).trans ?_)
    rw [sum_first, hk]
  | k + 1, t, hk, hk2, hR, hC => by
    rw [scB m c t (by omega)]
    refine (pay3_ix _ _ _ r d).trans ?_
    have ih := sc_sum c r d R C k ⟨t.val - 1, by omega⟩ (by show (t.val - 1) % 8 = k; omega) (by omega)
      (by (try dsimp only); omega) (by (try dsimp only); omega)
    rw [sum_step, ← hk]
    exact congrArg₂ (· + ·) ih (blk_sum m c t r d R C hR hC)

theorem fin (c : Dev nD) (R : Fin 1024) (C : Fin 8192) : (G2 m c (ix2 R C) : EReal)
    = ∑ q : Fin 16384, a0 m c (ix2 q R) * a1 m c (ix2 q C) := by
  have hb : 8 * (4 * (R.val / 1024) + C.val / 2048) + 7 < cfg0.N := by rw [hN]; omega
  have hp : pt2Of (ix2 R C) = 8 * (4 * (R.val / 1024) + C.val / 2048) + 7 := by
    show 8 * (4 * (R.val / 1024 - 0) + 1 * (C.val / 2048 - 0)) + 7 = _; omega
  have hl : loc2Of (ix2 R C) = ix2 (⟨R.val % 1024, by omega⟩ : Fin 1024) (⟨C.val % 2048, by omega⟩ : Fin 2048) := by
    funext a
    match a with
    | ⟨0, _⟩ => rfl
    | ⟨1, _⟩ => rfl
  unfold G2
  rw [dif_pos (by rw [hp]; exact hb), fold0_congr m c _ _ _ (by omega) hp, ← outsAt0_sweep m c _ hb, hl]
  obtain ⟨t, ht⟩ : ∃ t : Fin cfg0.N, t.val = 8 * (4 * (R.val / 1024) + C.val / 2048) + 7 := ⟨⟨_, hb⟩, rfl⟩
  have hR : R.val = 1024 * (0) + R.val % 1024 := by omega
  have hC : C.val = 2048 * (t.val / 8) + C.val % 2048 := by omega
  refine (congrArg (fun n : {n // n < cfg0.N} => (outsAt0 m c n.1 n.2).1 _) (Subtype.ext ht.symm : (⟨_, hb⟩ : {n // n < cfg0.N}) = ⟨t.val, t.isLt⟩)).trans ?_
  show ((outsAt0 m c t.val t.isLt).1 _ : EReal) = _
  rw [outC m c t (by omega)]
  refine (pay4_ix _ _ _ _ _).trans ?_
  refine (congrArg₂ (· + ·) (sc_sum m c _ _ R C 6 ⟨t.val - 1, by omega⟩ (by show (t.val - 1) % 8 = 6; omega) (by omega)
    (by (try dsimp only); omega) (by (try dsimp only); omega)) (blk_sum m c t _ _ R C hR hC)).trans ?_
  rw [show t.val % 8 = 6 + 1 by omega, ← sum_step]
  exact sum_term _ (by omega)

theorem ref_ix (x0 x1) (R : Fin 1024) (C : Fin 8192) : (Cert.Reference4Ideal.Read.val_main_v6 (F := Ideal) x0 x1 (ix2 R C) : EReal)
    = ∑ q : Fin 16384, (x0 (ix2 q R) : EReal) * x1 (ix2 q C) := by
  pointwise [Cert.Reference4Ideal.Read.val_main_v6, Cert.Reference4Ideal.Read.val_main_v5, Cert.Reference4Ideal.Read.val_main_v4]
  exact Finset.sum_congr rfl fun q _ => mul_comm _ _

theorem frame_reference : Cert.quiescent_Reference4Ideal := fun m g _ =>
  (θ_run Cert.Reference4Ideal.defs _ _).mono
    (fun r h => ⟨fun c => (h c).2, sem_eq_zero_of_no_sems (by rfl) _⟩) (Cert.Reference4Ideal.Value.run (F := Ideal) m g)

theorem alg : Cert.algebraic_Kernel4Ideal_Reference4Ideal := by
  intro m g m' g' _ hagree
  refine ⟨fun c => G2 m c, ?_, ?_⟩
  · exact (θ_run Cert.Kernel4Ideal.defs _ _).mono (fun r h c => h c) (run m g)
  · refine (θ_run Cert.Reference4Ideal.defs _ _).mono (fun r h c => ?_) (Cert.Reference4Ideal.Value.run (F := Ideal) m' g')
    obtain ⟨e0, e1⟩ := hagree c
    obtain ⟨hv, hk⟩ := h c
    rw [Cert.Reference4Ideal.Read.val_main_v6_eq, e0, e1] at hv
    clear h
    refine ⟨?_, hk⟩
    funext i
    rw [eq_ix2 i]
    refine (congrFun hv _).trans ?_
    exact (ref_ix _ _ (i 0) (i 1)).trans (fin m c (i 0) (i 1)).symm

end Cert.Prod.K4

end
-- ==== Proof.Prod.K3.lean ====
/-
  The gradient of the step's input.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K3

open Cert.Kernel3Ideal Cert.Kernel3Ideal.Gen Cert.Kernel3Ideal.Value

variable (m : (ℓ : Loc nD τ sig) → Buf (Elt Ideal) ℓ)

theorem hN : cfg0.N = 8 := N_0

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx3 : ∀ t : Fin cfg0.N, win0_3.index t 0 = t.val ∧ win0_3.index t 1 = 0 := by decide +kernel
theorem idx2 : ∀ t : Fin cfg0.N, win0_2.index t 0 = t.val ∧ win0_2.index t 1 = 0 := by decide +kernel

theorem ib0 (c : Dev nD) (t : Fin cfg0.N) (r : Fin 2048) (d : Fin 384) (R : Fin 16384) (C : Fin 384)
    (hR : R.val = 2048 * (t.val) + r.val) (hC : C.val = 384 * (0) + d.val) :
    iblk m c 0 t (ix2 r d) = V m c main_arg1 (ix2 R C) := by
  unfold iblk
  rw [View.read_apply]
  show V m c main_arg1 _ = _
  congr 1
  funext a
  apply Fin.ext
  match a with
  | ⟨0, _⟩ => show win0_0.index t 0 * 2048 + 1 * r.val = R.val; rw [(idx0 t).1]; omega
  | ⟨1, _⟩ => show win0_0.index t 1 * 384 + 1 * d.val = C.val; rw [(idx0 t).2]; omega

theorem ib1 (c : Dev nD) (t : Fin cfg0.N) (r : Fin 1024) (d : Fin 384) (R : Fin 1024) (C : Fin 384)
    (hR : R.val = 1024 * (0) + r.val) (hC : C.val = 384 * (0) + d.val) :
    iblk m c 1 t (ix2 r d) = V m c main_arg4 (ix2 R C) := by
  unfold iblk
  rw [View.read_apply]
  show V m c main_arg4 _ = _
  congr 1
  funext a
  apply Fin.ext
  match a with
  | ⟨0, _⟩ => show win0_1.index t 0 * 1024 + 1 * r.val = R.val; rw [(idx1 t).1]; omega
  | ⟨1, _⟩ => show win0_1.index t 1 * 384 + 1 * d.val = C.val; rw [(idx1 t).2]; omega

theorem ib2 (c : Dev nD) (t : Fin cfg0.N) (r : Fin 2048) (d : Fin 1024) (R : Fin 16384) (C : Fin 1024)
    (hR : R.val = 2048 * (t.val) + r.val) (hC : C.val = 1024 * (0) + d.val) :
    iblk m c 2 t (ix2 r d) = V m c main_v3 (ix2 R C) := by
  unfold iblk
  rw [View.read_apply]
  show V m c main_v3 _ = _
  congr 1
  funext a
  apply Fin.ext
  match a with
  | ⟨0, _⟩ => show win0_2.index t 0 * 2048 + 1 * r.val = R.val; rw [(idx2 t).1]; omega
  | ⟨1, _⟩ => show win0_2.index t 1 * 1024 + 1 * d.val = C.val; rw [(idx2 t).2]; omega

theorem pay1_ix (x0 x1 x2) (r : Fin 2048) (d : Fin 1024) :
    k0_pay1 (F := Ideal) x0 x1 x2 (ix2 r d) = ∑ q : Fin 384, (x0 (ix2 r q) : EReal) * x1 (ix2 d q) + Ideal.ofBits .f32 0x3F800000#32 * x2 (ix2 r d) := by
  pointwise [k0_pay1]

theorem out_ix (x0 x1 x2) (r : Fin 2048) (d : Fin 1024) :
    out0_3 (F := Ideal) x0 x1 x2 (ix2 r d) = ∑ q : Fin 384, (x0 (ix2 r q) : EReal) * x1 (ix2 d q) + Ideal.ofBits .f32 0x3F800000#32 * x2 (ix2 r d) := by
  unfold out0_3
  rw [View.canon_unit_zero (S := S2048x1024) hz]
  simp only [View.ld_unit_zero (S := S1024x384) hz, View.ld_unit_zero (S := S2048x1024) hz, View.ld_unit_zero (S := S2048x384) hz]
  exact pay1_ix x0 x1 x2 r d

theorem arr (c : Dev nD) (t : Fin cfg0.N) (r : Fin 2048) (d : Fin 1024) (R : Fin 16384) (C : Fin 1024)
    (hR : R.val = 2048 * (t.val) + r.val) (hC : C.val = 1024 * (0) + d.val) :
    (dats m 0 c).arrAt 3 cfg0.N (ix2 R C) = out0_3 (iblk m c 0 t) (iblk m c 1 t) (iblk m c 2 t) (ix2 r d) := by
  have h := congrFun (blocks3 m c t (flush0_3 t)) (ix2 r d)
  rw [View.read_apply, flushed3] at h
  refine (congrArg _ ?_).trans h
  funext a
  apply Fin.ext
  match a with
  | ⟨0, _⟩ => show R.val = win0_3.index t 0 * 2048 + 1 * r.val; rw [(idx3 t).1]; omega
  | ⟨1, _⟩ => show C.val = win0_3.index t 1 * 1024 + 1 * d.val; rw [(idx3 t).2]; omega

abbrev a0 (c : Dev nD) : Mat 16384 384 := V m c main_arg1
abbrev a1 (c : Dev nD) : Mat 1024 384 := V m c main_arg4
abbrev a2 (c : Dev nD) : Mat 16384 1024 := V m c main_v3

theorem fin0 (c : Dev nD) (R : Fin 16384) (C : Fin 1024) : ((dats m 0 c).arrAt 3 cfg0.N (ix2 R C) : EReal)
    = ∑ q : Fin 384, a0 m c (ix2 R q) * a1 m c (ix2 C q) + a2 m c (ix2 R C) := by
  obtain ⟨t, ht⟩ : ∃ t : Fin cfg0.N, t.val = 1 * (R.val / 2048) + C.val / 1024 := ⟨⟨_, by rw [hN]; omega⟩, rfl⟩
  obtain ⟨r, hr⟩ : ∃ r : Fin 2048, r.val = R.val % 2048 := ⟨⟨_, by omega⟩, rfl⟩
  obtain ⟨d, hd⟩ : ∃ d : Fin 1024, d.val = C.val % 1024 := ⟨⟨_, by omega⟩, rfl⟩
  have hR : R.val = 2048 * (t.val) + r.val := by omega
  have hC : C.val = 1024 * (0) + d.val := by omega
  refine (arr m c t r d R C hR hC).trans ((out_ix _ _ _ r d).trans ?_)
  rw [Ideal.ofBits_one_f32, one_mul]
  exact congrArg₂ (· + ·) (Finset.sum_congr rfl fun q _ => congrArg₂ (· * ·) (ib0 m c t r q R q hR (by omega)) (ib1 m c t d q C q hC (by omega))) (ib2 m c t r d R C hR hC)

abbrev a3 (c : Dev nD) : Mat 16384 8192 := V m c main_arg0
abbrev a4 (c : Dev nD) : Mat 1024 8192 := V m c main_arg3
abbrev a5 (c : Dev nD) : Mat 16384 1024 := V m c main_arg2

theorem v3_ix (c : Dev nD) (R : Fin 16384) (C : Fin 1024) : a2 m c (ix2 R C)
    = ∑ q : Fin 8192, a3 m c (ix2 R q) * a4 m c (ix2 C q) + Ideal.ofBits .f32 0x3F9837F0#32 * a5 m c (ix2 R C) := by
  unfold a3 a4 a5
  rw [V_main_arg0, V_main_arg2, V_main_arg3]
  have h : V m c main_v3 = addf (F := Ideal) (Host.dotGeneral (F := Ideal) (φ₁ := .bf16) (φ₂ := .bf16) dot_S16384x8192_S1024x8192_S16384x1024_1_1_0_0_n_n none
      (m ((c : Thread nD τ).loc main_arg0)) (m ((c : Thread nD τ).loc main_arg3)))
      (mulf (broadcastInDim S16384x1024 ![] bcast_S_S16384x1024 (constant (F := Ideal) S_ .f32 0x3F9837F0#32)) (m ((c : Thread nD τ).loc main_arg2))) := by
    unfold V hostOps0; after_results_simp <;> rfl
  show V m c main_v3 _ = _
  rw [h]
  pointwise

theorem fin (c : Dev nD) (R : Fin 16384) (C : Fin 1024) : ((dats m 0 c).arrAt 3 cfg0.N (ix2 R C) : EReal)
    = ∑ q : Fin 384, a0 m c (ix2 R q) * a1 m c (ix2 C q)
      + (∑ q : Fin 8192, a3 m c (ix2 R q) * a4 m c (ix2 C q) + Ideal.ofBits .f32 0x3F9837F0#32 * a5 m c (ix2 R C)) :=
  (fin0 m c R C).trans (congrArg₂ (· + ·) rfl (v3_ix m c R C))

theorem ref_ix (x0 x1 x2 x3 x4) (R : Fin 16384) (C : Fin 1024) : (Cert.Reference3Ideal.Read.val_main_v14 (F := Ideal) x0 x1 x2 x3 x4 (ix2 R C) : EReal)
    = ∑ q : Fin 384, (x1 (ix2 R q) : EReal) * x4 (ix2 C q)
      + (∑ q : Fin 8192, (x0 (ix2 R q) : EReal) * x3 (ix2 C q) + Ideal.ofBits .f32 0x3F9837F0#32 * x2 (ix2 R C)) := by
  pointwise [Cert.Reference3Ideal.Read.val_main_v14, Cert.Reference3Ideal.Read.val_main_v13, Cert.Reference3Ideal.Read.val_main_v12, Cert.Reference3Ideal.Read.val_main_v11, Cert.Reference3Ideal.Read.val_main_v10, Cert.Reference3Ideal.Read.val_main_v9, Cert.Reference3Ideal.Read.val_main_cst_1, Cert.Reference3Ideal.Read.val_main_v8, Cert.Reference3Ideal.Read.val_main_v7, Cert.Reference3Ideal.Read.val_main_v3, Cert.Reference3Ideal.Read.val_main_v1]
  rw [add_comm (Ideal.ofBits .f32 0x3F9837F0#32 * _) _, add_assoc, add_comm (Ideal.ofBits .f32 0x3F9837F0#32 * _) _]

theorem frame_reference : Cert.quiescent_Reference3Ideal := fun m g _ =>
  (θ_run Cert.Reference3Ideal.defs _ _).mono
    (fun r h => ⟨fun c => (h c).2, sem_eq_zero_of_no_sems (by rfl) _⟩) (Cert.Reference3Ideal.Value.run (F := Ideal) m g)

theorem alg : Cert.algebraic_Kernel3Ideal_Reference3Ideal := by
  intro m g m' g' _ hagree
  refine ⟨fun c => (dats m 0 c).arrAt 3 Cert.Kernel3Ideal.cfg0.N, ?_, ?_⟩
  · exact (θ_run Cert.Kernel3Ideal.defs _ _).mono (fun r h c => h c) (run_blocks m g)
  · refine (θ_run Cert.Reference3Ideal.defs _ _).mono (fun r h c => ?_) (Cert.Reference3Ideal.Value.run (F := Ideal) m' g')
    obtain ⟨e0, e1, e2, e3, e4⟩ := hagree c
    obtain ⟨hv, hk⟩ := h c
    rw [Cert.Reference3Ideal.Read.val_main_v14_eq, e0, e1, e2, e3, e4] at hv
    clear h
    refine ⟨?_, hk⟩
    funext i
    rw [eq_ix2 i]
    refine (congrFun hv _).trans ?_
    refine (ref_ix _ _ _ _ _ (i 0) (i 1)).trans ?_
    refine Eq.trans ?_ (fin m c (i 0) (i 1)).symm
    unfold a0 a1 a3 a4 a5
    rw [V_main_arg0, V_main_arg1, V_main_arg2, V_main_arg3, V_main_arg4]

end Cert.Prod.K3

end
-- ==== Proof.Prod.K2.lean ====
/-
  The gradient of the layer norm's output through the projection's main columns, with the residual's part.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Prod.Sum
public import Idealize.ShloMosaic.Lib.IdealHost
public import Idealize.ShloMosaic.Lib.Pipeline.ReadBack
public import Idealize.ShloMosaic.Lib.Pipeline.Value
public import Idealize.ShloMosaic.Lib.Pointwise
public import Idealize.ShloMosaic.Lib.Quiescent
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)

namespace Cert.Prod.K2

open Cert.Kernel2Ideal Cert.Kernel2Ideal.Gen Cert.Kernel2Ideal.Value

variable (m : (ℓ : Loc nD τ sig) → Buf (Elt Ideal) ℓ)

theorem hN : cfg0.N = 64 := N_0

theorem idx0 : ∀ t : Fin cfg0.N, win0_0.index t 0 = t.val / 4 ∧ win0_0.index t 1 = t.val % 4 := by decide +kernel
theorem idx1 : ∀ t : Fin cfg0.N, win0_1.index t 0 = 0 ∧ win0_1.index t 1 = t.val % 4 := by decide +kernel
theorem idx2 : ∀ t : Fin cfg0.N, win0_2.index t 0 = t.val / 4 ∧ win0_2.index t 1 = 0 := by decide +kernel

theorem ib0 (c : Dev nD) (t : Fin cfg0.N) (r : Fin 1024) (d : Fin 2048) (R : Fin 16384) (C : Fin 8192)
    (hR : R.val = 1024 * (t.val / 4) + r.val) (hC : C.val = 2048 * (t.val % 4) + d.val) :
    iblk m c 0 t (ix2 r d) = V m c main_arg0 (ix2 R C) := by
  unfold iblk
  rw [View.read_apply]
  show V m c main_arg0 _ = _
  congr 1
  funext a
  apply Fin.ext
  match a with
  | ⟨0, _⟩ => show win0_0.index t 0 * 1024 + 1 * r.val = R.val; rw [(idx0 t).1]; omega
  | ⟨1, _⟩ => show win0_0.index t 1 * 2048 + 1 * d.val = C.val; rw [(idx0 t).2]; omega

theorem ib1 (c : Dev nD) (t : Fin cfg0.N) (r : Fin 1024) (d : Fin 2048) (R : Fin 1024) (C : Fin 8192)
    (hR : R.val = 1024 * (0) + r.val) (hC : C.val = 2048 * (t.val % 4) + d.val) :
    iblk m c 1 t (ix2 r d) = V m c main_arg2 (ix2 R C) := by
  unfold iblk
  rw [View.read_apply]
  show V m c main_arg2 _ = _
  congr 1
  funext a
  apply Fin.ext
  match a with
  | ⟨0, _⟩ => show win0_1.index t 0 * 1024 + 1 * r.val = R.val; rw [(idx1 t).1]; omega
  | ⟨1, _⟩ => show win0_1.index t 1 * 2048 + 1 * d.val = C.val; rw [(idx1 t).2]; omega

theorem ib2 (c : Dev nD) (t : Fin cfg0.N) (r : Fin 1024) (d : Fin 1024) (R : Fin 16384) (C : Fin 1024)
    (hR : R.val = 1024 * (t.val / 4) + r.val) (hC : C.val = 1024 * (0) + d.val) :
    iblk m c 2 t (ix2 r d) = V m c main_arg1 (ix2 R C) := by
  unfold iblk
  rw [View.read_apply]
  show V m c main_arg1 _ = _
  congr 1
  funext a
  apply Fin.ext
  match a with
  | ⟨0, _⟩ => show win0_2.index t 0 * 1024 + 1 * r.val = R.val; rw [(idx2 t).1]; omega
  | ⟨1, _⟩ => show win0_2.index t 1 * 1024 + 1 * d.val = C.val; rw [(idx2 t).2]; omega

theorem pay1_ix (x0 x1) (r : Fin 1024) (d : Fin 1024) :
    k0_pay1 (F := Ideal) x0 x1 (ix2 r d) = ∑ q : Fin 2048, (x0 (ix2 r q) : EReal) * x1 (ix2 d q) := by
  pointwise [k0_pay1]

theorem pay2_ix (x0 x1) (r : Fin 1024) (d : Fin 1024) :
    k0_pay2 (F := Ideal) x0 x1 (ix2 r d) = ∑ q : Fin 2048, (x0 (ix2 r q) : EReal) * x1 (ix2 d q) := by
  pointwise [k0_pay2, k0_pay1]

theorem pay3_ix (x0 x1 s) (r : Fin 1024) (d : Fin 1024) :
    k0_pay3 (F := Ideal) x0 x1 s (ix2 r d) = (s (ix2 r d) : EReal) + ∑ q : Fin 2048, (x0 (ix2 r q) : EReal) * x1 (ix2 d q) := by
  pointwise [k0_pay3, k0_pay1]

theorem pay4_ix (x0 x1 s v) (r : Fin 1024) (d : Fin 1024) :
    k0_pay4 (F := Ideal) x0 x1 s v (ix2 r d) = (s (ix2 r d) : EReal) + ∑ q : Fin 2048, (x0 (ix2 r q) : EReal) * x1 (ix2 d q)
      + Ideal.ofBits .f32 0x3F9837F0#32 * v (ix2 r d) := by
  pointwise [k0_pay4, k0_pay1]

theorem scA (c : Dev nD) (t : Fin cfg0.N) (h0 : t.val % 4 = 0) : (outsAt0 m c t.val t.isLt).2
    = k0_pay2 (iblk m c 0 t) (iblk m c 1 t) := by
  rw [outsAt0_A m c t h0 (by omega) (by omega)]; dsimp only; unfold sout0_A_0
  refine (View.read_writes_eq_canon _ _ _ fun y => scover0_A_0 ..).trans ?_
  unfold kernelRun0_A; dsimp only; sl_unfold_words
  rw [View.canon_unit_zero (S := S1024x1024) hz]
  simp only [View.readAt_eq_ld, (hs0_0 t).read_unread, (hs0_1 t).read_unread, (hs0_2 t).read_unread, View.ld_unit_zero (S := S1024x1024) hz, View.ld_unit_zero (S := S1024x2048) hz]

theorem scB (c : Dev nD) (t : Fin cfg0.N) (h0 : 1 ≤ t.val % 4 ∧ t.val % 4 ≤ 2) : (outsAt0 m c t.val t.isLt).2
    = k0_pay3 (iblk m c 0 t) (iblk m c 1 t) (outsAt0 m c (t.val - 1) (Nat.lt_of_le_of_lt (Nat.sub_le _ _) t.isLt)).2 := by
  rw [outsAt0_B m c t (by omega) h0 (by omega)]; dsimp only; unfold sout0_B_0
  refine (View.read_writes_eq_canon _ _ _ fun y => scover0_B_0 ..).trans ?_
  unfold kernelRun0_B; dsimp only; sl_unfold_words
  rw [View.canon_unit_zero (S := S1024x1024) hz]
  simp only [View.readAt_eq_ld, (hs0_0 t).read_unread, (hs0_1 t).read_unread, (hs0_2 t).read_unread, (Memref.isWhole_whole _).read_unread, View.ld_unit_zero (S := S1024x1024) hz, View.ld_unit_zero (S := S1024x2048) hz]

theorem outC (c : Dev nD) (t : Fin cfg0.N) (h0 : t.val % 4 = 3) : (outsAt0 m c t.val t.isLt).1
    = k0_pay4 (iblk m c 0 t) (iblk m c 1 t) (outsAt0 m c (t.val - 1) (Nat.lt_of_le_of_lt (Nat.sub_le _ _) t.isLt)).2 (iblk m c 2 t) := by
  rw [outsAt0_C m c t (by omega) (by omega) h0]; dsimp only; unfold out0_C_3
  refine (View.read_writes_eq_canon _ _ _ fun y => cover0_C_3 ..).trans ?_
  unfold kernelRun0_C; dsimp only; sl_unfold_words
  rw [View.canon_unit_zero (S := S1024x1024) hz]
  simp only [View.readAt_eq_ld, (hs0_0 t).read_unread, (hs0_1 t).read_unread, (hs0_2 t).read_unread, (Memref.isWhole_whole _).read_unread, View.ld_unit_zero (S := S1024x1024) hz, View.ld_unit_zero (S := S1024x2048) hz]

abbrev a0 (c : Dev nD) : Mat 16384 8192 := V m c main_arg0
abbrev a1 (c : Dev nD) : Mat 1024 8192 := V m c main_arg2
abbrev a2 (c : Dev nD) : Mat 16384 1024 := V m c main_arg1
abbrev b0 (c : Dev nD) (t : Fin cfg0.N) : Mat 1024 2048 := iblk m c 0 t
abbrev b1 (c : Dev nD) (t : Fin cfg0.N) : Mat 1024 2048 := iblk m c 1 t

/-- A term of the product at row `R`, column `C`. -/
abbrev trm (c : Dev nD) (R : Fin 16384) (C : Fin 1024) (q : Fin 8192) : EReal :=
  a0 m c (ix2 R q) * a1 m c (ix2 C q)

theorem blk_sum (c : Dev nD) (t : Fin cfg0.N) (r : Fin 1024) (d : Fin 1024) (R : Fin 16384) (C : Fin 1024)
    (hR : R.val = 1024 * (t.val / 4) + r.val) (hC : C.val = 1024 * (0) + d.val) :
    ∑ q : Fin 2048, b0 m c t (ix2 r q) * b1 m c t (ix2 d q)
      = ∑ q : Fin 2048, term 8192 (trm m c R C) (2048 * (t.val % 4) + q.val) := by
  refine Finset.sum_congr rfl fun q _ => ?_
  have hq : 2048 * (t.val % 4) + q.val < 8192 := by omega
  rw [term_of_lt _ _ hq]
  exact congrArg₂ (· * ·) (ib0 m c t r q R ⟨2048 * (t.val % 4) + q.val, hq⟩ hR rfl) (ib1 m c t d q C ⟨2048 * (t.val % 4) + q.val, hq⟩ hC rfl)

/-- The scratch after a point of a run, the last excepted. -/
theorem sc_sum (c : Dev nD) (r : Fin 1024) (d : Fin 1024) (R : Fin 16384) (C : Fin 1024) :
    ∀ (k : ℕ) (t : Fin cfg0.N) (_ : t.val % 4 = k) (_ : k ≤ 2) (_ : R.val = 1024 * (t.val / 4) + r.val) (_ : C.val = 1024 * (0) + d.val),
      ((outsAt0 m c t.val t.isLt).2 (ix2 r d) : EReal) = ∑ q ∈ Finset.range (2048 * k + 2048), term 8192 (trm m c R C) q
  | 0, t, hk, _, hR, hC => by
    rw [scA m c t hk]
    refine (pay2_ix _ _ r d).trans ((blk_sum m c t r d R C hR hC).trans ?_)
    rw [sum_first, hk]
  | k + 1, t, hk, hk2, hR, hC => by
    rw [scB m c t (by omega)]
    refine (pay3_ix _ _ _ r d).trans ?_
    have ih := sc_sum c r d R C k ⟨t.val - 1, by omega⟩ (by show (t.val - 1) % 4 = k; omega) (by omega)
      (by (try dsimp only); omega) (by (try dsimp only); omega)
    rw [sum_step, ← hk]
    exact congrArg₂ (· + ·) ih (blk_sum m c t r d R C hR hC)

theorem fin (c : Dev nD) (R : Fin 16384) (C : Fin 1024) : (G3 m c (ix2 R C) : EReal)
    = ∑ q : Fin 8192, a0 m c (ix2 R q) * a1 m c (ix2 C q)
      + Ideal.ofBits .f32 0x3F9837F0#32 * a2 m c (ix2 R C) := by
  have hb : 4 * (1 * (R.val / 1024) + C.val / 1024) + 3 < cfg0.N := by rw [hN]; omega
  have hp : pt3Of (ix2 R C) = 4 * (1 * (R.val / 1024) + C.val / 1024) + 3 := by
    show 4 * (1 * (R.val / 1024 - 0) + 1 * (C.val / 1024 - 0)) + 3 = _; omega
  have hl : loc3Of (ix2 R C) = ix2 (⟨R.val % 1024, by omega⟩ : Fin 1024) (⟨C.val % 1024, by omega⟩ : Fin 1024) := by
    funext a
    match a with
    | ⟨0, _⟩ => rfl
    | ⟨1, _⟩ => rfl
  unfold G3
  rw [dif_pos (by rw [hp]; exact hb), fold0_congr m c _ _ _ (by omega) hp, ← outsAt0_sweep m c _ hb, hl]
  obtain ⟨t, ht⟩ : ∃ t : Fin cfg0.N, t.val = 4 * (1 * (R.val / 1024) + C.val / 1024) + 3 := ⟨⟨_, hb⟩, rfl⟩
  have hR : R.val = 1024 * (t.val / 4) + R.val % 1024 := by omega
  have hC : C.val = 1024 * (0) + C.val % 1024 := by omega
  refine (congrArg (fun n : {n // n < cfg0.N} => (outsAt0 m c n.1 n.2).1 _) (Subtype.ext ht.symm : (⟨_, hb⟩ : {n // n < cfg0.N}) = ⟨t.val, t.isLt⟩)).trans ?_
  show ((outsAt0 m c t.val t.isLt).1 _ : EReal) = _
  rw [outC m c t (by omega)]
  refine (pay4_ix _ _ _ _ _ _).trans ?_
  refine congrArg₂ (· + ·) ?_ (congrArg (fun z : EReal => Ideal.ofBits .f32 0x3F9837F0#32 * z) (ib2 m c t _ _ R C hR hC))
  refine (congrArg₂ (· + ·) (sc_sum m c _ _ R C 2 ⟨t.val - 1, by omega⟩ (by show (t.val - 1) % 4 = 2; omega) (by omega)
    (by (try dsimp only); omega) (by (try dsimp only); omega)) (blk_sum m c t _ _ R C hR hC)).trans ?_
  rw [show t.val % 4 = 2 + 1 by omega, ← sum_step]
  exact sum_term _ (by omega)

theorem ref_ix (x0 x1 x2) (R : Fin 16384) (C : Fin 1024) : (Cert.Reference2Ideal.Read.val_main_v9 (F := Ideal) x0 x1 x2 (ix2 R C) : EReal)
    = ∑ q : Fin 8192, (x0 (ix2 R q) : EReal) * x2 (ix2 C q)
      + Ideal.ofBits .f32 0x3F9837F0#32 * x1 (ix2 R C) := by
  pointwise [Cert.Reference2Ideal.Read.val_main_v9, Cert.Reference2Ideal.Read.val_main_v8, Cert.Reference2Ideal.Read.val_main_v7, Cert.Reference2Ideal.Read.val_main_v6, Cert.Reference2Ideal.Read.val_main_cst_1, Cert.Reference2Ideal.Read.val_main_v5, Cert.Reference2Ideal.Read.val_main_v1]
  exact add_comm _ _

theorem frame_reference : Cert.quiescent_Reference2Ideal := fun m g _ =>
  (θ_run Cert.Reference2Ideal.defs _ _).mono
    (fun r h => ⟨fun c => (h c).2, sem_eq_zero_of_no_sems (by rfl) _⟩) (Cert.Reference2Ideal.Value.run (F := Ideal) m g)

theorem alg : Cert.algebraic_Kernel2Ideal_Reference2Ideal := by
  intro m g m' g' _ hagree
  refine ⟨fun c => G3 m c, ?_, ?_⟩
  · exact (θ_run Cert.Kernel2Ideal.defs _ _).mono (fun r h c => h c) (run m g)
  · refine (θ_run Cert.Reference2Ideal.defs _ _).mono (fun r h c => ?_) (Cert.Reference2Ideal.Value.run (F := Ideal) m' g')
    obtain ⟨e0, e1, e2⟩ := hagree c
    obtain ⟨hv, hk⟩ := h c
    rw [Cert.Reference2Ideal.Read.val_main_v9_eq, e0, e1, e2] at hv
    clear h
    refine ⟨?_, hk⟩
    funext i
    rw [eq_ix2 i]
    refine (congrFun hv _).trans ?_
    exact (ref_ix _ _ _ (i 0) (i 1)).trans (fin m c (i 0) (i 1)).symm

end Cert.Prod.K2

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_gate_columns
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel23
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel25
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.On_weights_alone
public import proofs.«01_k».proof.Proof.Gen.Kernel24
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.On_loss_and_weights
public import proofs.«01_k».proof.Proof.Gen.Kernel26
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Pre_finite_table
public import proofs.«01_k».proof.Proof.Mix.Alg
public import proofs.«01_k».proof.Proof.Prod.K27
public import proofs.«01_k».proof.Proof.Prod.K26
public import proofs.«01_k».proof.Proof.Prod.K25
public import proofs.«01_k».proof.Proof.Prod.K24
public import proofs.«01_k».proof.Proof.Prod.K23
public import proofs.«01_k».proof.Proof.Prod.K21
public import proofs.«01_k».proof.Proof.Prod.K20
public import proofs.«01_k».proof.Proof.Prod.K19
public import proofs.«01_k».proof.Proof.Prod.K18
public import proofs.«01_k».proof.Proof.Prod.K17
public import proofs.«01_k».proof.Proof.Prod.K16
public import proofs.«01_k».proof.Proof.Prod.K15
public import proofs.«01_k».proof.Proof.Prod.K14
public import proofs.«01_k».proof.Proof.Prod.K13
public import proofs.«01_k».proof.Proof.Prod.K12
public import proofs.«01_k».proof.Proof.Prod.K11
public import proofs.«01_k».proof.Proof.Prod.K10
public import proofs.«01_k».proof.Proof.Prod.K9
public import proofs.«01_k».proof.Proof.Prod.K8
public import proofs.«01_k».proof.Proof.Prod.K7
public import proofs.«01_k».proof.Proof.Prod.K6
public import proofs.«01_k».proof.Proof.Prod.K5
public import proofs.«01_k».proof.Proof.Prod.K4
public import proofs.«01_k».proof.Proof.Prod.K3
public import proofs.«01_k».proof.Proof.Prod.K2
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts,
  Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts,
  Cert.Kernel9.Gen.facts, Cert.Kernel9Ideal.Gen.facts, Cert.Reference9Ideal.Gen.facts, Cert.Kernel10.Gen.facts,
  Cert.Kernel10Ideal.Gen.facts, Cert.Reference10Ideal.Gen.facts, Cert.Kernel11.Gen.facts, Cert.Kernel11Ideal.Gen.facts,
  Cert.Reference11Ideal.Gen.facts, Cert.Kernel12.Gen.facts, Cert.Kernel12Ideal.Gen.facts,
  Cert.Reference12Ideal.Gen.facts, Cert.Kernel13.Gen.facts, Cert.Kernel13Ideal.Gen.facts,
  Cert.Reference13Ideal.Gen.facts, Cert.Kernel14.Gen.facts, Cert.Kernel14Ideal.Gen.facts,
  Cert.Reference14Ideal.Gen.facts, Cert.Kernel15.Gen.facts, Cert.Kernel15Ideal.Gen.facts,
  Cert.Reference15Ideal.Gen.facts, Cert.Kernel16.Gen.facts, Cert.Kernel16Ideal.Gen.facts,
  Cert.Reference16Ideal.Gen.facts, Cert.Kernel17.Gen.facts, Cert.Kernel17Ideal.Gen.facts,
  Cert.Reference17Ideal.Gen.facts, Cert.Kernel18.Gen.facts, Cert.Kernel18Ideal.Gen.facts,
  Cert.Reference18Ideal.Gen.facts, Cert.Kernel19.Gen.facts, Cert.Kernel19Ideal.Gen.facts,
  Cert.Reference19Ideal.Gen.facts, Cert.Kernel20.Gen.facts, Cert.Kernel20Ideal.Gen.facts,
  Cert.Reference20Ideal.Gen.facts, Cert.Kernel21.Gen.facts, Cert.Kernel21Ideal.Gen.facts,
  Cert.Reference21Ideal.Gen.facts, Cert.Kernel23.Gen.facts, Cert.Kernel23Ideal.Gen.facts,
  Cert.Reference23Ideal.Gen.facts, Cert.Kernel24.Gen.facts, Cert.Kernel24Ideal.Gen.facts,
  Cert.Reference24Ideal.Gen.facts, Cert.Kernel25.Gen.facts, Cert.Kernel25Ideal.Gen.facts,
  Cert.Reference25Ideal.Gen.facts, Cert.Kernel26.Gen.facts, Cert.Kernel26Ideal.Gen.facts,
  Cert.Reference26Ideal.Gen.facts, Cert.Kernel27.Gen.facts, Cert.Kernel27Ideal.Gen.facts,
  Cert.Reference27Ideal.Gen.facts, Cert.Pre_finite_table.Gen.facts, Cert.On_gate_columns.Gen.facts,
  Cert.On_loss_and_weights.Gen.facts, Cert.On_weights_alone.Gen.facts, fun m ρ _ => Cert.Kernel.Gen.frame m ρ,
  fun m ρ _ => Cert.KernelIdeal.Gen.frame m ρ, Cert.Mix.frame_reference, fun m ρ _ => Cert.Kernel2.Gen.frame m ρ,
  fun m ρ _ => Cert.Kernel2Ideal.Gen.frame m ρ, Cert.Prod.K2.frame_reference, fun m ρ _ => Cert.Kernel3.Gen.frame m ρ,
  fun m ρ _ => Cert.Kernel3Ideal.Gen.frame m ρ, Cert.Prod.K3.frame_reference, fun m ρ _ => Cert.Kernel4.Gen.frame m ρ,
  fun m ρ _ => Cert.Kernel4Ideal.Gen.frame m ρ, Cert.Prod.K4.frame_reference, fun m ρ _ => Cert.Kernel5.Gen.frame m ρ,
  fun m ρ _ => Cert.Kernel5Ideal.Gen.frame m ρ, Cert.Prod.K5.frame_reference, fun m ρ _ => Cert.Kernel6.Gen.frame m ρ,
  fun m ρ _ => Cert.Kernel6Ideal.Gen.frame m ρ, Cert.Prod.K6.frame_reference, fun m ρ _ => Cert.Kernel7.Gen.frame m ρ,
  fun m ρ _ => Cert.Kernel7Ideal.Gen.frame m ρ, Cert.Prod.K7.frame_reference, fun m ρ _ => Cert.Kernel8.Gen.frame m ρ,
  fun m ρ _ => Cert.Kernel8Ideal.Gen.frame m ρ, Cert.Prod.K8.frame_reference, fun m ρ _ => Cert.Kernel9.Gen.frame m ρ,
  fun m ρ _ => Cert.Kernel9Ideal.Gen.frame m ρ, Cert.Prod.K9.frame_reference, fun m ρ _ => Cert.Kernel10.Gen.frame m ρ,
  fun m ρ _ => Cert.Kernel10Ideal.Gen.frame m ρ, Cert.Prod.K10.frame_reference, fun m ρ _ => Cert.Kernel11.Gen.frame m ρ,
  fun m ρ _ => Cert.Kernel11Ideal.Gen.frame m ρ, Cert.Prod.K11.frame_reference, fun m ρ _ => Cert.Kernel12.Gen.frame m ρ,
  fun m ρ _ => Cert.Kernel12Ideal.Gen.frame m ρ, Cert.Prod.K12.frame_reference, fun m ρ _ => Cert.Kernel13.Gen.frame m ρ,
  fun m ρ _ => Cert.Kernel13Ideal.Gen.frame m ρ, Cert.Prod.K13.frame_reference, fun m ρ _ => Cert.Kernel14.Gen.frame m ρ,
  fun m ρ _ => Cert.Kernel14Ideal.Gen.frame m ρ, Cert.Prod.K14.frame_reference, fun m ρ _ => Cert.Kernel15.Gen.frame m ρ,
  fun m ρ _ => Cert.Kernel15Ideal.Gen.frame m ρ, Cert.Prod.K15.frame_reference, fun m ρ _ => Cert.Kernel16.Gen.frame m ρ,
  fun m ρ _ => Cert.Kernel16Ideal.Gen.frame m ρ, Cert.Prod.K16.frame_reference, fun m ρ _ => Cert.Kernel17.Gen.frame m ρ,
  fun m ρ _ => Cert.Kernel17Ideal.Gen.frame m ρ, Cert.Prod.K17.frame_reference, fun m ρ _ => Cert.Kernel18.Gen.frame m ρ,
  fun m ρ _ => Cert.Kernel18Ideal.Gen.frame m ρ, Cert.Prod.K18.frame_reference, fun m ρ _ => Cert.Kernel19.Gen.frame m ρ,
  fun m ρ _ => Cert.Kernel19Ideal.Gen.frame m ρ, Cert.Prod.K19.frame_reference, fun m ρ _ => Cert.Kernel20.Gen.frame m ρ,
  fun m ρ _ => Cert.Kernel20Ideal.Gen.frame m ρ, Cert.Prod.K20.frame_reference, fun m ρ _ => Cert.Kernel21.Gen.frame m ρ,
  fun m ρ _ => Cert.Kernel21Ideal.Gen.frame m ρ, Cert.Prod.K21.frame_reference, fun m ρ _ => Cert.Kernel23.Gen.frame m ρ,
  fun m ρ _ => Cert.Kernel23Ideal.Gen.frame m ρ, Cert.Prod.K23.frame_reference, fun m ρ _ => Cert.Kernel24.Gen.frame m ρ,
  fun m ρ _ => Cert.Kernel24Ideal.Gen.frame m ρ, Cert.Prod.K24.frame_reference, fun m ρ _ => Cert.Kernel25.Gen.frame m ρ,
  fun m ρ _ => Cert.Kernel25Ideal.Gen.frame m ρ, Cert.Prod.K25.frame_reference, fun m ρ _ => Cert.Kernel26.Gen.frame m ρ,
  fun m ρ _ => Cert.Kernel26Ideal.Gen.frame m ρ, Cert.Prod.K26.frame_reference, fun m ρ _ => Cert.Kernel27.Gen.frame m ρ,
  fun m ρ _ => Cert.Kernel27Ideal.Gen.frame m ρ, fun m ρ _ => Cert.Kernel27Ideal.Gen.frame m ρ,
  Cert.Prod.K27.frame_reference, Cert.Prod.K27.frame_reference_finite, trivial, Cert.Mix.alg, trivial, Cert.Prod.K2.alg,
  trivial, Cert.Prod.K3.alg, trivial, Cert.Prod.K4.alg, trivial, Cert.Prod.K5.alg, trivial, Cert.Prod.K6.alg, trivial,
  Cert.Prod.K7.alg, trivial, Cert.Prod.K8.alg, trivial, Cert.Prod.K9.alg, trivial, Cert.Prod.K10.alg, trivial,
  Cert.Prod.K11.alg, trivial, Cert.Prod.K12.alg, trivial, Cert.Prod.K13.alg, trivial, Cert.Prod.K14.alg, trivial,
  Cert.Prod.K15.alg, trivial, Cert.Prod.K16.alg, trivial, Cert.Prod.K17.alg, trivial, Cert.Prod.K18.alg, trivial,
  Cert.Prod.K19.alg, trivial, Cert.Prod.K20.alg, trivial, Cert.Prod.K21.alg, trivial, Cert.Prod.K23.alg, trivial,
  Cert.Prod.K24.alg, trivial, Cert.Prod.K25.alg, trivial, Cert.Prod.K26.alg, trivial, Cert.Prod.K27.alg⟩

end Cert.Proof

end
